-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.Statement Cert.KernelIdeal.S256x128 Cert.KernelIdeal.S128x128
  ∧ IdealRules.bf16_pack.Statement Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v11_1)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v11_1) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v9_0) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x768x3072 : Shape := ⟨3, ![12, 768, 3072]⟩
abbrev S8192x3072 : Shape := ⟨2, ![8192, 3072]⟩
abbrev S9216x3072 : Shape := ⟨2, ![9216, 3072]⟩
abbrev S3072 : Shape := ⟨1, ![3072]⟩
abbrev S3072x1 : Shape := ⟨2, ![3072, 1]⟩
abbrev S192 : Shape := ⟨1, ![192]⟩
abbrev S1x192 : Shape := ⟨2, ![1, 192]⟩
abbrev S_ : Shape := ⟨0, ![]⟩
abbrev S3072x192 : Shape := ⟨2, ![3072, 192]⟩
abbrev S512x3072 : Shape := ⟨2, ![512, 3072]⟩
abbrev S512x192 : Shape := ⟨2, ![512, 192]⟩
abbrev S1x1 : Shape := ⟨2, ![1, 1]⟩
abbrev S32x3072 : Shape := ⟨2, ![32, 3072]⟩
abbrev S1x3072 : Shape := ⟨2, ![1, 3072]⟩
abbrev S32x16x3072 : Shape := ⟨3, ![32, 16, 3072]⟩
abbrev S32x192 : Shape := ⟨2, ![32, 192]⟩
abbrev S1 : Shape := ⟨1, ![1]⟩
abbrev S9216x8192 : Shape := ⟨2, ![9216, 8192]⟩
abbrev S8192x1536 : Shape := ⟨2, ![8192, 1536]⟩
abbrev S3072x4096 : Shape := ⟨2, ![3072, 4096]⟩
abbrev S768x3072 : Shape := ⟨2, ![768, 3072]⟩
abbrev S1024x256 : Shape := ⟨2, ![1024, 256]⟩
abbrev S64x256 : Shape := ⟨2, ![64, 256]⟩
abbrev S768x1024 : Shape := ⟨2, ![768, 1024]⟩
abbrev S1024x128 : Shape := ⟨2, ![1024, 128]⟩
abbrev S256x512 : Shape := ⟨2, ![256, 512]⟩
abbrev S2x1024x3072 : Shape := ⟨3, ![2, 1024, 3072]⟩
abbrev S64x128 : Shape := ⟨2, ![64, 128]⟩
abbrev S256x128 : Shape := ⟨2, ![256, 128]⟩
abbrev S128x128 : Shape := ⟨2, ![128, 128]⟩
abbrev S16x128 : Shape := ⟨2, ![16, 128]⟩
abbrev S16x1x128 : Shape := ⟨3, ![16, 1, 128]⟩
abbrev S16x8x128 : Shape := ⟨3, ![16, 8, 128]⟩
abbrev S1x256x128 : Shape := ⟨3, ![1, 256, 128]⟩
abbrev S64x128x1 : Shape := ⟨3, ![64, 128, 1]⟩
abbrev S1x256x3072 : Shape := ⟨3, ![1, 256, 3072]⟩
abbrev S256x3072 : Shape := ⟨2, ![256, 3072]⟩
abbrev S768x256 : Shape := ⟨2, ![768, 256]⟩
abbrev S12x768x8192 : Shape := ⟨3, ![12, 768, 8192]⟩

abbrev nBuf : Space → Nat
  | .hbm => 22
  | .vmem => 22
  | .smem => 1
  | _ => 0

abbrev bufTy : (tb : Table) → Fin (tcTables nBuf tb) → BufTy
  | .hbm, ⟨0, _⟩ => ⟨S12x768x3072, .bf16⟩
  | .hbm, ⟨1, _⟩ => ⟨S8192x3072, .bf16⟩
  | .hbm, ⟨2, _⟩ => ⟨S9216x3072, .bf16⟩
  | .hbm, ⟨3, _⟩ => ⟨S3072, .i32⟩
  | .hbm, ⟨4, _⟩ => ⟨S3072x1, .i32⟩
  | .hbm, ⟨5, _⟩ => ⟨S192, .i32⟩
  | .hbm, ⟨6, _⟩ => ⟨S1x192, .i32⟩
  | .hbm, ⟨7, _⟩ => ⟨S_, .i32⟩
  | .hbm, ⟨8, _⟩ => ⟨S1x192, .i32⟩
  | .hbm, ⟨9, _⟩ => ⟨S1x192, .i32⟩
  | .hbm, ⟨10, _⟩ => ⟨S3072x192, .i32⟩
  | .hbm, ⟨11, _⟩ => ⟨S3072x192, .i32⟩
  | .hbm, ⟨12, _⟩ => ⟨S3072x192, .i1⟩
  | .hbm, ⟨13, _⟩ => ⟨S3072x192, .bf16⟩
  | .hbm, ⟨14, _⟩ => ⟨S512x3072, .f32⟩
  | .hbm, ⟨15, _⟩ => ⟨S512x192, .fp8e4m3⟩
  | .hbm, ⟨16, _⟩ => ⟨S1x1, .f32⟩
  | .hbm, ⟨17, _⟩ => ⟨S9216x8192, .bf16⟩
  | .hbm, ⟨18, _⟩ => ⟨S8192x1536, .i8⟩
  | .hbm, ⟨19, _⟩ => ⟨S3072x4096, .i8⟩
  | .hbm, ⟨20, _⟩ => ⟨S12x768x8192, .bf16⟩
  | .hbm, ⟨21, _⟩ => ⟨S1, .f32⟩
  | .local _ .vmem, ⟨0, _⟩ => ⟨S512x3072, .bf16⟩
  | .local _ .vmem, ⟨1, _⟩ => ⟨S512x3072, .bf16⟩
  | .local _ .vmem, ⟨2, _⟩ => ⟨S3072x192, .bf16⟩
  | .local _ .vmem, ⟨3, _⟩ => ⟨S32x3072, .f32⟩
  | .local _ .vmem, ⟨4, _⟩ => ⟨S32x3072, .f32⟩
  | .local _ .vmem, ⟨5, _⟩ => ⟨S512x192, .fp8e4m3⟩
  | .local _ .vmem, ⟨6, _⟩ => ⟨S1x1, .f32⟩
  | .local _ .vmem, ⟨7, _⟩ => ⟨S512x192, .f32⟩
  | .local _ .vmem, ⟨8, _⟩ => ⟨S1x3072, .f32⟩
  | .local _ .vmem, ⟨9, _⟩ => ⟨S768x3072, .bf16⟩
  | .local _ .vmem, ⟨10, _⟩ => ⟨S768x3072, .bf16⟩
  | .local _ .vmem, ⟨11, _⟩ => ⟨S1024x256, .bf16⟩
  | .local _ .vmem, ⟨12, _⟩ => ⟨S1024x256, .bf16⟩
  | .local _ .vmem, ⟨13, _⟩ => ⟨S64x256, .f32⟩
  | .local _ .vmem, ⟨14, _⟩ => ⟨S64x256, .f32⟩
  | .local _ .vmem, ⟨15, _⟩ => ⟨S768x1024, .bf16⟩
  | .local _ .vmem, ⟨16, _⟩ => ⟨S768x1024, .bf16⟩
  | .local _ .vmem, ⟨17, _⟩ => ⟨S1024x128, .i8⟩
  | .local _ .vmem, ⟨18, _⟩ => ⟨S1024x128, .i8⟩
  | .local _ .vmem, ⟨19, _⟩ => ⟨S256x512, .i8⟩
  | .local _ .vmem, ⟨20, _⟩ => ⟨S256x512, .i8⟩
  | .local _ .vmem, ⟨21, _⟩ => ⟨S2x1024x3072, .bf16⟩
  | .local _ .smem, ⟨0, _⟩ => ⟨S1x1, .f32⟩
  | _, _ => ⟨S12x768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [BitOps F]

abbrev grid0 : Pipeline.Grid := ⟨1, ![16], ![false]⟩

def k0_mult1 (i : grid0.Coords) : BitVec 32 :=
  let arg0 : BitVec 32 := BitVec.ofNat 32 (i 0).val
  let c32_i32 : BitVec 32 := 32#32
  let v47 : BitVec 32 := Scalar.muli arg0 c32_i32
  v47
def k0_off1 (i : grid0.Coords) : Fin 2 → Nat :=
  let arg0 : BitVec 32 := BitVec.ofNat 32 (i 0).val
  let c32_i32 : BitVec 32 := 32#32
  let v47 : BitVec 32 := Scalar.muli arg0 c32_i32
  let v48 : BitVec 32 := v47
  let v49 : Index := Scalar.indexCast v48
  let c0_12 : Index := 0#32
  ![v49.toNat, 0]
def k0_cond2 (i : grid0.Coords) : BitVec 1 :=
  let arg0 : BitVec 32 := BitVec.ofNat 32 (i 0).val
  let c15_i32 : BitVec 32 := 15#32
  let v63 : BitVec 1 := Scalar.cmpi .eq arg0 c15_i32
  let v64 : BitVec 32 := Scalar.extui v63
  let c0_i32_20 : BitVec 32 := 0#32
  let v65 : BitVec 1 := Scalar.cmpi .ne v64 c0_i32_20
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![9, 12], ![false, false]⟩

def k1_cond1 (i : grid1.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k1_mult1 (i : grid1.Coords) : BitVec 32 :=
  let arg1 : BitVec 32 := BitVec.ofNat 32 (i 1).val
  let c256_i32 : BitVec 32 := 256#32
  let v140 : BitVec 32 := Scalar.muli arg1 c256_i32
  let c0_i32_50 : BitVec 32 := 0#32
  let v141 : BitVec 32 := Scalar.addi v140 c0_i32_50
  v141
def k1_off1 (i : grid1.Coords) (c0_i32_50 : BitVec 32) : Fin 3 → Nat :=
  let arg0 : BitVec 32 := BitVec.ofNat 32 (i 0).val
  let c2_i32 : BitVec 32 := 2#32
  let v1 : BitVec 32 := Scalar.remsi arg0 c2_i32
  let v143 : Index := Scalar.indexCast v1
  let c0_51 : Index := 0#32
  let arg1 : BitVec 32 := BitVec.ofNat 32 (i 1).val
  let c256_i32 : BitVec 32 := 256#32
  let v140 : BitVec 32 := Scalar.muli arg1 c256_i32
  let v141 : BitVec 32 := Scalar.addi v140 c0_i32_50
  let v142 : BitVec 32 := v141
  let v144 : Index := Scalar.indexCast v142
  ![v143.toNat, 0, v144.toNat]
def k1_mult2 (i : grid1.Coords) : BitVec 32 :=
  let arg1 : BitVec 32 := BitVec.ofNat 32 (i 1).val
  let c256_i32_103 : BitVec 32 := 256#32
  let v293 : BitVec 32 := Scalar.muli arg1 c256_i32_103
  let c128_i32_104 : BitVec 32 := 128#32
  let v294 : BitVec 32 := Scalar.addi v293 c128_i32_104
  v294
def k1_mult3 (i : grid1.Coords) : BitVec 32 :=
  let arg1 : BitVec 32 := BitVec.ofNat 32 (i 1).val
  let c256_i32_160 : BitVec 32 := 256#32
  let v451 : BitVec 32 := Scalar.muli arg1 c256_i32_160
  let c0_i32_161 : BitVec 32 := 0#32
  let v452 : BitVec 32 := Scalar.addi v451 c0_i32_161
  v452
def k1_off2 (i : grid1.Coords) (c0_i32_161 : BitVec 32) : Fin 3 → Nat :=
  let arg0 : BitVec 32 := BitVec.ofNat 32 (i 0).val
  let c2_i32 : BitVec 32 := 2#32
  let v1 : BitVec 32 := Scalar.remsi arg0 c2_i32
  let v454 : Index := Scalar.indexCast v1
  let c256_162 : Index := 256#32
  let arg1 : BitVec 32 := BitVec.ofNat 32 (i 1).val
  let c256_i32_160 : BitVec 32 := 256#32
  let v451 : BitVec 32 := Scalar.muli arg1 c256_i32_160
  let v452 : BitVec 32 := Scalar.addi v451 c0_i32_161
  let v453 : BitVec 32 := v452
  let v455 : Index := Scalar.indexCast v453
  ![v454.toNat, 256, v455.toNat]
def k1_mult4 (i : grid1.Coords) : BitVec 32 :=
  let arg1 : BitVec 32 := BitVec.ofNat 32 (i 1).val
  let c256_i32_217 : BitVec 32 := 256#32
  let v604 : BitVec 32 := Scalar.muli arg1 c256_i32_217
  let c128_i32_218 : BitVec 32 := 128#32
  let v605 : BitVec 32 := Scalar.addi v604 c128_i32_218
  v605
def k1_mult5 (i : grid1.Coords) : BitVec 32 :=
  let arg1 : BitVec 32 := BitVec.ofNat 32 (i 1).val
  let c256_i32_275 : BitVec 32 := 256#32
  let v762 : BitVec 32 := Scalar.muli arg1 c256_i32_275
  let c0_i32_276 : BitVec 32 := 0#32
  let v763 : BitVec 32 := Scalar.addi v762 c0_i32_276
  v763
def k1_off3 (i : grid1.Coords) (c0_i32_276 : BitVec 32) : Fin 3 → Nat :=
  let arg0 : BitVec 32 := BitVec.ofNat 32 (i 0).val
  let c2_i32 : BitVec 32 := 2#32
  let v1 : BitVec 32 := Scalar.remsi arg0 c2_i32
  let v765 : Index := Scalar.indexCast v1
  let c512_277 : Index := 512#32
  let arg1 : BitVec 32 := BitVec.ofNat 32 (i 1).val
  let c256_i32_275 : BitVec 32 := 256#32
  let v762 : BitVec 32 := Scalar.muli arg1 c256_i32_275
  let v763 : BitVec 32 := Scalar.addi v762 c0_i32_276
  let v764 : BitVec 32 := v763
  let v766 : Index := Scalar.indexCast v764
  ![v765.toNat, 512, v766.toNat]
def k1_mult6 (i : grid1.Coords) : BitVec 32 :=
  let arg1 : BitVec 32 := BitVec.ofNat 32 (i 1).val
  let c256_i32_332 : BitVec 32 := 256#32
  let v915 : BitVec 32 := Scalar.muli arg1 c256_i32_332
  let c128_i32_333 : BitVec 32 := 128#32
  let v916 : BitVec 32 := Scalar.addi v915 c128_i32_333
  v916
def k1_mult7 (i : grid1.Coords) : BitVec 32 :=
  let arg1 : BitVec 32 := BitVec.ofNat 32 (i 1).val
  let c256_i32_390 : BitVec 32 := 256#32
  let v1073 : BitVec 32 := Scalar.muli arg1 c256_i32_390
  let c0_i32_391 : BitVec 32 := 0#32
  let v1074 : BitVec 32 := Scalar.addi v1073 c0_i32_391
  v1074
def k1_off4 (i : grid1.Coords) (c0_i32_391 : BitVec 32) : Fin 3 → Nat :=
  let arg0 : BitVec 32 := BitVec.ofNat 32 (i 0).val
  let c2_i32 : BitVec 32 := 2#32
  let v1 : BitVec 32 := Scalar.remsi arg0 c2_i32
  let v1076 : Index := Scalar.indexCast v1
  let c768_392 : Index := 768#32
  let arg1 : BitVec 32 := BitVec.ofNat 32 (i 1).val
  let c256_i32_390 : BitVec 32 := 256#32
  let v1073 : BitVec 32 := Scalar.muli arg1 c256_i32_390
  let v1074 : BitVec 32 := Scalar.addi v1073 c0_i32_391
  let v1075 : BitVec 32 := v1074
  let v1077 : Index := Scalar.indexCast v1075
  ![v1076.toNat, 768, v1077.toNat]
def k1_mult8 (i : grid1.Coords) : BitVec 32 :=
  let arg1 : BitVec 32 := BitVec.ofNat 32 (i 1).val
  let c256_i32_446 : BitVec 32 := 256#32
  let v1226 : BitVec 32 := Scalar.muli arg1 c256_i32_446
  let c128_i32_447 : BitVec 32 := 128#32
  let v1227 : BitVec 32 := Scalar.addi v1226 c128_i32_447
  v1227
def k1_cond2 (i : grid1.Coords) : BitVec 1 :=
  let arg0 : BitVec 32 := BitVec.ofNat 32 (i 0).val
  let c0_i32_2 : BitVec 32 := 0#32
  let v6 : BitVec 1 := Scalar.cmpi .sgt arg0 c0_i32_2
  let c8_i32 : BitVec 32 := 8#32
  let v7 : BitVec 1 := Scalar.cmpi .slt arg0 c8_i32
  let v8 : BitVec 1 := Scalar.andi v6 v7
  let v9 : BitVec 32 := Scalar.extui v8
  let c0_i32_3 : BitVec 32 := 0#32
  let v10 : BitVec 1 := Scalar.cmpi .ne v9 c0_i32_3
  v10

def k1_mult9 (i : grid1.Coords) : BitVec 32 :=
  let arg1 : BitVec 32 := BitVec.ofNat 32 (i 1).val
  let c256_i32 : BitVec 32 := 256#32
  let v140 : BitVec 32 := Scalar.muli arg1 c256_i32
  let c0_i32_50 : BitVec 32 := 0#32
  let v141 : BitVec 32 := Scalar.addi v140 c0_i32_50
  v141
def k1_off5 (i : grid1.Coords) (c0_i32_50 : BitVec 32) : Fin 3 → Nat :=
  let arg0 : BitVec 32 := BitVec.ofNat 32 (i 0).val
  let c2_i32 : BitVec 32 := 2#32
  let v1 : BitVec 32 := Scalar.remsi arg0 c2_i32
  let v143 : Index := Scalar.indexCast v1
  let c0_51 : Index := 0#32
  let arg1 : BitVec 32 := BitVec.ofNat 32 (i 1).val
  let c256_i32 : BitVec 32 := 256#32
  let v140 : BitVec 32 := Scalar.muli arg1 c256_i32
  let v141 : BitVec 32 := Scalar.addi v140 c0_i32_50
  let v142 : BitVec 32 := v141
  let v144 : Index := Scalar.indexCast v142
  ![v143.toNat, 0, v144.toNat]
def k1_mult10 (i : grid1.Coords) : BitVec 32 :=
  let arg1 : BitVec 32 := BitVec.ofNat 32 (i 1).val
  let c256_i32_103 : BitVec 32 := 256#32
  let v293 : BitVec 32 := Scalar.muli arg1 c256_i32_103
  let c128_i32_104 : BitVec 32 := 128#32
  let v294 : BitVec 32 := Scalar.addi v293 c128_i32_104
  v294
def k1_mult11 (i : grid1.Coords) : BitVec 32 :=
  let arg1 : BitVec 32 := BitVec.ofNat 32 (i 1).val
  let c256_i32_160 : BitVec 32 := 256#32
  let v451 : BitVec 32 := Scalar.muli arg1 c256_i32_160
  let c0_i32_161 : BitVec 32 := 0#32
  let v452 : BitVec 32 := Scalar.addi v451 c0_i32_161
  v452
def k1_off6 (i : grid1.Coords) (c0_i32_161 : BitVec 32) : Fin 3 → Nat :=
  let arg0 : BitVec 32 := BitVec.ofNat 32 (i 0).val
  let c2_i32 : BitVec 32 := 2#32
  let v1 : BitVec 32 := Scalar.remsi arg0 c2_i32
  let v454 : Index := Scalar.indexCast v1
  let c256_162 : Index := 256#32
  let arg1 : BitVec 32 := BitVec.ofNat 32 (i 1).val
  let c256_i32_160 : BitVec 32 := 256#32
  let v451 : BitVec 32 := Scalar.muli arg1 c256_i32_160
  let v452 : BitVec 32 := Scalar.addi v451 c0_i32_161
  let v453 : BitVec 32 := v452
  let v455 : Index := Scalar.indexCast v453
  ![v454.toNat, 256, v455.toNat]
def k1_mult12 (i : grid1.Coords) : BitVec 32 :=
  let arg1 : BitVec 32 := BitVec.ofNat 32 (i 1).val
  let c256_i32_217 : BitVec 32 := 256#32
  let v604 : BitVec 32 := Scalar.muli arg1 c256_i32_217
  let c128_i32_218 : BitVec 32 := 128#32
  let v605 : BitVec 32 := Scalar.addi v604 c128_i32_218
  v605
def k1_mult13 (i : grid1.Coords) : BitVec 32 :=
  let arg1 : BitVec 32 := BitVec.ofNat 32 (i 1).val
  let c256_i32_275 : BitVec 32 := 256#32
  let v762 : BitVec 32 := Scalar.muli arg1 c256_i32_275
  let c0_i32_276 : BitVec 32 := 0#32
  let v763 : BitVec 32 := Scalar.addi v762 c0_i32_276
  v763
def k1_off7 (i : grid1.Coords) (c0_i32_276 : BitVec 32) : Fin 3 → Nat :=
  let arg0 : BitVec 32 := BitVec.ofNat 32 (i 0).val
  let c2_i32 : BitVec 32 := 2#32
  let v1 : BitVec 32 := Scalar.remsi arg0 c2_i32
  let v765 : Index := Scalar.indexCast v1
  let c512_277 : Index := 512#32
  let arg1 : BitVec 32 := BitVec.ofNat 32 (i 1).val
  let c256_i32_275 : BitVec 32 := 256#32
  let v762 : BitVec 32 := Scalar.muli arg1 c256_i32_275
  let v763 : BitVec 32 := Scalar.addi v762 c0_i32_276
  let v764 : BitVec 32 := v763
  let v766 : Index := Scalar.indexCast v764
  ![v765.toNat, 512, v766.toNat]
def k1_mult14 (i : grid1.Coords) : BitVec 32 :=
  let arg1 : BitVec 32 := BitVec.ofNat 32 (i 1).val
  let c256_i32_332 : BitVec 32 := 256#32
  let v915 : BitVec 32 := Scalar.muli arg1 c256_i32_332
  let c128_i32_333 : BitVec 32 := 128#32
  let v916 : BitVec 32 := Scalar.addi v915 c128_i32_333
  v916
def k1_mult15 (i : grid1.Coords) : BitVec 32 :=
  let arg1 : BitVec 32 := BitVec.ofNat 32 (i 1).val
  let c256_i32_390 : BitVec 32 := 256#32
  let v1073 : BitVec 32 := Scalar.muli arg1 c256_i32_390
  let c0_i32_391 : BitVec 32 := 0#32
  let v1074 : BitVec 32 := Scalar.addi v1073 c0_i32_391
  v1074
def k1_off8 (i : grid1.Coords) (c0_i32_391 : BitVec 32) : Fin 3 → Nat :=
  let arg0 : BitVec 32 := BitVec.ofNat 32 (i 0).val
  let c2_i32 : BitVec 32 := 2#32
  let v1 : BitVec 32 := Scalar.remsi arg0 c2_i32
  let v1076 : Index := Scalar.indexCast v1
  let c768_392 : Index := 768#32
  let arg1 : BitVec 32 := BitVec.ofNat 32 (i 1).val
  let c256_i32_390 : BitVec 32 := 256#32
  let v1073 : BitVec 32 := Scalar.muli arg1 c256_i32_390
  let v1074 : BitVec 32 := Scalar.addi v1073 c0_i32_391
  let v1075 : BitVec 32 := v1074
  let v1077 : Index := Scalar.indexCast v1075
  ![v1076.toNat, 768, v1077.toNat]
def k1_mult16 (i : grid1.Coords) : BitVec 32 :=
  let arg1 : BitVec 32 := BitVec.ofNat 32 (i 1).val
  let c256_i32_446 : BitVec 32 := 256#32
  let v1226 : BitVec 32 := Scalar.muli arg1 c256_i32_446
  let c128_i32_447 : BitVec 32 := 128#32
  let v1227 : BitVec 32 := Scalar.addi v1226 c128_i32_447
  v1227
def k1_off9 (i : grid1.Coords) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v1265 : Index := Scalar.indexCast v2
  let c0_462 : Index := 0#32
  let c0_463 : Index := 0#32
  ![v1265.toNat, 0, 0]
def k1_off10 (i : grid1.Coords) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v1275 : Index := Scalar.indexCast v2
  let c256_469 : Index := 256#32
  let c0_470 : Index := 0#32
  ![v1275.toNat, 256, 0]
def k1_off11 (i : grid1.Coords) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v1285 : Index := Scalar.indexCast v2
  let c512_476 : Index := 512#32
  let c0_477 : Index := 0#32
  ![v1285.toNat, 512, 0]
def k1_off12 (i : grid1.Coords) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v1295 : Index := Scalar.indexCast v2
  let c768_483 : Index := 768#32
  let c0_484 : Index := 0#32
  ![v1295.toNat, 768, 0]
def k1_cond3 (i : grid1.Coords) : BitVec 1 :=
  let arg0 : BitVec 32 := BitVec.ofNat 32 (i 0).val
  let c8_i32_4 : BitVec 32 := 8#32
  let v11 : BitVec 1 := Scalar.cmpi .eq arg0 c8_i32_4
  let v12 : BitVec 32 := Scalar.extui v11
  let c0_i32_5 : BitVec 32 := 0#32
  let v13 : BitVec 1 := Scalar.cmpi .ne v12 c0_i32_5
  v13

def k1_off13 (i : grid1.Coords) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v16 : Index := Scalar.indexCast v2
  let c0_8 : Index := 0#32
  let c0_9 : Index := 0#32
  ![v16.toNat, 0, 0]
def k1_off14 (i : grid1.Coords) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v26 : Index := Scalar.indexCast v2
  let c256 : Index := 256#32
  let c0_14 : Index := 0#32
  ![v26.toNat, 256, 0]
def k1_off15 (i : grid1.Coords) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v36 : Index := Scalar.indexCast v2
  let c512 : Index := 512#32
  let c0_20 : Index := 0#32
  ![v36.toNat, 512, 0]
def k1_off16 (i : grid1.Coords) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v2 : BitVec 32 := Scalar.subi c1_i32 v1
  let v46 : Index := Scalar.indexCast v2
  let c768 : Index := 768#32
  let c0_26 : Index := 0#32
  ![v46.toNat, 768, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_2 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c7_i32_0 : BitVec 32 := 7#32
  let v1 : BitVec 1 := Scalar.cmpi .sgt arg0 c7_i32_0
  let c11_i32 : BitVec 32 := 11#32
  let v2 : BitVec 32 := Scalar.select v1 c11_i32 arg1
  let c0_i32 : BitVec 32 := 0#32
  ![v0.toNat, v2.toNat]

def cc1_transform_3 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c7_i32_0 : BitVec 32 := 7#32
  let v1 : BitVec 1 := Scalar.cmpi .sgt arg0 c7_i32_0
  let c11_i32 : BitVec 32 := 11#32
  let v2 : BitVec 32 := Scalar.select v1 c11_i32 arg1
  let c0_i32 : BitVec 32 := 0#32
  ![v0.toNat, v2.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc1_transform_5 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c7_i32_0 : BitVec 32 := 7#32
  let v1 : BitVec 1 := Scalar.cmpi .sgt arg0 c7_i32_0
  let c11_i32 : BitVec 32 := 11#32
  let v2 : BitVec 32 := Scalar.select v1 c11_i32 arg1
  let c0_i32 : BitVec 32 := 0#32
  ![v0.toNat, v2.toNat]

def cc1_transform_6 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c7_i32_0 : BitVec 32 := 7#32
  let v1 : BitVec 1 := Scalar.cmpi .sgt arg0 c7_i32_0
  let c11_i32 : BitVec 32 := 11#32
  let v2 : BitVec 32 := Scalar.select v1 c11_i32 arg1
  let c0_i32 : BitVec 32 := 0#32
  ![v2.toNat, v0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S768x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S768x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F]
-- ==== ReferenceIdeal.lean ====
abbrev S12x768x3072 : Shape := ⟨3, ![12, 768, 3072]⟩
abbrev S8192x3072 : Shape := ⟨2, ![8192, 3072]⟩
abbrev S_ : Shape := ⟨0, ![]⟩
abbrev S512x16x3072 : Shape := ⟨3, ![512, 16, 3072]⟩
abbrev S512x3072 : Shape := ⟨2, ![512, 3072]⟩
abbrev S512x192x16 : Shape := ⟨3, ![512, 192, 16]⟩
abbrev S512x192 : Shape := ⟨2, ![512, 192]⟩
abbrev S1x1 : Shape := ⟨2, ![1, 1]⟩
abbrev S512x1x3072 : Shape := ⟨3, ![512, 1, 3072]⟩
abbrev S8192x1536 : Shape := ⟨2, ![8192, 1536]⟩
abbrev S4096x2x3072 : Shape := ⟨3, ![4096, 2, 3072]⟩
abbrev S4096x1x3072 : Shape := ⟨3, ![4096, 1, 3072]⟩
abbrev S4096x3072 : Shape := ⟨2, ![4096, 3072]⟩
abbrev S3072x4096 : Shape := ⟨2, ![3072, 4096]⟩
abbrev S8192x1536x1 : Shape := ⟨3, ![8192, 1536, 1]⟩
abbrev S8192x1536x2 : Shape := ⟨3, ![8192, 1536, 2]⟩
abbrev S12x768x8192 : Shape := ⟨3, ![12, 768, 8192]⟩
abbrev S1 : Shape := ⟨1, ![1]⟩

abbrev nBuf : Space → Nat
  | .hbm => 190
  | .vmem => 5
  | .smem => 0
  | _ => 0

abbrev hbmTy0_0 (i : Nat) : BufTy := match i % 128 with
  | 0 => ⟨S12x768x3072, .bf16⟩
  | 1 => ⟨S8192x3072, .bf16⟩
  | 2 => ⟨S8192x3072, .f32⟩
  | 3 => ⟨S8192x3072, .f32⟩
  | 4 => ⟨S_, .f32⟩
  | 5 => ⟨S_, .f32⟩
  | 6 => ⟨S_, .f32⟩
  | 7 => ⟨S_, .f32⟩
  | 8 => ⟨S512x16x3072, .f32⟩
  | 9 => ⟨S_, .f32⟩
  | 10 => ⟨S512x3072, .f32⟩
  | 11 => ⟨S512x192x16, .f32⟩
  | 12 => ⟨S_, .f32⟩
  | 13 => ⟨S512x192, .f32⟩
  | 14 => ⟨S1x1, .f32⟩
  | 15 => ⟨S512x192, .fp8e4m3⟩
  | 16 => ⟨S512x192, .bf16⟩
  | 17 => ⟨S512x192, .f32⟩
  | 18 => ⟨S512x192, .f32⟩
  | 19 => ⟨S512x192, .f32⟩
  | 20 => ⟨S512x192x16, .f32⟩
  | 21 => ⟨S512x3072, .f32⟩
  | 22 => ⟨S512x1x3072, .f32⟩
  | 23 => ⟨S512x16x3072, .f32⟩
  | 24 => ⟨S_, .f32⟩
  | 25 => ⟨S512x1x3072, .f32⟩
  | 26 => ⟨S512x1x3072, .i1⟩
  | 27 => ⟨S_, .f32⟩
  | 28 => ⟨S_, .f32⟩
  | 29 => ⟨S512x1x3072, .f32⟩
  | 30 => ⟨S512x1x3072, .f32⟩
  | 31 => ⟨S512x16x3072, .f32⟩
  | 32 => ⟨S512x16x3072, .f32⟩
  | 33 => ⟨S_, .f32⟩
  | 34 => ⟨S_, .f32⟩
  | 35 => ⟨S512x16x3072, .i1⟩
  | 36 => ⟨S512x16x3072, .f32⟩
  | 37 => ⟨S512x16x3072, .f32⟩
  | 38 => ⟨S_, .f32⟩
  | 39 => ⟨S_, .f32⟩
  | 40 => ⟨S_, .f32⟩
  | 41 => ⟨S512x16x3072, .f32⟩
  | 42 => ⟨S512x16x3072, .f32⟩
  | 43 => ⟨S_, .f32⟩
  | 44 => ⟨S512x16x3072, .f32⟩
  | 45 => ⟨S512x16x3072, .f32⟩
  | 46 => ⟨S512x16x3072, .f32⟩
  | 47 => ⟨S_, .f32⟩
  | 48 => ⟨S512x16x3072, .f32⟩
  | 49 => ⟨S512x16x3072, .i1⟩
  | 50 => ⟨S_, .f32⟩
  | 51 => ⟨S512x16x3072, .f32⟩
  | 52 => ⟨S512x16x3072, .f32⟩
  | 53 => ⟨S512x16x3072, .f32⟩
  | 54 => ⟨S_, .f32⟩
  | 55 => ⟨S512x16x3072, .f32⟩
  | 56 => ⟨S512x16x3072, .f32⟩
  | 57 => ⟨S_, .f32⟩
  | 58 => ⟨S512x16x3072, .f32⟩
  | 59 => ⟨S512x16x3072, .i1⟩
  | 60 => ⟨S512x16x3072, .f32⟩
  | 61 => ⟨S_, .f32⟩
  | 62 => ⟨S512x16x3072, .f32⟩
  | 63 => ⟨S512x16x3072, .f32⟩
  | 64 => ⟨S512x16x3072, .f32⟩
  | 65 => ⟨S_, .f32⟩
  | 66 => ⟨S512x16x3072, .f32⟩
  | 67 => ⟨S512x16x3072, .f32⟩
  | 68 => ⟨S512x16x3072, .f32⟩
  | 69 => ⟨S512x16x3072, .f32⟩
  | 70 => ⟨S_, .f32⟩
  | 71 => ⟨S512x16x3072, .f32⟩
  | 72 => ⟨S512x16x3072, .i1⟩
  | 73 => ⟨S_, .f32⟩
  | 74 => ⟨S512x16x3072, .f32⟩
  | 75 => ⟨S512x16x3072, .f32⟩
  | 76 => ⟨S_, .f32⟩
  | 77 => ⟨S512x16x3072, .f32⟩
  | 78 => ⟨S512x16x3072, .i1⟩
  | 79 => ⟨S_, .f32⟩
  | 80 => ⟨S512x16x3072, .f32⟩
  | 81 => ⟨S512x16x3072, .f32⟩
  | 82 => ⟨S_, .f32⟩
  | 83 => ⟨S512x16x3072, .f32⟩
  | 84 => ⟨S512x16x3072, .f32⟩
  | 85 => ⟨S_, .f32⟩
  | 86 => ⟨S512x16x3072, .f32⟩
  | 87 => ⟨S512x16x3072, .f32⟩
  | 88 => ⟨S512x16x3072, .f32⟩
  | 89 => ⟨S512x16x3072, .f32⟩
  | 90 => ⟨S512x16x3072, .i32⟩
  | 91 => ⟨S_, .f32⟩
  | 92 => ⟨S512x16x3072, .f32⟩
  | 93 => ⟨S512x16x3072, .i1⟩
  | 94 => ⟨S512x16x3072, .i32⟩
  | 95 => ⟨S_, .i32⟩
  | 96 => ⟨S512x16x3072, .i32⟩
  | 97 => ⟨S512x16x3072, .i32⟩
  | 98 => ⟨S512x16x3072, .i32⟩
  | 99 => ⟨S8192x3072, .i32⟩
  | 100 => ⟨S8192x1536, .i32⟩
  | 101 => ⟨S8192x1536, .i32⟩
  | 102 => ⟨S_, .i32⟩
  | 103 => ⟨S8192x1536, .i32⟩
  | 104 => ⟨S8192x1536, .i32⟩
  | 105 => ⟨S8192x1536, .i32⟩
  | 106 => ⟨S8192x1536, .i8⟩
  | 107 => ⟨S4096x2x3072, .i32⟩
  | 108 => ⟨S4096x1x3072, .i32⟩
  | 109 => ⟨S4096x3072, .i32⟩
  | 110 => ⟨S4096x1x3072, .i32⟩
  | 111 => ⟨S4096x3072, .i32⟩
  | 112 => ⟨S_, .i32⟩
  | 113 => ⟨S4096x3072, .i32⟩
  | 114 => ⟨S4096x3072, .i32⟩
  | 115 => ⟨S4096x3072, .i32⟩
  | 116 => ⟨S4096x3072, .i8⟩
  | 117 => ⟨S3072x4096, .i8⟩
  | 118 => ⟨S8192x1536, .i32⟩
  | 119 => ⟨S_, .i32⟩
  | 120 => ⟨S8192x1536, .i32⟩
  | 121 => ⟨S8192x1536, .i32⟩
  | 122 => ⟨S_, .i32⟩
  | 123 => ⟨S8192x1536, .i32⟩
  | 124 => ⟨S8192x1536, .i32⟩
  | 125 => ⟨S8192x1536x1, .i32⟩
  | 126 => ⟨S8192x1536x1, .i32⟩
  | 127 => ⟨S8192x1536x2, .i32⟩
  | _ => ⟨S12x768x3072, .bf16⟩

abbrev hbmTy0_1 (i : Nat) : BufTy := match i % 128 with
  | 0 => ⟨S8192x3072, .i32⟩
  | 1 => ⟨S512x192x16, .bf16⟩
  | 2 => ⟨S512x3072, .bf16⟩
  | 3 => ⟨S_, .i32⟩
  | 4 => ⟨S8192x3072, .i32⟩
  | 5 => ⟨S8192x3072, .i32⟩
  | 6 => ⟨S_, .i32⟩
  | 7 => ⟨S8192x3072, .i32⟩
  | 8 => ⟨S8192x3072, .i1⟩
  | 9 => ⟨S_, .i32⟩
  | 10 => ⟨S8192x3072, .i32⟩
  | 11 => ⟨S8192x3072, .i32⟩
  | 12 => ⟨S_, .i32⟩
  | 13 => ⟨S8192x3072, .i32⟩
  | 14 => ⟨S8192x3072, .i1⟩
  | 15 => ⟨S_, .i32⟩
  | 16 => ⟨S8192x3072, .i32⟩
  | 17 => ⟨S8192x3072, .i32⟩
  | 18 => ⟨S_, .i32⟩
  | 19 => ⟨S8192x3072, .i32⟩
  | 20 => ⟨S8192x3072, .i1⟩
  | 21 => ⟨S_, .i32⟩
  | 22 => ⟨S8192x3072, .i32⟩
  | 23 => ⟨S8192x3072, .i32⟩
  | 24 => ⟨S_, .i32⟩
  | 25 => ⟨S8192x3072, .i32⟩
  | 26 => ⟨S8192x3072, .i1⟩
  | 27 => ⟨S_, .bf16⟩
  | 28 => ⟨S_, .bf16⟩
  | 29 => ⟨S8192x3072, .bf16⟩
  | 30 => ⟨S8192x3072, .bf16⟩
  | 31 => ⟨S8192x3072, .bf16⟩
  | 32 => ⟨S_, .bf16⟩
  | 33 => ⟨S_, .bf16⟩
  | 34 => ⟨S8192x3072, .bf16⟩
  | 35 => ⟨S8192x3072, .bf16⟩
  | 36 => ⟨S8192x3072, .bf16⟩
  | 37 => ⟨S8192x3072, .bf16⟩
  | 38 => ⟨S_, .bf16⟩
  | 39 => ⟨S_, .bf16⟩
  | 40 => ⟨S8192x3072, .bf16⟩
  | 41 => ⟨S8192x3072, .bf16⟩
  | 42 => ⟨S8192x3072, .bf16⟩
  | 43 => ⟨S_, .bf16⟩
  | 44 => ⟨S_, .bf16⟩
  | 45 => ⟨S8192x3072, .bf16⟩
  | 46 => ⟨S8192x3072, .bf16⟩
  | 47 => ⟨S8192x3072, .bf16⟩
  | 48 => ⟨S8192x3072, .bf16⟩
  | 49 => ⟨S8192x3072, .bf16⟩
  | 50 => ⟨S8192x3072, .bf16⟩
  | 51 => ⟨S8192x3072, .bf16⟩
  | 52 => ⟨S512x16x3072, .bf16⟩
  | 53 => ⟨S512x1x3072, .bf16⟩
  | 54 => ⟨S512x16x3072, .bf16⟩
  | 55 => ⟨S512x16x3072, .bf16⟩
  | 56 => ⟨S8192x3072, .bf16⟩
  | 57 => ⟨S12x768x8192, .f32⟩
  | 58 => ⟨S12x768x8192, .f32⟩
  | 59 => ⟨S12x768x8192, .f32⟩
  | 60 => ⟨S12x768x8192, .bf16⟩
  | 61 => ⟨S1, .f32⟩
  | _ => ⟨S12x768x3072, .bf16⟩

abbrev hbmTy (i : Nat) : BufTy := match i / 128 with
  | 0 => hbmTy0_0 i
  | 1 => hbmTy0_1 i
  | _ => ⟨S12x768x3072, .bf16⟩

abbrev bufTy : (tb : Table) → Fin (tcTables nBuf tb) → BufTy
  | .hbm, ⟨i, _⟩ => hbmTy i
  | .local _ .vmem, ⟨0, _⟩ => ⟨S512x192, .f32⟩
  | .local _ .vmem, ⟨1, _⟩ => ⟨S1x1, .f32⟩
  | .local _ .vmem, ⟨2, _⟩ => ⟨S512x192, .fp8e4m3⟩
  | .local _ .vmem, ⟨3, _⟩ => ⟨S512x192, .bf16⟩
  | .local _ .vmem, ⟨4, _⟩ => ⟨S512x192, .f32⟩
  | _, _ => ⟨S12x768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v21 : Ref sig .tc := ⟨.hbm, 37, rfl⟩
abbrev main_cst_6 : Ref sig .tc := ⟨.hbm, 38, rfl⟩
abbrev main_cst_7 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_10 : Ref sig .tc := ⟨.hbm, 54, rfl⟩
abbrev main_v29 : Ref sig .tc := ⟨.hbm, 55, rfl⟩
abbrev main_v30 : Ref sig .tc := ⟨.hbm, 56, rfl⟩
abbrev main_cst_11 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_12 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_13 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_14 : Ref sig .tc := ⟨.hbm, 70, rfl⟩
abbrev main_v41 : Ref sig .tc := ⟨.hbm, 71, rfl⟩
abbrev main_v42 : Ref sig .tc := ⟨.hbm, 72, rfl⟩
abbrev main_cst_15 : Ref sig .tc := ⟨.hbm, 73, rfl⟩
abbrev main_v43 : Ref sig .tc := ⟨.hbm, 74, rfl⟩
abbrev main_v44 : Ref sig .tc := ⟨.hbm, 75, rfl⟩
abbrev main_cst_16 : Ref sig .tc := ⟨.hbm, 76, rfl⟩
abbrev main_v45 : Ref sig .tc := ⟨.hbm, 77, rfl⟩
abbrev main_v46 : Ref sig .tc := ⟨.hbm, 78, rfl⟩
abbrev main_cst_17 : Ref sig .tc := ⟨.hbm, 79, rfl⟩
abbrev main_v47 : Ref sig .tc := ⟨.hbm, 80, rfl⟩
abbrev main_v48 : Ref sig .tc := ⟨.hbm, 81, rfl⟩
abbrev main_cst_18 : Ref sig .tc := ⟨.hbm, 82, rfl⟩
abbrev main_v49 : Ref sig .tc := ⟨.hbm, 83, rfl⟩
abbrev main_v50 : Ref sig .tc := ⟨.hbm, 84, rfl⟩
abbrev main_cst_19 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_20 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_21 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_22 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_23 : Ref sig .tc := ⟨.hbm, 119, rfl⟩
abbrev main_v80 : Ref sig .tc := ⟨.hbm, 120, rfl⟩
abbrev main_v81 : Ref sig .tc := ⟨.hbm, 121, rfl⟩
abbrev main_c_24 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_25 : Ref sig .tc := ⟨.hbm, 131, rfl⟩
abbrev main_v90 : Ref sig .tc := ⟨.hbm, 132, rfl⟩
abbrev main_v91 : Ref sig .tc := ⟨.hbm, 133, rfl⟩
abbrev main_c_26 : Ref sig .tc := ⟨.hbm, 134, rfl⟩
abbrev main_v92 : Ref sig .tc := ⟨.hbm, 135, rfl⟩
abbrev main_v93 : Ref sig .tc := ⟨.hbm, 136, rfl⟩
abbrev main_c_27 : Ref sig .tc := ⟨.hbm, 137, rfl⟩
abbrev main_v94 : Ref sig .tc := ⟨.hbm, 138, rfl⟩
abbrev main_v95 : Ref sig .tc := ⟨.hbm, 139, rfl⟩
abbrev main_c_28 : Ref sig .tc := ⟨.hbm, 140, rfl⟩
abbrev main_v96 : Ref sig .tc := ⟨.hbm, 141, rfl⟩
abbrev main_v97 : Ref sig .tc := ⟨.hbm, 142, rfl⟩
abbrev main_c_29 : Ref sig .tc := ⟨.hbm, 143, rfl⟩
abbrev main_v98 : Ref sig .tc := ⟨.hbm, 144, rfl⟩
abbrev main_v99 : Ref sig .tc := ⟨.hbm, 145, rfl⟩
abbrev main_c_30 : Ref sig .tc := ⟨.hbm, 146, rfl⟩
abbrev main_v100 : Ref sig .tc := ⟨.hbm, 147, rfl⟩
abbrev main_v101 : Ref sig .tc := ⟨.hbm, 148, rfl⟩
abbrev main_c_31 : Ref sig .tc := ⟨.hbm, 149, rfl⟩
abbrev main_v102 : Ref sig .tc := ⟨.hbm, 150, rfl⟩
abbrev main_v103 : Ref sig .tc := ⟨.hbm, 151, rfl⟩
abbrev main_c_32 : Ref sig .tc := ⟨.hbm, 152, rfl⟩
abbrev main_v104 : Ref sig .tc := ⟨.hbm, 153, rfl⟩
abbrev main_v105 : Ref sig .tc := ⟨.hbm, 154, rfl⟩
abbrev main_cst_33 : Ref sig .tc := ⟨.hbm, 155, rfl⟩
abbrev main_cst_34 : Ref sig .tc := ⟨.hbm, 156, rfl⟩
abbrev main_call10_v0 : Ref sig .tc := ⟨.hbm, 157, rfl⟩
abbrev main_call10_v1 : Ref sig .tc := ⟨.hbm, 158, rfl⟩
abbrev main_v106 : Ref sig .tc := ⟨.hbm, 159, rfl⟩
abbrev main_cst_35 : Ref sig .tc := ⟨.hbm, 160, rfl⟩
abbrev main_cst_36 : Ref sig .tc := ⟨.hbm, 161, rfl⟩
abbrev main_call11_v0 : Ref sig .tc := ⟨.hbm, 162, rfl⟩
abbrev main_call11_v1 : Ref sig .tc := ⟨.hbm, 163, rfl⟩
abbrev main_v107 : Ref sig .tc := ⟨.hbm, 164, rfl⟩
abbrev main_v108 : Ref sig .tc := ⟨.hbm, 165, rfl⟩
abbrev main_cst_37 : Ref sig .tc := ⟨.hbm, 166, rfl⟩
abbrev main_cst_38 : Ref sig .tc := ⟨.hbm, 167, rfl⟩
abbrev main_call13_v0 : Ref sig .tc := ⟨.hbm, 168, rfl⟩
abbrev main_call13_v1 : Ref sig .tc := ⟨.hbm, 169, rfl⟩
abbrev main_v109 : Ref sig .tc := ⟨.hbm, 170, rfl⟩
abbrev main_cst_39 : Ref sig .tc := ⟨.hbm, 171, rfl⟩
abbrev main_cst_40 : Ref sig .tc := ⟨.hbm, 172, rfl⟩
abbrev main_call14_v0 : Ref sig .tc := ⟨.hbm, 173, rfl⟩
abbrev main_call14_v1 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Quant.Tiles.lean ====
/- Reading back a buffer after a list of rectangular stores, when the stored pieces are the tiles of one function. -/
module

public import Idealize.ShloMosaic.Lib.Pipeline.Value
public import Idealize.ShloMosaic.Lib.Pointwise.Index

@[expose] public section

namespace Cert.Tiles

open Idealize.ShloMosaic

section Reads

variable {Val : EltTy → Type} [∀ e, Nonempty (Val e)] {sig : RefSig} {κ : Kind} {sp : Space} {s : Shape} {e : EltTy}

/-- The stores agree with `G` and cover exactly the indices `Q` holds of: the buffer reads `G` there, and as before elsewhere. -/
theorem read_writes_where (v : View sig κ sp s e) (f : v.ty.Contents Val) (G : s.Idx → Val e) (Q : s.Idx → Prop)
    [DecidablePred Q] (L : List (View.Piece Val s e)) (hG : ∀ p ∈ L, ∀ x, p.2 x = G (p.1.emb x))
    (hQ : ∀ y, Q y ↔ ∃ p ∈ L, y ∈ p.1.set) :
    v.read Val (v.writes Val f L) = fun y => if Q y then G y else v.read Val f y := by
  funext y
  by_cases h : Q y
  · rw [if_pos h, View.read_writes_apply_eq_canon v f y L ((hQ y).1 h), View.canon_apply_of_pieces G L hG y ((hQ y).1 h)]
  · rw [if_neg h]
    exact View.read_writes_apply_of_forall_not_mem v f y L fun p hp hy => h ((hQ y).2 ⟨p, hp, hy⟩)

/-- The stores agree with `G` and cover the buffer: it reads `G`. -/
theorem read_writes_all (v : View sig κ sp s e) (f : v.ty.Contents Val) (G : s.Idx → Val e)
    (L : List (View.Piece Val s e)) (hG : ∀ p ∈ L, ∀ x, p.2 x = G (p.1.emb x)) (hQ : ∀ y, ∃ p ∈ L, y ∈ p.1.set) :
    v.read Val (v.writes Val f L) = G := by
  funext y
  rw [View.read_writes_apply_eq_canon v f y L (hQ y), View.canon_apply_of_pieces G L hG y (hQ y)]

end Reads

/-- The matrix whose tile in tile row `a` and tile column `b` is `P a b`. -/
def tile2 {α : Type} {M N r c A B : ℕ} [NeZero A] [NeZero B] [NeZero r] [NeZero c]
    (P : Fin A → Fin B → (⟨2, ![r, c]⟩ : Shape).Idx → α) : (⟨2, ![M, N]⟩ : Shape).Idx → α :=
  fun y => P (Fin.ofNat A ((y 0).val / r)) (Fin.ofNat B ((y 1).val / c)) (ix2 (Fin.ofNat r (y 0).val) (Fin.ofNat c (y 1).val))

theorem tile2_emb {α : Type} {M N r c A B : ℕ} [NeZero A] [NeZero B] [NeZero r] [NeZero c]
    (P : Fin A → Fin B → (⟨2, ![r, c]⟩ : Shape).Idx → α) (a : Fin A) (b : Fin B)
    (off : Fin 2 → ℕ) (inb) (h0 : off 0 = r * a.val) (h1 : off 1 = c * b.val) (x : (⟨2, ![r, c]⟩ : Shape).Idx) :
    tile2 (M := M) (N := N) P ((Rect.unit (s := ⟨2, ![M, N]⟩) off ![r, c] inb).emb x) = P a b x := by
  have e0 : (((Rect.unit (s := ⟨2, ![M, N]⟩) off ![r, c] inb).emb x) 0 : ℕ) = r * a.val + (x 0).val := by
    rw [Rect.emb_apply, Rect.off_unit, Rect.stride_unit, h0, Nat.one_mul]
  have e1 : (((Rect.unit (s := ⟨2, ![M, N]⟩) off ![r, c] inb).emb x) 1 : ℕ) = c * b.val + (x 1).val := by
    rw [Rect.emb_apply, Rect.off_unit, Rect.stride_unit, h1, Nat.one_mul]
  have hr : 0 < r := Nat.pos_of_ne_zero (NeZero.ne r)
  have hc : 0 < c := Nat.pos_of_ne_zero (NeZero.ne c)
  have hx0 : (x 0).val < r := (x 0).isLt
  have hx1 : (x 1).val < c := (x 1).isLt
  unfold tile2
  rw [e0, e1, Nat.mul_add_div hr, Nat.mul_add_div hc, Nat.div_eq_of_lt hx0, Nat.div_eq_of_lt hx1, Nat.add_zero, Nat.add_zero]
  have ea : Fin.ofNat A a.val = a := Fin.ext (Nat.mod_eq_of_lt a.isLt)
  have eb : Fin.ofNat B b.val = b := Fin.ext (Nat.mod_eq_of_lt b.isLt)
  rw [ea, eb]
  refine congrArg (P a b) ?_
  conv_rhs => rw [eq_ix2 x]
  exact congrArg₂ ix2 (Fin.ext (by show (r * a.val + (x 0).val) % r = _; rw [Nat.mul_add_mod, Nat.mod_eq_of_lt hx0]))
    (Fin.ext (by show (c * b.val + (x 1).val) % c = _; rw [Nat.mul_add_mod, Nat.mod_eq_of_lt hx1]))

/-- The stack of matrices whose tile at tile row `a` and at tile column `b` modulo `B` is `P a b`, on every level. -/
def tile3 {α : Type} {L M N r c A B : ℕ} [NeZero A] [NeZero B] [NeZero r] [NeZero c]
    (P : Fin A → Fin B → (⟨3, ![1, r, c]⟩ : Shape).Idx → α) : (⟨3, ![L, M, N]⟩ : Shape).Idx → α :=
  fun y => P (Fin.ofNat A ((y 1).val / r)) (Fin.ofNat B ((y 2).val / c)) (ix3 0 (Fin.ofNat r (y 1).val) (Fin.ofNat c (y 2).val))

theorem tile3_emb {α : Type} {L M N r c A B : ℕ} [NeZero A] [NeZero B] [NeZero r] [NeZero c]
    (P : Fin A → Fin B → (⟨3, ![1, r, c]⟩ : Shape).Idx → α) (a : Fin A) (b : Fin B) (j : ℕ)
    (off : Fin 3 → ℕ) (inb) (h1 : off 1 = r * a.val) (h2 : off 2 = c * (B * j + b.val)) (x : (⟨3, ![1, r, c]⟩ : Shape).Idx) :
    tile3 (L := L) (M := M) (N := N) P ((Rect.unit (s := ⟨3, ![L, M, N]⟩) off ![1, r, c] inb).emb x) = P a b x := by
  have e1 : (((Rect.unit (s := ⟨3, ![L, M, N]⟩) off ![1, r, c] inb).emb x) 1 : ℕ) = r * a.val + (x 1).val := by
    rw [Rect.emb_apply, Rect.off_unit, Rect.stride_unit, h1, Nat.one_mul]
  have e2 : (((Rect.unit (s := ⟨3, ![L, M, N]⟩) off ![1, r, c] inb).emb x) 2 : ℕ) = c * (B * j + b.val) + (x 2).val := by
    rw [Rect.emb_apply, Rect.off_unit, Rect.stride_unit, h2, Nat.one_mul]
  have hr : 0 < r := Nat.pos_of_ne_zero (NeZero.ne r)
  have hc : 0 < c := Nat.pos_of_ne_zero (NeZero.ne c)
  have hx1 : (x 1).val < r := (x 1).isLt
  have hx2 : (x 2).val < c := (x 2).isLt
  unfold tile3
  rw [e1, e2, Nat.mul_add_div hr, Nat.mul_add_div hc, Nat.div_eq_of_lt hx1, Nat.div_eq_of_lt hx2, Nat.add_zero, Nat.add_zero]
  have ea : Fin.ofNat A a.val = a := Fin.ext (Nat.mod_eq_of_lt a.isLt)
  have eb : Fin.ofNat B (B * j + b.val) = b := Fin.ext (by
    show (B * j + b.val) % B = _; rw [Nat.mul_add_mod, Nat.mod_eq_of_lt b.isLt])
  rw [ea, eb]
  refine congrArg (P a b) ?_
  have h0 : (x 0) = (0 : Fin 1) := Fin.ext (by have := (x 0).isLt; show (x 0).val = 0; change (x 0).val < 1 at this; omega)
  conv_rhs => rw [eq_ix3 x, h0]
  rw [show (Fin.ofNat r (r * a.val + (x 1).val)) = x 1 from Fin.ext (by show (r * a.val + (x 1).val) % r = _; rw [Nat.mul_add_mod, Nat.mod_eq_of_lt hx1]),
    show (Fin.ofNat c (c * (B * j + b.val) + (x 2).val)) = x 2 from Fin.ext (by show (c * (B * j + b.val) + (x 2).val) % c = _; rw [Nat.mul_add_mod, Nat.mod_eq_of_lt hx2])]

end Cert.Tiles
-- ==== Proof.Kern.Run0.lean ====
/- The runs of the body of the first call: the maxima of one block of rows, and at the last point the scales. -/
module

public import proofs.«01_k».proof.Proof.Quant.Tiles
public import proofs.«01_k».proof.Proof.Gen.Kernel.Skeleton
public import Idealize.ShloMosaic.Lib.Pipeline.FrameBody
public import Idealize.ShloMosaic.Lib.WritesUnit
public import Idealize.ShloMosaic.Lib.VecWindow
public import Idealize.ShloMosaic.Lib.Pipeline.Value
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The first branch's condition. -/
abbrev k0_condA (i : grid0.Coords) : BitVec 1 :=
  Scalar.cmpi .ne (Scalar.extui (Scalar.cmpi .eq (BitVec.ofNat 32 (i 0).val) 0#32) : BitVec 32) 0#32

/-- The block maxima of 512 rows, each repeated over the lanes of its block. -/
def repB (x0 : Vec F S512x3072 .bf16) : Vec F S32x3072 .f32 := k0_pay1 (k0_pay9 x0) 8#32

/-- The block maxima of 512 rows, one lane each. -/
def compB (x0 : Vec F S512x3072 .bf16) (x1 : Vec F S3072x192 .bf16) : Vec F S32x192 .f32 := k0_pay2 (k0_pay8 x0) x1

/-- The running maximum of each lane. -/
def mxB (x0 : Vec F S512x3072 .bf16) (e : Vec F S1x3072 .f32) : Vec F S1x3072 .f32 := k0_pay4 (k0_pay7 x0) e

/-- The collected block maxima after point `i`. -/
def compScr (i : ℕ) (x0 : Vec F S512x3072 .bf16) (x1 : Vec F S3072x192 .bf16) (ds : Vec F S512x192 .f32) : Vec F S512x192 .f32 := fun y =>
  if 32 * i ≤ (y 0).val ∧ (y 0).val < 32 * i + 32 then compB x0 x1 (ix2 (Fin.ofNat 32 (y 0).val) (y 1)) else ds y

theorem hz : (![0, 0] : Fin 2 → ℕ) = fun _ => 0 := by funext k; match k with | ⟨0, _⟩ => rfl | ⟨1, _⟩ => rfl

/-- A load of the whole buffer reads the buffer. -/
theorem ldfull {sp : Space} {S : Shape} {e : EltTy} (v : View sig .tc sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

theorem comp_write (v : View sig .tc .vmem S512x192 .f32) (f : v.ty.Contents (Elt F)) (i : ℕ) (x0 : Vec F S512x3072 .bf16) (x1 : Vec F S3072x192 .bf16)
    (off : Fin 2 → ℕ) (inb : ∀ a, off a + S32x192.size a ≤ S512x192.size a) (w : (Rect.unit (s := S512x192) off S32x192.size inb).shape.Idx → Elt F .f32) (hw : w = compB x0 x1) (ho : off = ![32 * i, 0]) :
    v.read (Elt F) (v.writes (Elt F) f [⟨Rect.unit (s := S512x192) off S32x192.size inb, w⟩]) = compScr i x0 x1 (v.read (Elt F) f) := by
  subst hw
  funext y
  unfold compScr
  by_cases h : 32 * i ≤ (y 0).val ∧ (y 0).val < 32 * i + 32
  · rw [if_pos h]
    refine View.read_writes_cons_rows_of_mem v f (o := 32 * i) inb _ [] y (ix2 (Fin.ofNat 32 (y 0).val) (y 1)) ho ?_ rfl
    show (y 0).val = 32 * i + (y 0).val % 32
    omega
  · rw [if_neg h]
    exact View.read_writes_cons_rows_of_not_mem v f (o := 32 * i) (W := 32) inb _ [] y ho rfl (by omega)

set_option maxHeartbeats 400000 in
theorem run0_first (c : Dev nD) (i : grid0.Coords) (arg1 : Memref sig .tc .vmem S512x3072 .bf16) (harg1 : arg1.IsWhole) (arg2 : Memref sig .tc .vmem S3072x192 .bf16) (harg2 : arg2.IsWhole) (arg3 : Memref sig .tc .vmem S32x3072 .f32) (harg3 : arg3.IsWhole) (arg4 : Memref sig .tc .vmem S512x192 .fp8e4m3) (harg4 : arg4.IsWhole) (arg5 : Memref sig .tc .vmem S1x1 .f32) (harg5 : arg5.IsWhole) (arg6 : Memref sig .tc .vmem S512x192 .f32) (harg6 : arg6.IsWhole) (arg7 : Memref sig .tc .vmem S1x3072 .f32) (harg7 : arg7.IsWhole)
    (hcA : (k0_condA i = 1#1)) (hc2 : ¬(k0_cond2 i = 1#1))
    (x0 : Vec F S512x3072 .bf16) (x1 : Vec F S3072x192 .bf16) (ds : Vec F S512x192 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg6 fullShare ds ∗ (∃ d, owns (c : Thread nD τ) arg7 fullShare d)
            ∗ (iprop(owns (c : Thread nD τ) arg1 fullShare x0 ∗ owns (c : Thread nD τ) arg2 fullShare x1 ∗ owns (c : Thread nD τ) arg3 fullShare (repB x0) ∗ owns (c : Thread nD τ) arg6 fullShare (compScr (i 0).val x0 x1 ds) ∗ owns (c : Thread nD τ) arg7 fullShare (mxB x0 (k0_pay3 (F := F)))) -∗ K ⟨⟩))
          ⊢ wp frame (wpE (defs₀ (F := F)) Variants.none c none) E (cc0_block_amax i arg1 harg1 arg2 harg2 arg3 harg3 arg4 harg4 arg5 harg5 arg6 harg6 arg7 harg7) K := by
    intro E K
    simp only [cc0_block_amax_eq_skeleton]; unfold cc0_block_amax_skel
    simp only [hc2, ↓reduceDIte]
    simp only [k0_part1_eq_skeleton]; unfold k0_part1_skel
    unfold owns
    iintro ⟨⟨%f0, %hf0, H0⟩, ⟨%f1, %hf1, H1⟩, ⟨%d3, %f3, -, H3⟩, ⟨%f6, %hf6, H6⟩, ⟨%d7, %f7, -, H7⟩, Hk⟩
    subst hf0; subst hf1; subst hf6
    sl_exec (disch := first | sl_exact hcA | sl_exact hc2)
    sl_step
    iapply Hk
    isplitl [H0]
    · iexists _; isplitr; · ipureintro; rfl
      iexact H0
    isplitl [H1]
    · iexists _; isplitr; · ipureintro; rfl
      iexact H1
    isplitl [H3]
    · iexists _; isplitr; swap; · iexact H3
      ipureintro
      dsimp only
      exact Eq.trans (View.read_writes_full _ _ _ _ _) (congrArg (fun z => k0_pay1 (k0_pay9 z) 8#32) (ldfull arg1.view hz _ f0))
    isplitl [H6]
    · iexists _; isplitr; swap; · iexact H6
      ipureintro
      dsimp only
      refine comp_write _ _ _ _ _ _ _ _ ?_ (k0_off1_eq i)
      exact congrArg₂ (fun z z' => k0_pay2 (k0_pay8 z) z') (ldfull arg1.view hz _ f0) (ldfull arg2.view hz _ f1)
    iexists _; isplitr; swap; · iexact H7
    ipureintro
    dsimp only
    exact Eq.trans (View.read_writes_full _ _ _ _ _) (congrArg₂ (fun z z' => k0_pay4 (k0_pay7 z) z') (ldfull arg1.view hz _ f0) (Eq.trans (ldfull arg7.view hz _ _) (View.read_writes_full _ _ _ _ _)))

set_option maxHeartbeats 400000 in
theorem run0_mid (c : Dev nD) (i : grid0.Coords) (arg1 : Memref sig .tc .vmem S512x3072 .bf16) (harg1 : arg1.IsWhole) (arg2 : Memref sig .tc .vmem S3072x192 .bf16) (harg2 : arg2.IsWhole) (arg3 : Memref sig .tc .vmem S32x3072 .f32) (harg3 : arg3.IsWhole) (arg4 : Memref sig .tc .vmem S512x192 .fp8e4m3) (harg4 : arg4.IsWhole) (arg5 : Memref sig .tc .vmem S1x1 .f32) (harg5 : arg5.IsWhole) (arg6 : Memref sig .tc .vmem S512x192 .f32) (harg6 : arg6.IsWhole) (arg7 : Memref sig .tc .vmem S1x3072 .f32) (harg7 : arg7.IsWhole)
    (hcA : ¬(k0_condA i = 1#1)) (hc2 : ¬(k0_cond2 i = 1#1))
    (x0 : Vec F S512x3072 .bf16) (x1 : Vec F S3072x192 .bf16) (ds : Vec F S512x192 .f32) (e : Vec F S1x3072 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg6 fullShare ds ∗ owns (c : Thread nD τ) arg7 fullShare e
            ∗ (iprop(owns (c : Thread nD τ) arg1 fullShare x0 ∗ owns (c : Thread nD τ) arg2 fullShare x1 ∗ owns (c : Thread nD τ) arg3 fullShare (repB x0) ∗ owns (c : Thread nD τ) arg6 fullShare (compScr (i 0).val x0 x1 ds) ∗ owns (c : Thread nD τ) arg7 fullShare (mxB x0 e)) -∗ K ⟨⟩))
          ⊢ wp frame (wpE (defs₀ (F := F)) Variants.none c none) E (cc0_block_amax i arg1 harg1 arg2 harg2 arg3 harg3 arg4 harg4 arg5 harg5 arg6 harg6 arg7 harg7) K := by
    intro E K
    simp only [cc0_block_amax_eq_skeleton]; unfold cc0_block_amax_skel
    simp only [hc2, ↓reduceDIte]
    simp only [k0_part1_eq_skeleton]; unfold k0_part1_skel
    unfold owns
    iintro ⟨⟨%f0, %hf0, H0⟩, ⟨%f1, %hf1, H1⟩, ⟨%d3, %f3, -, H3⟩, ⟨%f6, %hf6, H6⟩, ⟨%f7, %hf7, H7⟩, Hk⟩
    subst hf0; subst hf1; subst hf6; subst hf7
    sl_exec (disch := first | sl_exact hcA | sl_exact hc2)
    sl_step
    iapply Hk
    isplitl [H0]
    · iexists _; isplitr; · ipureintro; rfl
      iexact H0
    isplitl [H1]
    · iexists _; isplitr; · ipureintro; rfl
      iexact H1
    isplitl [H3]
    · iexists _; isplitr; swap; · iexact H3
      ipureintro
      dsimp only
      exact Eq.trans (View.read_writes_full _ _ _ _ _) (congrArg (fun z => k0_pay1 (k0_pay9 z) 8#32) (ldfull arg1.view hz _ f0))
    isplitl [H6]
    · iexists _; isplitr; swap; · iexact H6
      ipureintro
      dsimp only
      refine comp_write _ _ _ _ _ _ _ _ ?_ (k0_off1_eq i)
      exact congrArg₂ (fun z z' => k0_pay2 (k0_pay8 z) z') (ldfull arg1.view hz _ f0) (ldfull arg2.view hz _ f1)
    iexists _; isplitr; swap; · iexact H7
    ipureintro
    dsimp only
    exact Eq.trans (View.read_writes_full _ _ _ _ _) (congrArg₂ (fun z z' => k0_pay4 (k0_pay7 z) z') (ldfull arg1.view hz _ f0) (ldfull arg7.view hz _ _))

set_option maxHeartbeats 400000 in
theorem run0_last (c : Dev nD) (i : grid0.Coords) (arg1 : Memref sig .tc .vmem S512x3072 .bf16) (harg1 : arg1.IsWhole) (arg2 : Memref sig .tc .vmem S3072x192 .bf16) (harg2 : arg2.IsWhole) (arg3 : Memref sig .tc .vmem S32x3072 .f32) (harg3 : arg3.IsWhole) (arg4 : Memref sig .tc .vmem S512x192 .fp8e4m3) (harg4 : arg4.IsWhole) (arg5 : Memref sig .tc .vmem S1x1 .f32) (harg5 : arg5.IsWhole) (arg6 : Memref sig .tc .vmem S512x192 .f32) (harg6 : arg6.IsWhole) (arg7 : Memref sig .tc .vmem S1x3072 .f32) (harg7 : arg7.IsWhole)
    (hcA : ¬(k0_condA i = 1#1)) (hc2 : (k0_cond2 i = 1#1))
    (x0 : Vec F S512x3072 .bf16) (x1 : Vec F S3072x192 .bf16) (ds : Vec F S512x192 .f32) (e : Vec F S1x3072 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare ds ∗ owns (c : Thread nD τ) arg7 fullShare e
            ∗ (iprop(owns (c : Thread nD τ) arg1 fullShare x0 ∗ owns (c : Thread nD τ) arg2 fullShare x1 ∗ owns (c : Thread nD τ) arg3 fullShare (repB x0) ∗ owns (c : Thread nD τ) arg4 fullShare (k0_pay6 (mxB x0 e) (compScr (i 0).val x0 x1 ds)) ∗ owns (c : Thread nD τ) arg5 fullShare (k0_pay5 (mxB x0 e)) ∗ owns (c : Thread nD τ) arg6 fullShare (compScr (i 0).val x0 x1 ds) ∗ owns (c : Thread nD τ) arg7 fullShare (mxB x0 e)) -∗ K ⟨⟩))
          ⊢ wp frame (wpE (defs₀ (F := F)) Variants.none c none) E (cc0_block_amax i arg1 harg1 arg2 harg2 arg3 harg3 arg4 harg4 arg5 harg5 arg6 harg6 arg7 harg7) K := by
    intro E K
    simp only [cc0_block_amax_eq_skeleton]; unfold cc0_block_amax_skel
    simp only [hc2, ↓reduceDIte]
    simp only [k0_part1_eq_skeleton]; unfold k0_part1_skel
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    subst hf0; subst hf1; subst hf6; subst hf7
    sl_exec (disch := first | sl_exact hcA | sl_exact hc2)
    sl_step
    iapply Hk
    isplitl [H0]
    · iexists _; isplitr; · ipureintro; rfl
      iexact H0
    isplitl [H1]
    · iexists _; isplitr; · ipureintro; rfl
      iexact H1
    isplitl [H3]
    · iexists _; isplitr; swap; · iexact H3
      ipureintro
      dsimp only
      exact Eq.trans (View.read_writes_full _ _ _ _ _) (congrArg (fun z => k0_pay1 (k0_pay9 z) 8#32) (ldfull arg1.view hz _ f0))
    isplitl [H4]
    · iexists _; isplitr; swap; · iexact H4
      ipureintro
      dsimp only
      refine Eq.trans (View.read_writes_full _ _ _ _ _) (congrArg₂ k0_pay6 ?_ ?_)
      · refine Eq.trans (ldfull arg7.view hz _ _) ?_
        exact Eq.trans (View.read_writes_full _ _ _ _ _) (congrArg₂ (fun z z' => k0_pay4 (k0_pay7 z) z') (ldfull arg1.view hz _ f0) (ldfull arg7.view hz _ _))
      · refine Eq.trans (ldfull arg6.view hz _ _) ?_
        refine comp_write _ _ _ _ _ _ _ _ ?_ (k0_off1_eq i)
        exact congrArg₂ (fun z z' => k0_pay2 (k0_pay8 z) z') (ldfull arg1.view hz _ f0) (ldfull arg2.view hz _ f1)
    isplitl [H5]
    · iexists _; isplitr; swap; · iexact H5
      ipureintro
      dsimp only
      refine Eq.trans (View.read_writes_full _ _ _ _ _) (congrArg k0_pay5 ?_)
      refine Eq.trans (ldfull arg7.view hz _ _) ?_
      exact Eq.trans (View.read_writes_full _ _ _ _ _) (congrArg₂ (fun z z' => k0_pay4 (k0_pay7 z) z') (ldfull arg1.view hz _ f0) (ldfull arg7.view hz _ _))
    isplitl [H6]
    · iexists _; isplitr; swap; · iexact H6
      ipureintro
      dsimp only
      refine comp_write _ _ _ _ _ _ _ _ ?_ (k0_off1_eq i)
      exact congrArg₂ (fun z z' => k0_pay2 (k0_pay8 z) z') (ldfull arg1.view hz _ f0) (ldfull arg2.view hz _ f1)
    iexists _; isplitr; swap; · iexact H7
    ipureintro
    dsimp only
    exact Eq.trans (View.read_writes_full _ _ _ _ _) (congrArg₂ (fun z z' => k0_pay4 (k0_pay7 z) z') (ldfull arg1.view hz _ f0) (ldfull arg7.view hz _ _))

end Cert.Kernel.Run

end
-- ==== Proof.Kern.Region0.lean ====
/- The first call over its grid: what each block holds after the body ran at a point, and the body there. -/
module

public import proofs.«01_k».proof.Proof.Kern.Run0
public import proofs.«01_k».proof.Proof.Gen.Kernel.Launch
public import proofs.«01_k».proof.Proof.Gen.Kernel.Points
public import Idealize.ShloMosaic.Lib.Pipeline.Value
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

theorem lt0 (t : Fin cfg0.N) : t.val < 16 := Nat.lt_of_lt_of_eq t.isLt (show cfg0.N = 16 from N_0)

theorem hc0_A : ∀ t : Fin cfg0.N, k0_condA (grid0.coords t) = 1#1 ↔ t.val = 0 :=
  (by decide +kernel : ∀ t : Fin grid0.N, k0_condA (grid0.coords t) = 1#1 ↔ t.val = 0)
theorem hc0_2 : ∀ t : Fin cfg0.N, k0_cond2 (grid0.coords t) = 1#1 ↔ t.val = 15 :=
  (by decide +kernel : ∀ t : Fin grid0.N, k0_cond2 (grid0.coords t) = 1#1 ↔ t.val = 15)
theorem coord0_0 : ∀ t : Fin cfg0.N, (grid0.coords t 0).val = t.val :=
  (by decide +kernel : ∀ t : Fin grid0.N, (grid0.coords t 0).val = t.val)
theorem idle0_3 : ∀ t : Fin cfg0.N, cfg0.idle 3 (grid0.coords t) = decide (t.val ≠ 15) :=
  (by decide +kernel : ∀ t : Fin grid0.N, idle0 3 (grid0.coords t) = decide (t.val ≠ 15))
theorem idle0_4 : ∀ t : Fin cfg0.N, cfg0.idle 4 (grid0.coords t) = decide (t.val ≠ 15) :=
  (by decide +kernel : ∀ t : Fin grid0.N, idle0 4 (grid0.coords t) = decide (t.val ≠ 15))

/-- The n-th point. -/
def pt0 (n : ℕ) : Fin cfg0.N := ⟨n % 16, (Nat.mod_lt _ (by decide)).trans_eq (show 16 = cfg0.N from N_0.symm)⟩

theorem pt0_val (t : Fin cfg0.N) (n : ℕ) (h : n = t.val) : pt0 n = t :=
  Fin.ext (by subst h; exact Nat.mod_eq_of_lt (lt0 t))

section Data

variable (V : Dev nD → Valuation τ sig (Elt F)) (c : Dev nD)

/-- Window `w`'s block at point `t`, of the arrays as the call finds them. -/
def iblk0 (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The running maximum of each lane before the n-th point. -/
def runMax : ℕ → Vec F S1x3072 .f32
  | 0 => k0_pay3
  | n + 1 => mxB (iblk0 V c 0 (pt0 n)) (runMax n)

/-- All the block maxima. -/
def compAll : Vec F S512x192 .f32 := fun y =>
  compB (iblk0 V c 0 (pt0 ((y 0).val / 32))) (iblk0 V c 1 (pt0 ((y 0).val / 32))) (ix2 (Fin.ofNat 32 (y 0).val) (y 1))

/-- What the collected block maxima hold before point `t`. -/
def Inv0 (t : ℕ) (d : Vec F S512x192 .f32) : Prop := ∀ y : S512x192.Idx, (y 0).val < 32 * t → d y = compAll V c y

theorem inv0_zero (d : Vec F S512x192 .f32) : Inv0 V c 0 d := fun _ h => absurd h (Nat.not_lt_zero _)

theorem inv0_step (t : Fin cfg0.N) (d : Vec F S512x192 .f32) (h : Inv0 V c t.val d) :
    Inv0 V c (t.val + 1) (compScr (grid0.coords t 0).val (iblk0 V c 0 t) (iblk0 V c 1 t) d) := by
  rw [coord0_0]
  intro y hy
  by_cases hc : 32 * t.val ≤ (y 0).val ∧ (y 0).val < 32 * t.val + 32
  · refine (if_pos hc).trans ?_
    unfold compAll
    rw [pt0_val t ((y 0).val / 32) (by omega)]
  · exact (if_neg hc).trans (h y (by omega))

theorem inv0_last (t : Fin cfg0.N) (ht : t.val = 15) (d : Vec F S512x192 .f32) (h : Inv0 V c t.val d) :
    compScr (grid0.coords t 0).val (iblk0 V c 0 t) (iblk0 V c 1 t) d = compAll V c := by
  funext y
  refine inv0_step V c t d h y ?_
  have : (y 0).val < 512 := (y 0).isLt
  omega

theorem runMax_step (t : Fin cfg0.N) : mxB (iblk0 V c 0 t) (runMax V c t.val) = runMax V c (t.val + 1) := by
  show _ = mxB (iblk0 V c 0 (pt0 t.val)) (runMax V c t.val)
  rw [pt0_val t _ rfl]

abbrev scM0a : Memref sig .tc .vmem S512x192 .f32 := Memref.whole cc0_scratch0
abbrev scM0b : Memref sig .tc .vmem S1x3072 .f32 := Memref.whole cc0_scratch1

/-- The other call's buffers. -/
def rest0 : sProp 𝕄 :=
  iprop((∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_stg0_0), ((c : Thread nD τ).loc cc1_stg0_0) ↦{fullShare} f))

/-- The two scratch buffers before point `t`. -/
def keep0 (t : ℕ) : sProp 𝕄 :=
  iprop((∃ d, ⌜Inv0 V c t d⌝ ∗ owns (c : Thread nD τ) scM0a fullShare d) ∗ (∃ e, ⌜0 < t → e = runMax V c t⌝ ∗ owns (c : Thread nD τ) scM0b fullShare e)
    ∗ rest0 c ∗ (∃ r, prngReg c r))

/-- The call's data: each input's buffer keeps its block; the repeated block maxima are the block's; the scales are those
    of all the rows. -/
def dat0 : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => repB (iblk0 V c 0 t)
    | ⟨3, _⟩ => k0_pay6 (runMax V c 16) (compAll V c)
    | ⟨4, _⟩ => k0_pay5 (runMax V c 16)
  Φ t := keep0 V c t.val
  q _ := fullShare
  owed _ := 0

theorem A0_eq (w : Fin cfg0.W) : (dat0 V c).A w = V c (Proc.devRef .tc (Pipeline.arrRef spec0 w)) := by dsimp only [dat0]
theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = repB (iblk0 V c 0 t) := by dsimp only [dat0]
theorem after0_3 (t : Fin cfg0.N) : (dat0 V c).after 3 t = k0_pay6 (runMax V c 16) (compAll V c) := by dsimp only [dat0]
theorem after0_4 (t : Fin cfg0.N) : (dat0 V c).after 4 t = k0_pay5 (runMax V c 16) := by dsimp only [dat0]

theorem before0_0 (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem leave0_3 (t : Fin cfg0.N) (ht : t.val ≠ 15) :
    ((dat0 V c).leavesExact 3 t : sProp 𝕄) = iprop(∃ d, owns (c : Thread nD τ) (st0_3 t) fullShare ((dat0 V c).before 3 t d)) :=
  (dat0 V c).leavesExact_idle 3 t ((idle0_3 t).trans (decide_eq_true ht)) (by
    cases hf : (cfg0.win 3).flush t
    · rfl
    · have := (flush0_3 t).mp hf
      have := lt0 t
      omega)
theorem live0_3 (t : Fin cfg0.N) (ht : t.val = 15) :
    ((dat0 V c).leavesExact 3 t : sProp 𝕄) = owns (c : Thread nD τ) (st0_3 t) fullShare ((dat0 V c).after 3 t) := by
  unfold Dat.leavesExact
  rw [idle0_3, decide_eq_false (by omega)]
theorem leave0_4 (t : Fin cfg0.N) (ht : t.val ≠ 15) :
    ((dat0 V c).leavesExact 4 t : sProp 𝕄) = iprop(∃ d, owns (c : Thread nD τ) (st0_4 t) fullShare ((dat0 V c).before 4 t d)) :=
  (dat0 V c).leavesExact_idle 4 t ((idle0_4 t).trans (decide_eq_true ht)) (by
    cases hf : (cfg0.win 4).flush t
    · rfl
    · have := (flush0_4 t).mp hf
      have := lt0 t
      omega)
theorem live0_4 (t : Fin cfg0.N) (ht : t.val = 15) :
    ((dat0 V c).leavesExact 4 t : sProp 𝕄) = owns (c : Thread nD τ) (st0_4 t) fullShare ((dat0 V c).after 4 t) := by
  unfold Dat.leavesExact
  rw [idle0_4, decide_eq_false (by omega)]

/-! ## The body at a point -/

def bodyPre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 2400000 in
theorem sound0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = keep0 V c (t.val + 1) from rfl,
    show (dat0 V c).Φ t.castSucc = keep0 V c t.val from rfl,
    show (dat0 V c).owesAt () t.succ = (dat0 V c).owesAt () t.castSucc from rfl]
  rw [show ((dat0 V c).leavesExact 0 t : sProp 𝕄) = owns (c : Thread nD τ) (st0_0 t) fullShare ((dat0 V c).after 0 t) from rfl, after0_0]
  rw [show ((dat0 V c).leavesExact 1 t : sProp 𝕄) = owns (c : Thread nD τ) (st0_1 t) fullShare ((dat0 V c).after 1 t) from rfl, after0_1]
  rw [show ((dat0 V c).leavesExact 2 t : sProp 𝕄) = owns (c : Thread nD τ) (st0_2 t) fullShare ((dat0 V c).after 2 t) from rfl, after0_2]
  unfold keep0
  have := lt0 t
  by_cases hA : t.val = 0
  · rw [leave0_3 V c t (by omega), leave0_4 V c t (by omega)]
    iintro ⟨⟨⟨%d, %hd, HS⟩, ⟨%e, %he, HT⟩, Hr, Hg⟩, Ho, ⟨%d0, H0⟩, ⟨%d1, H1⟩, ⟨%d2, H2⟩, ⟨%d3, H3⟩, ⟨%d4, H4⟩⟩
    iapply (run0_first c (grid0.coords t) _ _ _ _ _ _ _ _ _ _ _ _ _ _ ((hc0_A t).mpr hA) (fun h => by have := (hc0_2 t).mp h; omega) (iblk0 V c 0 t) (iblk0 V c 1 t) d Set.univ _)
    isplitl [H0]; · iexact H0
    isplitl [H1]; · iexact H1
    isplitl [H2]; · iexists _; iexact H2
    isplitl [HS]; · iexact HS
    isplitl [HT]; · iexists _; iexact HT
    iintro ⟨H0, H1, H2, HS, HT⟩
    isplitl [HS HT Hr Hg]
    · isplitl [HS]
      · iexists _
        isplitr; · ipureintro; exact inv0_step V c t d hd
        iexact HS
      isplitl [HT]
      · iexists _
        isplitr; · ipureintro; exact fun _ => (by rw [← runMax_step V c t, hA])
        iexact HT
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  by_cases h2 : t.val = 15
  · rw [live0_3 V c t h2, live0_4 V c t h2, after0_3, after0_4]
    iintro ⟨⟨⟨%d, %hd, HS⟩, ⟨%e, %he, HT⟩, Hr, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ _ _ (fun h => hA ((hc0_A t).mp h)) ((hc0_2 t).mpr h2) (iblk0 V c 0 t) (iblk0 V c 1 t) d e Set.univ _)
    isplitl [H0]; · iexact H0
    isplitl [H1]; · iexact H1
    isplitl [H2]; · iexists _; iexact H2
    isplitl [H3]; · iexists _; iexact H3
    isplitl [H4]; · iexists _; iexact H4
    isplitl [HS]; · iexact HS
    isplitl [HT]; · iexact HT
    rw [inv0_last V c t h2 d hd, he (by omega), runMax_step V c t, show t.val + 1 = 16 from by omega]
    iintro ⟨H0, H1, H2, H3, H4, HS, HT⟩
    isplitl [HS HT Hr Hg]
    · isplitl [HS]
      · iexists _
        isplitr; · ipureintro; exact (fun _ _ => rfl)
        iexact HS
      isplitl [HT]
      · iexists _
        isplitr; · ipureintro; exact fun _ => rfl
        iexact HT
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [leave0_3 V c t h2, leave0_4 V c t h2]
    iintro ⟨⟨⟨%d, %hd, HS⟩, ⟨%e, %he, HT⟩, Hr, Hg⟩, Ho, ⟨%d0, H0⟩, ⟨%d1, H1⟩, ⟨%d2, H2⟩, ⟨%d3, H3⟩, ⟨%d4, H4⟩⟩
    have he := he (by omega); subst he
    iapply (run0_mid c (grid0.coords t) _ _ _ _ _ _ _ _ _ _ _ _ _ _ (fun h => hA ((hc0_A t).mp h)) (fun h => h2 ((hc0_2 t).mp h)) (iblk0 V c 0 t) (iblk0 V c 1 t) d (runMax V c t.val) Set.univ _)
    isplitl [H0]; · iexact H0
    isplitl [H1]; · iexact H1
    isplitl [H2]; · iexists _; iexact H2
    isplitl [HS]; · iexact HS
    isplitl [HT]; · iexact HT
    iintro ⟨H0, H1, H2, HS, HT⟩
    isplitl [HS HT Hr Hg]
    · isplitl [HS]
      · iexists _
        isplitr; · ipureintro; exact inv0_step V c t d hd
        iexact HS
      isplitl [HT]
      · iexists _
        isplitr; · ipureintro; exact fun _ => runMax_step V c t
        iexact HT
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4

theorem row0 (t : Fin cfg0.N) : defs₀ (F := F) .tc cfg0.body (cfg0.bodyArgs t (cfg0.slots t)) = bodyAt0 t := by
  unfold defs₀; rw [Defs.onTc_tc]

/-- The body at every point. -/
theorem obligation0 : BodyObligation (dat0 (F := F) V c) (defs₀ (F := F)) Variants.none () Set.univ := fun t => by
  rw [bigSep_W0, bigSep_W0, row0]
  exact triple_restated (sound0 V c t) rfl .rfl fun _ => .rfl

/-- The call's start, and its end. -/
theorem enter0 : iprop(Pipeline.scopedRest spec0 c ∗ (∃ r, prngReg c r)) ⊢ ((dat0 V c).Φ 0 : sProp 𝕄) := by
  rw [show (dat0 V c).Φ 0 = keep0 V c 0 from rfl, scopedRest0_eq]
  simp only [keep0, scM0a, scM0b, owns_whole, rest0]
  iintro ⟨⟨⟨%d, HS⟩, ⟨%e, HT⟩, R0, R1, R2, R3, R4, R5, R6, R7, R8, R9, R10, R11, R12, R13⟩, Hg⟩
  isplitl [HS]
  · iexists d
    isplitr; · ipureintro; exact inv0_zero V c d
    iexact HS
  isplitl [HT]
  · iexists e
    isplitr; · ipureintro; exact fun h => absurd h (Nat.lt_irrefl 0)
    iexact HT
  isplitr [Hg]
  · skip
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact Hg

theorem exit0 : ((dat0 V c).Φ (Fin.last cfg0.N) : sProp 𝕄) ⊢ iprop(Pipeline.scopedRest spec0 c ∗ (∃ r, prngReg c r)) := by
  rw [show (dat0 V c).Φ (Fin.last cfg0.N) = keep0 V c cfg0.N from rfl, scopedRest0_eq]
  simp only [keep0, scM0a, scM0b, owns_whole, rest0]
  iintro ⟨⟨%d, -, HS⟩, ⟨%e, -, HT⟩, ⟨R0, R1, R2, R3, R4, R5, R6, R7, R8, R9, R10, R11, R12, R13⟩, Hg⟩
  isplitr [Hg]
  · isplitl [HS]; · iexists d; iexact HS
    isplitl [HT]; · iexists e; iexact HT
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact Hg

end Data

end Cert.Kernel.Run

end
-- ==== Proof.Kern.Pieces.lean ====
/- The pieces the quantising body stores at one grid point, as functions of the blocks it reads. -/
module

public import proofs.«01_k».proof.Proof.Gen.Kernel.Launch
public import proofs.«01_k».proof.Proof.Gen.Kernel.Skeleton
public import proofs.«01_k».proof.Proof.Gen.Kernel.Points
public import proofs.«01_k».proof.Proof.Quant.Tiles
public import Idealize.ShloMosaic.Lib.Pipeline.FrameBody

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- Rows 256·a to 256·a + 255 and columns 128·b to 128·b + 127 of the weight block. -/
def wPiece (x2 : Vec F S1024x256 .bf16) (a : Fin 4) (b : Fin 2) : Vec F S256x128 .bf16 :=
  View.ld x2 (Rect.unit (s := S1024x256) ![256 * a.val, 128 * b.val] S256x128.size (by
    intro k; match k with
    | ⟨0, _⟩ => show 256 * a.val + 256 ≤ 1024; omega
    | ⟨1, _⟩ => show 128 * b.val + 128 ≤ 256; omega))

/-- Rows 16·a to 16·a + 15 and columns 128·b to 128·b + 127 of the block of block maxima. -/
def rPiece (x3 : Vec F S64x256 .f32) (a : Fin 4) (b : Fin 2) : Vec F S16x128 .f32 :=
  View.ld x3 (Rect.unit (s := S64x256) ![16 * a.val, 128 * b.val] S16x128.size (by
    intro k; match k with
    | ⟨0, _⟩ => show 16 * a.val + 16 ≤ 64; omega
    | ⟨1, _⟩ => show 128 * b.val + 128 ≤ 256; omega))

/-- The codes of the even rows of a piece. -/
def nibLo (v0 : Elt F .f32) (w : Vec F S256x128 .bf16) (r : Vec F S16x128 .f32) : IVec S128x128 32 :=
  k1_pay18 (k1_pay11 v0 w r) (k1_pay12 v0 w r) (k1_pay13 v0 w r) k1_pay14

/-- The codes of the odd rows of a piece. -/
def nibHi (v0 : Elt F .f32) (w : Vec F S256x128 .bf16) (r : Vec F S16x128 .f32) : IVec S128x128 32 :=
  k1_pay26 (k1_pay20 (k1_pay5 w) (k1_pay9 v0 r) (k1_pay10 v0 r)) (k1_pay21 (k1_pay5 w) (k1_pay9 v0 r) (k1_pay10 v0 r)) (k1_pay22 (k1_pay5 w) (k1_pay9 v0 r) (k1_pay10 v0 r))

/-- The dequantised piece. -/
def deqPiece (v0 : Elt F .f32) (w : Vec F S256x128 .bf16) (r : Vec F S16x128 .f32) : FVec F S1x256x128 .bf16 :=
  k1_pay28 (k1_pay27 (k1_pay8 v0 r) (k1_pay19 (k1_pay8 v0 r) (k1_pay11 v0 w r) (k1_pay12 v0 w r) (k1_pay13 v0 w r) k1_pay14)
    (k1_pay20 (k1_pay5 w) (k1_pay9 v0 r) (k1_pay10 v0 r)) (k1_pay21 (k1_pay5 w) (k1_pay9 v0 r) (k1_pay10 v0 r)) (k1_pay22 (k1_pay5 w) (k1_pay9 v0 r) (k1_pay10 v0 r)))

/-- The piece of codes paired along the rows, transposed. -/
def cnPiece (v0 : Elt F .f32) (w : Vec F S256x128 .bf16) (r : Vec F S16x128 .f32) : IVec S128x128 8 :=
  k1_pay29 (nibLo v0 w r) (nibHi v0 w r)

/-- The codes of a piece paired along the columns, four rows to a word, in the first 64 lanes and again in the last. -/
def packed (v0 : Elt F .f32) (w : Vec F S256x128 .bf16) (r : Vec F S16x128 .f32) : IVec S64x128 32 :=
  k1_pay30 k1_pay4 (nibLo v0 w r) (nibHi v0 w r)

/-- Two packed pieces side by side, as bytes. -/
def ckPiece (v0 : Elt F .f32) (w : Vec F S256x128 .bf16) (r : Vec F S16x128 .f32) (w' : Vec F S256x128 .bf16) (r' : Vec F S16x128 .f32) :
    IVec S256x128 8 :=
  bitcast S256x128 8 (select (cmpi .slt (iota .tc S64x128 32 [1] iota_S64x128_d1_w32) (broadcast S64x128 64#32)) (packed v0 w r) (packed v0 w' r'))
    bitcasts_S64x128_w32_S256x128_w8

/-- One column tile of the product, scaled. -/
def yPiece (v0 : Elt F .f32) (x1 : Vec F S768x3072 .bf16) (D : Vec F S1x256x3072 .bf16) : FVec F S768x256 .bf16 :=
  k1_pay460 v0 x1 D

/-- Rows 256·b to 256·b + 255 of level `h` of the two dequantised tiles. -/
def dPiece (ds : Vec F S2x1024x3072 .bf16) (h : ℕ) (b : Fin 4) : Vec F S1x256x3072 .bf16 :=
  fun y => ds (ix3 (Fin.ofNat 2 h) (Fin.ofNat 1024 (256 * b.val + (y 1).val)) (y 2))

/-- The scalar the body reads from its first operand. -/
def s0 (x0 : Vec F S1x1 .f32) : Elt F .f32 :=
  View.ld x0 (Rect.unit (s := S1x1) ![0, 0] S1x1.size inb_S1x1_S1x1_0_0) (Shape.Idx.first (by decide))

theorem s0_eq (x0 : Vec F S1x1 .f32) : s0 x0 = x0 (ix2 0 0) :=
  congrArg x0 (funext fun k => match k with | ⟨0, _⟩ => rfl | ⟨1, _⟩ => rfl)

def deqTiles (v0 : Elt F .f32) (x2 : Vec F S1024x256 .bf16) (x3 : Vec F S64x256 .f32) (a : Fin 4) (b : Fin 2) : S1x256x128.Idx → Elt F .bf16 :=
  deqPiece v0 (wPiece x2 a b) (rPiece x3 a b)

def ckTiles (v0 : Elt F .f32) (x2 : Vec F S1024x256 .bf16) (x3 : Vec F S64x256 .f32) (a : Fin 4) (b : Fin 1) : S256x128.Idx → Elt F .i8 :=
  ckPiece v0 (wPiece x2 a 0) (rPiece x3 a 0) (wPiece x2 a 1) (rPiece x3 a 1)

def cnTiles (v0 : Elt F .f32) (x2 : Vec F S1024x256 .bf16) (x3 : Vec F S64x256 .f32) (b : Fin 2) (a : Fin 4) : S128x128.Idx → Elt F .i8 :=
  cnPiece v0 (wPiece x2 a b) (rPiece x3 a b)

def yTiles (v0 : Elt F .f32) (x1 : Vec F S768x3072 .bf16) (ds : Vec F S2x1024x3072 .bf16) (h : ℕ) (a : Fin 1) (b : Fin 4) : S768x256.Idx → Elt F .bf16 :=
  yPiece v0 x1 (dPiece ds h b)

/-- The block of codes paired along the columns. -/
def ckBlock (x0 : Vec F S1x1 .f32) (x2 : Vec F S1024x256 .bf16) (x3 : Vec F S64x256 .f32) : Vec F S1024x128 .i8 :=
  Tiles.tile2 (ckTiles (s0 x0) x2 x3)

/-- The block of codes paired along the rows, transposed. -/
def cnBlock (x0 : Vec F S1x1 .f32) (x2 : Vec F S1024x256 .bf16) (x3 : Vec F S64x256 .f32) : Vec F S256x512 .i8 :=
  Tiles.tile2 (cnTiles (s0 x0) x2 x3)

/-- The product with level `h` of the dequantised tiles. -/
def yBlock (x0 : Vec F S1x1 .f32) (x1 : Vec F S768x3072 .bf16) (ds : Vec F S2x1024x3072 .bf16) (h : ℕ) : Vec F S768x1024 .bf16 :=
  Tiles.tile2 (yTiles (s0 x0) x1 ds h)

/-- The two dequantised tiles after point (i, j): on level i mod 2 the columns 256·j to 256·j + 255 are the block's. -/
def scr (i j : ℕ) (x0 : Vec F S1x1 .f32) (x2 : Vec F S1024x256 .bf16) (x3 : Vec F S64x256 .f32) (ds : Vec F S2x1024x3072 .bf16) : Vec F S2x1024x3072 .bf16 :=
  fun y => if (y 0).val = i % 2 ∧ 256 * j ≤ (y 2).val ∧ (y 2).val < 256 * j + 256 then Tiles.tile3 (deqTiles (s0 x0) x2 x3) y else ds y

/-- The eight stores of one point's dequantised pieces leave the tiles with that point's columns replaced. -/
theorem scr_writes (v : View sig .tc .vmem S2x1024x3072 .bf16) (f : v.ty.Contents (Elt F)) (i j : ℕ) (hj : j < 12)
    (x0 : Vec F S1x1 .f32) (x2 : Vec F S1024x256 .bf16) (x3 : Vec F S64x256 .f32)
    (o31 o30 o21 o20 o11 o10 o01 o00 : Fin 3 → ℕ)
    (n31 : ∀ k, o31 k + S1x256x128.size k ≤ S2x1024x3072.size k) (n30 : ∀ k, o30 k + S1x256x128.size k ≤ S2x1024x3072.size k) (n21 : ∀ k, o21 k + S1x256x128.size k ≤ S2x1024x3072.size k) (n20 : ∀ k, o20 k + S1x256x128.size k ≤ S2x1024x3072.size k) (n11 : ∀ k, o11 k + S1x256x128.size k ≤ S2x1024x3072.size k) (n10 : ∀ k, o10 k + S1x256x128.size k ≤ S2x1024x3072.size k) (n01 : ∀ k, o01 k + S1x256x128.size k ≤ S2x1024x3072.size k) (n00 : ∀ k, o00 k + S1x256x128.size k ≤ S2x1024x3072.size k)
    (w31 w30 w21 w20 w11 w10 w01 w00 : S1x256x128.Idx → Elt F .bf16)
    (e31 : o31 = ![i % 2, 768, 256 * j + 128]) (e30 : o30 = ![i % 2, 768, 256 * j + 0]) (e21 : o21 = ![i % 2, 512, 256 * j + 128]) (e20 : o20 = ![i % 2, 512, 256 * j + 0]) (e11 : o11 = ![i % 2, 256, 256 * j + 128]) (e10 : o10 = ![i % 2, 256, 256 * j + 0]) (e01 : o01 = ![i % 2, 0, 256 * j + 128]) (e00 : o00 = ![i % 2, 0, 256 * j + 0])
    (q31 : w31 = deqTiles (s0 x0) x2 x3 3 1) (q30 : w30 = deqTiles (s0 x0) x2 x3 3 0) (q21 : w21 = deqTiles (s0 x0) x2 x3 2 1) (q20 : w20 = deqTiles (s0 x0) x2 x3 2 0) (q11 : w11 = deqTiles (s0 x0) x2 x3 1 1) (q10 : w10 = deqTiles (s0 x0) x2 x3 1 0) (q01 : w01 = deqTiles (s0 x0) x2 x3 0 1) (q00 : w00 = deqTiles (s0 x0) x2 x3 0 0) :
    v.read (Elt F) (v.writes (Elt F) f [⟨Rect.unit (s := S2x1024x3072) o31 S1x256x128.size n31, w31⟩, ⟨Rect.unit (s := S2x1024x3072) o30 S1x256x128.size n30, w30⟩, ⟨Rect.unit (s := S2x1024x3072) o21 S1x256x128.size n21, w21⟩, ⟨Rect.unit (s := S2x1024x3072) o20 S1x256x128.size n20, w20⟩, ⟨Rect.unit (s := S2x1024x3072) o11 S1x256x128.size n11, w11⟩, ⟨Rect.unit (s := S2x1024x3072) o10 S1x256x128.size n10, w10⟩, ⟨Rect.unit (s := S2x1024x3072) o01 S1x256x128.size n01, w01⟩, ⟨Rect.unit (s := S2x1024x3072) o00 S1x256x128.size n00, w00⟩]) = scr i j x0 x2 x3 (v.read (Elt F) f) := by
  refine Tiles.read_writes_where _ _ (Tiles.tile3 (deqTiles (s0 x0) x2 x3))
    (fun y => (y 0).val = i % 2 ∧ 256 * j ≤ (y 2).val ∧ (y 2).val < 256 * j + 256) _ ?_ ?_
  · simp only [List.forall_mem_cons, List.not_mem_nil, false_imp_iff, implies_true, and_true]
    refine ⟨fun x => ?_, fun x => ?_, fun x => ?_, fun x => ?_, fun x => ?_, fun x => ?_, fun x => ?_, fun x => ?_⟩
    · exact Eq.trans (congrFun q31 x) (Tiles.tile3_emb (deqTiles (s0 x0) x2 x3) 3 1 j _ _ (by rw [e31]; rfl) (by rw [e31]; show 256 * j + 128 = 128 * (2 * j + 1); omega) x).symm
    · exact Eq.trans (congrFun q30 x) (Tiles.tile3_emb (deqTiles (s0 x0) x2 x3) 3 0 j _ _ (by rw [e30]; rfl) (by rw [e30]; show 256 * j + 0 = 128 * (2 * j + 0); omega) x).symm
    · exact Eq.trans (congrFun q21 x) (Tiles.tile3_emb (deqTiles (s0 x0) x2 x3) 2 1 j _ _ (by rw [e21]; rfl) (by rw [e21]; show 256 * j + 128 = 128 * (2 * j + 1); omega) x).symm
    · exact Eq.trans (congrFun q20 x) (Tiles.tile3_emb (deqTiles (s0 x0) x2 x3) 2 0 j _ _ (by rw [e20]; rfl) (by rw [e20]; show 256 * j + 0 = 128 * (2 * j + 0); omega) x).symm
    · exact Eq.trans (congrFun q11 x) (Tiles.tile3_emb (deqTiles (s0 x0) x2 x3) 1 1 j _ _ (by rw [e11]; rfl) (by rw [e11]; show 256 * j + 128 = 128 * (2 * j + 1); omega) x).symm
    · exact Eq.trans (congrFun q10 x) (Tiles.tile3_emb (deqTiles (s0 x0) x2 x3) 1 0 j _ _ (by rw [e10]; rfl) (by rw [e10]; show 256 * j + 0 = 128 * (2 * j + 0); omega) x).symm
    · exact Eq.trans (congrFun q01 x) (Tiles.tile3_emb (deqTiles (s0 x0) x2 x3) 0 1 j _ _ (by rw [e01]; rfl) (by rw [e01]; show 256 * j + 128 = 128 * (2 * j + 1); omega) x).symm
    · exact Eq.trans (congrFun q00 x) (Tiles.tile3_emb (deqTiles (s0 x0) x2 x3) 0 0 j _ _ (by rw [e00]; rfl) (by rw [e00]; show 256 * j + 0 = 128 * (2 * j + 0); omega) x).symm
  · intro y
    have h0 : (y 0).val < 2 := (y 0).isLt
    have h1 : (y 1).val < 1024 := (y 1).isLt
    have h2 : (y 2).val < 3072 := (y 2).isLt
    simp only [List.exists_mem_cons_iff, List.not_mem_nil, _root_.false_and, exists_false, exists_const, _root_.or_false, Rect.mem_set_unit, Fin.forall_fin_succ, Fin.forall_fin_zero_pi, e31, e30, e21, e20, e11, e10, e01, e00]
    simp only [Matrix.cons_val_zero, Matrix.cons_val_one, Matrix.cons_val_succ, Fin.succ_zero_eq_one, Fin.succ_one_eq_two, Matrix.cons_val, IsEmpty.forall_iff, and_true]
    generalize i % 2 = w at *
    generalize (y 0).val = p at *; generalize (y 1).val = q at *; generalize (y 2).val = s at *
    constructor
    · intro h
      obtain ⟨ha, hb, hc⟩ := h
      omega
    · intro h
      rcases h with h | h | h | h | h | h | h | h <;> exact ⟨by omega, by omega, by omega⟩

/-- Level `h`'s rows read through the rectangle the body loads them from. -/
theorem ld_dPiece (ds : Vec F S2x1024x3072 .bf16) (h : ℕ) (hh : h < 2) (b : Fin 4) (off : Fin 3 → ℕ) (inb) (h0 : off 0 = h) (h1 : off 1 = 256 * b.val) (h2 : off 2 = 0) :
    View.ld ds (Rect.unit (s := S2x1024x3072) off S1x256x3072.size inb) = dPiece ds h b := by
  funext y
  refine congrArg ds (funext fun k => Fin.ext ?_)
  have y0 : (y 0).val = 0 := by have := (y 0).isLt; change (y 0).val < 1 at this; omega
  have y1 : (y 1).val < 256 := (y 1).isLt
  have hb := b.isLt
  match k with
  | ⟨0, _⟩ => show off 0 + 1 * (y 0).val = h % 2; rw [h0, y0]; omega
  | ⟨1, _⟩ => show off 1 + 1 * (y 1).val = (256 * b.val + (y 1).val) % 1024; rw [h1]; omega
  | ⟨2, _⟩ => show off 2 + 1 * (y 2).val = (y 2).val; rw [h2]; omega

/-- The level the point does not write is untouched. -/
theorem dPiece_scr (i j h : ℕ) (hh : h < 2) (hi : h ≠ i % 2) (x0 : Vec F S1x1 .f32) (x2 : Vec F S1024x256 .bf16) (x3 : Vec F S64x256 .f32) (ds : Vec F S2x1024x3072 .bf16) (b : Fin 4) :
    dPiece (scr i j x0 x2 x3 ds) h b = dPiece ds h b := by
  funext y
  refine if_neg fun hc => hi ?_
  have := hc.1
  change h % 2 = i % 2 at this
  omega

end Cert.Kernel.Run

end
-- ==== Proof.Kern.RunA.lean ====
/- The run of the body at the points of the first tile: the quantisation alone. -/
module

public import proofs.«01_k».proof.Proof.Kern.Pieces
public import Idealize.ShloMosaic.Lib.Pipeline.Value
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
theorem runA (c : Dev nD) (i : grid1.Coords) (arg2 : Memref sig .tc .smem S1x1 .f32) (harg2 : arg2.IsWhole) (arg3 : Memref sig .tc .vmem S768x3072 .bf16) (harg3 : arg3.IsWhole) (arg4 : Memref sig .tc .vmem S1024x256 .bf16) (harg4 : arg4.IsWhole) (arg5 : Memref sig .tc .vmem S64x256 .f32) (harg5 : arg5.IsWhole) (arg6 : Memref sig .tc .vmem S768x1024 .bf16) (harg6 : arg6.IsWhole) (arg7 : Memref sig .tc .vmem S1024x128 .i8) (harg7 : arg7.IsWhole) (arg8 : Memref sig .tc .vmem S256x512 .i8) (harg8 : arg8.IsWhole) (arg9 : Memref sig .tc .vmem S2x1024x3072 .bf16) (harg9 : arg9.IsWhole)
    (hc0 : k1_cond1 i = 1#1) (hc1 : ¬(k1_cond2 i = 1#1)) (hc2 : ¬(k1_cond3 i = 1#1))
    (x0 : Vec F S1x1 .f32) (x1 : Vec F S768x3072 .bf16) (x2 : Vec F S1024x256 .bf16) (x3 : Vec F S64x256 .f32) (ds : Vec F S2x1024x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ owns (c : Thread nD τ) arg9 fullShare ds
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare (ckBlock x0 x2 x3) ∗ owns (c : Thread nD τ) arg8 fullShare (cnBlock x0 x2 x3) ∗ owns (c : Thread nD τ) arg9 fullShare (scr (i 0).val (i 1).val x0 x2 x3 ds)) -∗ K ⟨⟩))
          ⊢ wp frame (wpE (defs₀ (F := F)) Variants.none c none) E (cc1_quant_matmul i arg2 harg2 arg3 harg3 arg4 harg4 arg5 harg5 arg6 harg6 arg7 harg7 arg8 harg8 arg9 harg9) K := by
    intro E K
    simp only [cc1_quant_matmul_eq_skeleton]; unfold cc1_quant_matmul_skel
    simp only [hc0, hc1, hc2, ↓reduceDIte]
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%fs0, %hfs0, HS0⟩, Hk⟩
    subst hf0; subst hf1; subst hf2; subst hf3; subst hfs0
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H7]
    · iexists _; isplitr; swap; · iexact H7
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_⟩
        · exact Eq.trans (congrFun (by rfl : _ = ckTiles (s0 (arg2.view.read (Elt F) f0)) (arg4.view.read (Elt F) f2) (arg5.view.read (Elt F) f3) 3 0) x) (Tiles.tile2_emb (ckTiles (s0 (arg2.view.read (Elt F) f0)) (arg4.view.read (Elt F) f2) (arg5.view.read (Elt F) f3)) 3 0 _ _ rfl rfl x).symm
        · exact Eq.trans (congrFun (by rfl : _ = ckTiles (s0 (arg2.view.read (Elt F) f0)) (arg4.view.read (Elt F) f2) (arg5.view.read (Elt F) f3) 2 0) x) (Tiles.tile2_emb (ckTiles (s0 (arg2.view.read (Elt F) f0)) (arg4.view.read (Elt F) f2) (arg5.view.read (Elt F) f3)) 2 0 _ _ rfl rfl x).symm
        · exact Eq.trans (congrFun (by rfl : _ = ckTiles (s0 (arg2.view.read (Elt F) f0)) (arg4.view.read (Elt F) f2) (arg5.view.read (Elt F) f3) 1 0) x) (Tiles.tile2_emb (ckTiles (s0 (arg2.view.read (Elt F) f0)) (arg4.view.read (Elt F) f2) (arg5.view.read (Elt F) f3)) 1 0 _ _ rfl rfl x).symm
        · exact Eq.trans (congrFun (by rfl : _ = ckTiles (s0 (arg2.view.read (Elt F) f0)) (arg4.view.read (Elt F) f2) (arg5.view.read (Elt F) f3) 0 0) x) (Tiles.tile2_emb (ckTiles (s0 (arg2.view.read (Elt F) f0)) (arg4.view.read (Elt F) f2) (arg5.view.read (Elt F) f3)) 0 0 _ _ rfl rfl x).symm
      · intro y
        have h0 : (y 0).val < 1024 := (y 0).isLt
        have h1 : (y 1).val < 128 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    isplitl [H8]
    · iexists _; isplitr; swap; · iexact H8
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_, fun x => ?_, fun x => ?_, fun x => ?_, fun x => ?_⟩
        · exact Eq.trans (congrFun (by rfl : _ = cnTiles (s0 (arg2.view.read (Elt F) f0)) (arg4.view.read (Elt F) f2) (arg5.view.read (Elt F) f3) 1 3) x) (Tiles.tile2_emb (cnTiles (s0 (arg2.view.read (Elt F) f0)) (arg4.view.read (Elt F) f2) (arg5.view.read (Elt F) f3)) 1 3 _ _ rfl rfl x).symm
        · exact Eq.trans (congrFun (by rfl : _ = cnTiles (s0 (arg2.view.read (Elt F) f0)) (arg4.view.read (Elt F) f2) (arg5.view.read (Elt F) f3) 0 3) x) (Tiles.tile2_emb (cnTiles (s0 (arg2.view.read (Elt F) f0)) (arg4.view.read (Elt F) f2) (arg5.view.read (Elt F) f3)) 0 3 _ _ rfl rfl x).symm
        · exact Eq.trans (congrFun (by rfl : _ = cnTiles (s0 (arg2.view.read (Elt F) f0)) (arg4.view.read (Elt F) f2) (arg5.view.read (Elt F) f3) 1 2) x) (Tiles.tile2_emb (cnTiles (s0 (arg2.view.read (Elt F) f0)) (arg4.view.read (Elt F) f2) (arg5.view.read (Elt F) f3)) 1 2 _ _ rfl rfl x).symm
        · exact Eq.trans (congrFun (by rfl : _ = cnTiles (s0 (arg2.view.read (Elt F) f0)) (arg4.view.read (Elt F) f2) (arg5.view.read (Elt F) f3) 0 2) x) (Tiles.tile2_emb (cnTiles (s0 (arg2.view.read (Elt F) f0)) (arg4.view.read (Elt F) f2) (arg5.view.read (Elt F) f3)) 0 2 _ _ rfl rfl x).symm
        · exact Eq.trans (congrFun (by rfl : _ = cnTiles (s0 (arg2.view.read (Elt F) f0)) (arg4.view.read (Elt F) f2) (arg5.view.read (Elt F) f3) 1 1) x) (Tiles.tile2_emb (cnTiles (s0 (arg2.view.read (Elt F) f0)) (arg4.view.read (Elt F) f2) (arg5.view.read (Elt F) f3)) 1 1 _ _ rfl rfl x).symm
        · exact Eq.trans (congrFun (by rfl : _ = cnTiles (s0 (arg2.view.read (Elt F) f0)) (arg4.view.read (Elt F) f2) (arg5.view.read (Elt F) f3) 0 1) x) (Tiles.tile2_emb (cnTiles (s0 (arg2.view.read (Elt F) f0)) (arg4.view.read (Elt F) f2) (arg5.view.read (Elt F) f3)) 0 1 _ _ rfl rfl x).symm
        · exact Eq.trans (congrFun (by rfl : _ = cnTiles (s0 (arg2.view.read (Elt F) f0)) (arg4.view.read (Elt F) f2) (arg5.view.read (Elt F) f3) 1 0) x) (Tiles.tile2_emb (cnTiles (s0 (arg2.view.read (Elt F) f0)) (arg4.view.read (Elt F) f2) (arg5.view.read (Elt F) f3)) 1 0 _ _ rfl rfl x).symm
        · exact Eq.trans (congrFun (by rfl : _ = cnTiles (s0 (arg2.view.read (Elt F) f0)) (arg4.view.read (Elt F) f2) (arg5.view.read (Elt F) f3) 0 0) x) (Tiles.tile2_emb (cnTiles (s0 (arg2.view.read (Elt F) f0)) (arg4.view.read (Elt F) f2) (arg5.view.read (Elt F) f3)) 0 0 _ _ rfl rfl x).symm
      · intro y
        have h0 : (y 0).val < 256 := (y 0).isLt
        have h1 : (y 1).val < 512 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    iexists _; isplitr; swap; · iexact HS0
    ipureintro
    exact scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off4_eq i 1) (k1_off4_eq i 0) (k1_off3_eq i 1) (k1_off3_eq i 0) (k1_off2_eq i 1) (k1_off2_eq i 0) (k1_off1_eq i 1) (k1_off1_eq i 0) (by rfl) (by rfl) (by rfl) (by rfl) (by rfl) (by rfl) (by rfl) (by rfl)

end Cert.Kernel.Run

end
-- ==== Proof.Kern.RunB.lean ====
/- The run of the body at the points of the middle tiles: the quantisation of one tile and the product with the one before. -/
module

public import proofs.«01_k».proof.Proof.Kern.Pieces
public import Idealize.ShloMosaic.Lib.Pipeline.Value
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
theorem runB (c : Dev nD) (i : grid1.Coords) (arg2 : Memref sig .tc .smem S1x1 .f32) (harg2 : arg2.IsWhole) (arg3 : Memref sig .tc .vmem S768x3072 .bf16) (harg3 : arg3.IsWhole) (arg4 : Memref sig .tc .vmem S1024x256 .bf16) (harg4 : arg4.IsWhole) (arg5 : Memref sig .tc .vmem S64x256 .f32) (harg5 : arg5.IsWhole) (arg6 : Memref sig .tc .vmem S768x1024 .bf16) (harg6 : arg6.IsWhole) (arg7 : Memref sig .tc .vmem S1024x128 .i8) (harg7 : arg7.IsWhole) (arg8 : Memref sig .tc .vmem S256x512 .i8) (harg8 : arg8.IsWhole) (arg9 : Memref sig .tc .vmem S2x1024x3072 .bf16) (harg9 : arg9.IsWhole)
    (hc0 : ¬(k1_cond1 i = 1#1)) (hc1 : k1_cond2 i = 1#1) (hc2 : ¬(k1_cond3 i = 1#1))
    (x0 : Vec F S1x1 .f32) (x1 : Vec F S768x3072 .bf16) (x2 : Vec F S1024x256 .bf16) (x3 : Vec F S64x256 .f32) (ds : Vec F S2x1024x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare ds
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yBlock x0 x1 ds (1 - (i 0).val % 2)) ∗ owns (c : Thread nD τ) arg7 fullShare (ckBlock x0 x2 x3) ∗ owns (c : Thread nD τ) arg8 fullShare (cnBlock x0 x2 x3) ∗ owns (c : Thread nD τ) arg9 fullShare (scr (i 0).val (i 1).val x0 x2 x3 ds)) -∗ K ⟨⟩))
          ⊢ wp frame (wpE (defs₀ (F := F)) Variants.none c none) E (cc1_quant_matmul i arg2 harg2 arg3 harg3 arg4 harg4 arg5 harg5 arg6 harg6 arg7 harg7 arg8 harg8 arg9 harg9) K := by
    intro E K
    simp only [cc1_quant_matmul_eq_skeleton]; unfold cc1_quant_matmul_skel
    simp only [hc0, hc1, hc2, ↓reduceDIte]
    simp only [k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%fs0, %hfs0, HS0⟩, Hk⟩
    subst hf0; subst hf1; subst hf2; subst hf3; subst hfs0
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H6]
    · iexists _; isplitr; swap; · iexact H6
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_⟩
        · refine Eq.trans ?_ (Tiles.tile2_emb (yTiles (s0 (arg2.view.read (Elt F) f0)) (arg3.view.read (Elt F) f1) (arg9.view.read (Elt F) fs0) (1 - (i 0).val % 2)) 0 3 _ _ rfl rfl x).symm
          refine congrFun (Eq.trans (b := yPiece (s0 (arg2.view.read (Elt F) f0)) (View.ld (arg3.view.read (Elt F) f1) (Rect.unit (s := S768x3072) ![0, 0] S768x3072.size inb_S768x3072_S768x3072_0_0)) (View.readAt (Elt F) arg9.view (Rect.unit (s := S2x1024x3072) (k1_off12 i) S1x256x3072.size (k1_off12_inb i hc1)).toLoadRect (arg9.view.writes (Elt F) fs0 _))) (by rfl) ?_) x
          rw [View.ld_unit_zero (by funext k; match k with | ⟨0, _⟩ => rfl | ⟨1, _⟩ => rfl), View.readAt_eq_ld]
          refine (congrArg (fun z => yPiece (s0 (arg2.view.read (Elt F) f0)) (arg3.view.read (Elt F) f1) (View.ld z (Rect.unit (s := S2x1024x3072) (k1_off12 i) S1x256x3072.size (k1_off12_inb i hc1)))) (scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl))).trans ?_
          dsimp only
          rw [ld_dPiece _ (1 - (i 0).val % 2) (by omega) 3 (k1_off12 i) (k1_off12_inb i hc1) (by rw [k1_off12_eq]; rfl) (by rw [k1_off12_eq]; rfl) (by rw [k1_off12_eq]; rfl), dPiece_scr _ _ _ (by omega) (by omega)]
          rfl
        · refine Eq.trans ?_ (Tiles.tile2_emb (yTiles (s0 (arg2.view.read (Elt F) f0)) (arg3.view.read (Elt F) f1) (arg9.view.read (Elt F) fs0) (1 - (i 0).val % 2)) 0 2 _ _ rfl rfl x).symm
          refine congrFun (Eq.trans (b := yPiece (s0 (arg2.view.read (Elt F) f0)) (View.ld (arg3.view.read (Elt F) f1) (Rect.unit (s := S768x3072) ![0, 0] S768x3072.size inb_S768x3072_S768x3072_0_0)) (View.readAt (Elt F) arg9.view (Rect.unit (s := S2x1024x3072) (k1_off11 i) S1x256x3072.size (k1_off11_inb i hc1)).toLoadRect (arg9.view.writes (Elt F) fs0 _))) (by rfl) ?_) x
          rw [View.ld_unit_zero (by funext k; match k with | ⟨0, _⟩ => rfl | ⟨1, _⟩ => rfl), View.readAt_eq_ld]
          refine (congrArg (fun z => yPiece (s0 (arg2.view.read (Elt F) f0)) (arg3.view.read (Elt F) f1) (View.ld z (Rect.unit (s := S2x1024x3072) (k1_off11 i) S1x256x3072.size (k1_off11_inb i hc1)))) (scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl))).trans ?_
          dsimp only
          rw [ld_dPiece _ (1 - (i 0).val % 2) (by omega) 2 (k1_off11 i) (k1_off11_inb i hc1) (by rw [k1_off11_eq]; rfl) (by rw [k1_off11_eq]; rfl) (by rw [k1_off11_eq]; rfl), dPiece_scr _ _ _ (by omega) (by omega)]
          rfl
        · refine Eq.trans ?_ (Tiles.tile2_emb (yTiles (s0 (arg2.view.read (Elt F) f0)) (arg3.view.read (Elt F) f1) (arg9.view.read (Elt F) fs0) (1 - (i 0).val % 2)) 0 1 _ _ rfl rfl x).symm
          refine congrFun (Eq.trans (b := yPiece (s0 (arg2.view.read (Elt F) f0)) (View.ld (arg3.view.read (Elt F) f1) (Rect.unit (s := S768x3072) ![0, 0] S768x3072.size inb_S768x3072_S768x3072_0_0)) (View.readAt (Elt F) arg9.view (Rect.unit (s := S2x1024x3072) (k1_off10 i) S1x256x3072.size (k1_off10_inb i hc1)).toLoadRect (arg9.view.writes (Elt F) fs0 _))) (by rfl) ?_) x
          rw [View.ld_unit_zero (by funext k; match k with | ⟨0, _⟩ => rfl | ⟨1, _⟩ => rfl), View.readAt_eq_ld]
          refine (congrArg (fun z => yPiece (s0 (arg2.view.read (Elt F) f0)) (arg3.view.read (Elt F) f1) (View.ld z (Rect.unit (s := S2x1024x3072) (k1_off10 i) S1x256x3072.size (k1_off10_inb i hc1)))) (scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl))).trans ?_
          dsimp only
          rw [ld_dPiece _ (1 - (i 0).val % 2) (by omega) 1 (k1_off10 i) (k1_off10_inb i hc1) (by rw [k1_off10_eq]; rfl) (by rw [k1_off10_eq]; rfl) (by rw [k1_off10_eq]; rfl), dPiece_scr _ _ _ (by omega) (by omega)]
          rfl
        · refine Eq.trans ?_ (Tiles.tile2_emb (yTiles (s0 (arg2.view.read (Elt F) f0)) (arg3.view.read (Elt F) f1) (arg9.view.read (Elt F) fs0) (1 - (i 0).val % 2)) 0 0 _ _ rfl rfl x).symm
          refine congrFun (Eq.trans (b := yPiece (s0 (arg2.view.read (Elt F) f0)) (View.ld (arg3.view.read (Elt F) f1) (Rect.unit (s := S768x3072) ![0, 0] S768x3072.size inb_S768x3072_S768x3072_0_0)) (View.readAt (Elt F) arg9.view (Rect.unit (s := S2x1024x3072) (k1_off9 i) S1x256x3072.size (k1_off9_inb i hc1)).toLoadRect (arg9.view.writes (Elt F) fs0 _))) (by rfl) ?_) x
          rw [View.ld_unit_zero (by funext k; match k with | ⟨0, _⟩ => rfl | ⟨1, _⟩ => rfl), View.readAt_eq_ld]
          refine (congrArg (fun z => yPiece (s0 (arg2.view.read (Elt F) f0)) (arg3.view.read (Elt F) f1) (View.ld z (Rect.unit (s := S2x1024x3072) (k1_off9 i) S1x256x3072.size (k1_off9_inb i hc1)))) (scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl))).trans ?_
          dsimp only
          rw [ld_dPiece _ (1 - (i 0).val % 2) (by omega) 0 (k1_off9 i) (k1_off9_inb i hc1) (by rw [k1_off9_eq]; rfl) (by rw [k1_off9_eq]; rfl) (by rw [k1_off9_eq]; rfl), dPiece_scr _ _ _ (by omega) (by omega)]
          rfl
      · intro y
        have h0 : (y 0).val < 768 := (y 0).isLt
        have h1 : (y 1).val < 1024 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    isplitl [H7]
    · iexists _; isplitr; swap; · iexact H7
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_⟩
        · exact Eq.trans (congrFun (by rfl : _ = ckTiles (s0 (arg2.view.read (Elt F) f0)) (arg4.view.read (Elt F) f2) (arg5.view.read (Elt F) f3) 3 0) x) (Tiles.tile2_emb (ckTiles (s0 (arg2.view.read (Elt F) f0)) (arg4.view.read (Elt F) f2) (arg5.view.read (Elt F) f3)) 3 0 _ _ rfl rfl x).symm
        · exact Eq.trans (congrFun (by rfl : _ = ckTiles (s0 (arg2.view.read (Elt F) f0)) (arg4.view.read (Elt F) f2) (arg5.view.read (Elt F) f3) 2 0) x) (Tiles.tile2_emb (ckTiles (s0 (arg2.view.read (Elt F) f0)) (arg4.view.read (Elt F) f2) (arg5.view.read (Elt F) f3)) 2 0 _ _ rfl rfl x).symm
        · exact Eq.trans (congrFun (by rfl : _ = ckTiles (s0 (arg2.view.read (Elt F) f0)) (arg4.view.read (Elt F) f2) (arg5.view.read (Elt F) f3) 1 0) x) (Tiles.tile2_emb (ckTiles (s0 (arg2.view.read (Elt F) f0)) (arg4.view.read (Elt F) f2) (arg5.view.read (Elt F) f3)) 1 0 _ _ rfl rfl x).symm
        · exact Eq.trans (congrFun (by rfl : _ = ckTiles (s0 (arg2.view.read (Elt F) f0)) (arg4.view.read (Elt F) f2) (arg5.view.read (Elt F) f3) 0 0) x) (Tiles.tile2_emb (ckTiles (s0 (arg2.view.read (Elt F) f0)) (arg4.view.read (Elt F) f2) (arg5.view.read (Elt F) f3)) 0 0 _ _ rfl rfl x).symm
      · intro y
        have h0 : (y 0).val < 1024 := (y 0).isLt
        have h1 : (y 1).val < 128 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    isplitl [H8]
    · iexists _; isplitr; swap; · iexact H8
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_, fun x => ?_, fun x => ?_, fun x => ?_, fun x => ?_⟩
        · exact Eq.trans (congrFun (by rfl : _ = cnTiles (s0 (arg2.view.read (Elt F) f0)) (arg4.view.read (Elt F) f2) (arg5.view.read (Elt F) f3) 1 3) x) (Tiles.tile2_emb (cnTiles (s0 (arg2.view.read (Elt F) f0)) (arg4.view.read (Elt F) f2) (arg5.view.read (Elt F) f3)) 1 3 _ _ rfl rfl x).symm
        · exact Eq.trans (congrFun (by rfl : _ = cnTiles (s0 (arg2.view.read (Elt F) f0)) (arg4.view.read (Elt F) f2) (arg5.view.read (Elt F) f3) 0 3) x) (Tiles.tile2_emb (cnTiles (s0 (arg2.view.read (Elt F) f0)) (arg4.view.read (Elt F) f2) (arg5.view.read (Elt F) f3)) 0 3 _ _ rfl rfl x).symm
        · exact Eq.trans (congrFun (by rfl : _ = cnTiles (s0 (arg2.view.read (Elt F) f0)) (arg4.view.read (Elt F) f2) (arg5.view.read (Elt F) f3) 1 2) x) (Tiles.tile2_emb (cnTiles (s0 (arg2.view.read (Elt F) f0)) (arg4.view.read (Elt F) f2) (arg5.view.read (Elt F) f3)) 1 2 _ _ rfl rfl x).symm
        · exact Eq.trans (congrFun (by rfl : _ = cnTiles (s0 (arg2.view.read (Elt F) f0)) (arg4.view.read (Elt F) f2) (arg5.view.read (Elt F) f3) 0 2) x) (Tiles.tile2_emb (cnTiles (s0 (arg2.view.read (Elt F) f0)) (arg4.view.read (Elt F) f2) (arg5.view.read (Elt F) f3)) 0 2 _ _ rfl rfl x).symm
        · exact Eq.trans (congrFun (by rfl : _ = cnTiles (s0 (arg2.view.read (Elt F) f0)) (arg4.view.read (Elt F) f2) (arg5.view.read (Elt F) f3) 1 1) x) (Tiles.tile2_emb (cnTiles (s0 (arg2.view.read (Elt F) f0)) (arg4.view.read (Elt F) f2) (arg5.view.read (Elt F) f3)) 1 1 _ _ rfl rfl x).symm
        · exact Eq.trans (congrFun (by rfl : _ = cnTiles (s0 (arg2.view.read (Elt F) f0)) (arg4.view.read (Elt F) f2) (arg5.view.read (Elt F) f3) 0 1) x) (Tiles.tile2_emb (cnTiles (s0 (arg2.view.read (Elt F) f0)) (arg4.view.read (Elt F) f2) (arg5.view.read (Elt F) f3)) 0 1 _ _ rfl rfl x).symm
        · exact Eq.trans (congrFun (by rfl : _ = cnTiles (s0 (arg2.view.read (Elt F) f0)) (arg4.view.read (Elt F) f2) (arg5.view.read (Elt F) f3) 1 0) x) (Tiles.tile2_emb (cnTiles (s0 (arg2.view.read (Elt F) f0)) (arg4.view.read (Elt F) f2) (arg5.view.read (Elt F) f3)) 1 0 _ _ rfl rfl x).symm
        · exact Eq.trans (congrFun (by rfl : _ = cnTiles (s0 (arg2.view.read (Elt F) f0)) (arg4.view.read (Elt F) f2) (arg5.view.read (Elt F) f3) 0 0) x) (Tiles.tile2_emb (cnTiles (s0 (arg2.view.read (Elt F) f0)) (arg4.view.read (Elt F) f2) (arg5.view.read (Elt F) f3)) 0 0 _ _ rfl rfl x).symm
      · intro y
        have h0 : (y 0).val < 256 := (y 0).isLt
        have h1 : (y 1).val < 512 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    iexists _; isplitr; swap; · iexact HS0
    ipureintro
    exact scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl)

end Cert.Kernel.Run

end
-- ==== Proof.Kern.RunC.lean ====
/- The run of the body at the points past the last tile: the product alone. -/
module

public import proofs.«01_k».proof.Proof.Kern.Pieces
public import Idealize.ShloMosaic.Lib.Pipeline.Value
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
theorem runC (c : Dev nD) (i : grid1.Coords) (arg2 : Memref sig .tc .smem S1x1 .f32) (harg2 : arg2.IsWhole) (arg3 : Memref sig .tc .vmem S768x3072 .bf16) (harg3 : arg3.IsWhole) (arg4 : Memref sig .tc .vmem S1024x256 .bf16) (harg4 : arg4.IsWhole) (arg5 : Memref sig .tc .vmem S64x256 .f32) (harg5 : arg5.IsWhole) (arg6 : Memref sig .tc .vmem S768x1024 .bf16) (harg6 : arg6.IsWhole) (arg7 : Memref sig .tc .vmem S1024x128 .i8) (harg7 : arg7.IsWhole) (arg8 : Memref sig .tc .vmem S256x512 .i8) (harg8 : arg8.IsWhole) (arg9 : Memref sig .tc .vmem S2x1024x3072 .bf16) (harg9 : arg9.IsWhole)
    (hc0 : ¬(k1_cond1 i = 1#1)) (hc1 : ¬(k1_cond2 i = 1#1)) (hc2 : k1_cond3 i = 1#1)
    (x0 : Vec F S1x1 .f32) (x1 : Vec F S768x3072 .bf16) (x2 : Vec F S1024x256 .bf16) (x3 : Vec F S64x256 .f32) (ds : Vec F S2x1024x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg9 fullShare ds
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yBlock x0 x1 ds (1 - (i 0).val % 2)) ∗ owns (c : Thread nD τ) arg9 fullShare ds) -∗ K ⟨⟩))
          ⊢ wp frame (wpE (defs₀ (F := F)) Variants.none c none) E (cc1_quant_matmul i arg2 harg2 arg3 harg3 arg4 harg4 arg5 harg5 arg6 harg6 arg7 harg7 arg8 harg8 arg9 harg9) K := by
    intro E K
    simp only [cc1_quant_matmul_eq_skeleton]; unfold cc1_quant_matmul_skel
    simp only [hc0, hc1, hc2, ↓reduceDIte]
    simp only [k1_part60_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%fs0, %hfs0, HS0⟩, Hk⟩
    subst hf0; subst hf1; subst hf2; subst hf3; subst hfs0
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H6]
    · iexists _; isplitr; swap; · iexact H6
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_⟩
        · refine Eq.trans ?_ (Tiles.tile2_emb (yTiles (s0 (arg2.view.read (Elt F) f0)) (arg3.view.read (Elt F) f1) (arg9.view.read (Elt F) fs0) (1 - (i 0).val % 2)) 0 3 _ _ rfl rfl x).symm
          refine congrFun (?_ : _ = yPiece (s0 (arg2.view.read (Elt F) f0)) (arg3.view.read (Elt F) f1) (dPiece (arg9.view.read (Elt F) fs0) (1 - (i 0).val % 2) 3)) x
          rw [← ld_dPiece (arg9.view.read (Elt F) fs0) (1 - (i 0).val % 2) (by omega) 3 (k1_off16 i) (k1_off16_inb i hc2) (by rw [k1_off16_eq]; rfl) (by rw [k1_off16_eq]; rfl) (by rw [k1_off16_eq]; rfl),
            ← View.ld_unit_zero (off := ![0, 0]) (by funext k; match k with | ⟨0, _⟩ => rfl | ⟨1, _⟩ => rfl) inb_S768x3072_S768x3072_0_0 (arg3.view.read (Elt F) f1)]
          rfl
        · refine Eq.trans ?_ (Tiles.tile2_emb (yTiles (s0 (arg2.view.read (Elt F) f0)) (arg3.view.read (Elt F) f1) (arg9.view.read (Elt F) fs0) (1 - (i 0).val % 2)) 0 2 _ _ rfl rfl x).symm
          refine congrFun (?_ : _ = yPiece (s0 (arg2.view.read (Elt F) f0)) (arg3.view.read (Elt F) f1) (dPiece (arg9.view.read (Elt F) fs0) (1 - (i 0).val % 2) 2)) x
          rw [← ld_dPiece (arg9.view.read (Elt F) fs0) (1 - (i 0).val % 2) (by omega) 2 (k1_off15 i) (k1_off15_inb i hc2) (by rw [k1_off15_eq]; rfl) (by rw [k1_off15_eq]; rfl) (by rw [k1_off15_eq]; rfl),
            ← View.ld_unit_zero (off := ![0, 0]) (by funext k; match k with | ⟨0, _⟩ => rfl | ⟨1, _⟩ => rfl) inb_S768x3072_S768x3072_0_0 (arg3.view.read (Elt F) f1)]
          rfl
        · refine Eq.trans ?_ (Tiles.tile2_emb (yTiles (s0 (arg2.view.read (Elt F) f0)) (arg3.view.read (Elt F) f1) (arg9.view.read (Elt F) fs0) (1 - (i 0).val % 2)) 0 1 _ _ rfl rfl x).symm
          refine congrFun (?_ : _ = yPiece (s0 (arg2.view.read (Elt F) f0)) (arg3.view.read (Elt F) f1) (dPiece (arg9.view.read (Elt F) fs0) (1 - (i 0).val % 2) 1)) x
          rw [← ld_dPiece (arg9.view.read (Elt F) fs0) (1 - (i 0).val % 2) (by omega) 1 (k1_off14 i) (k1_off14_inb i hc2) (by rw [k1_off14_eq]; rfl) (by rw [k1_off14_eq]; rfl) (by rw [k1_off14_eq]; rfl),
            ← View.ld_unit_zero (off := ![0, 0]) (by funext k; match k with | ⟨0, _⟩ => rfl | ⟨1, _⟩ => rfl) inb_S768x3072_S768x3072_0_0 (arg3.view.read (Elt F) f1)]
          rfl
        · refine Eq.trans ?_ (Tiles.tile2_emb (yTiles (s0 (arg2.view.read (Elt F) f0)) (arg3.view.read (Elt F) f1) (arg9.view.read (Elt F) fs0) (1 - (i 0).val % 2)) 0 0 _ _ rfl rfl x).symm
          refine congrFun (?_ : _ = yPiece (s0 (arg2.view.read (Elt F) f0)) (arg3.view.read (Elt F) f1) (dPiece (arg9.view.read (Elt F) fs0) (1 - (i 0).val % 2) 0)) x
          rw [← ld_dPiece (arg9.view.read (Elt F) fs0) (1 - (i 0).val % 2) (by omega) 0 (k1_off13 i) (k1_off13_inb i hc2) (by rw [k1_off13_eq]; rfl) (by rw [k1_off13_eq]; rfl) (by rw [k1_off13_eq]; rfl),
            ← View.ld_unit_zero (off := ![0, 0]) (by funext k; match k with | ⟨0, _⟩ => rfl | ⟨1, _⟩ => rfl) inb_S768x3072_S768x3072_0_0 (arg3.view.read (Elt F) f1)]
          rfl
      · intro y
        have h0 : (y 0).val < 768 := (y 0).isLt
        have h1 : (y 1).val < 1024 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    iexists _; isplitr; swap; · iexact HS0
    ipureintro; rfl

end Cert.Kernel.Run

end
-- ==== Proof.Kern.Region1.lean ====
/- The second call over its grid: what each block holds after the body ran at a point, and the body there. -/
module

public import proofs.«01_k».proof.Proof.Kern.RunA
public import proofs.«01_k».proof.Proof.Kern.RunB
public import proofs.«01_k».proof.Proof.Kern.RunC
public import proofs.«01_k».proof.Proof.Gen.Kernel.Launch
public import proofs.«01_k».proof.Proof.Gen.Kernel.Points
public import Idealize.ShloMosaic.Lib.Pipeline.FrameBody
public import Idealize.ShloMosaic.Lib.Pipeline.TableIdle
public import Idealize.ShloMosaic.Lib.Pipeline.Value
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The grid -/

theorem lt1 (t : Fin cfg1.N) : t.val < 108 := Nat.lt_of_lt_of_eq t.isLt (show cfg1.N = 108 from N_1)

theorem hc1_1 : ∀ t : Fin cfg1.N, k1_cond1 (grid1.coords t) = 1#1 ↔ t.val < 12 :=
  (by decide +kernel : ∀ t : Fin grid1.N, k1_cond1 (grid1.coords t) = 1#1 ↔ t.val < 12)
theorem hc1_2 : ∀ t : Fin cfg1.N, k1_cond2 (grid1.coords t) = 1#1 ↔ (12 ≤ t.val ∧ t.val < 96) :=
  (by decide +kernel : ∀ t : Fin grid1.N, k1_cond2 (grid1.coords t) = 1#1 ↔ (12 ≤ t.val ∧ t.val < 96))
theorem hc1_3 : ∀ t : Fin cfg1.N, k1_cond3 (grid1.coords t) = 1#1 ↔ 96 ≤ t.val :=
  (by decide +kernel : ∀ t : Fin grid1.N, k1_cond3 (grid1.coords t) = 1#1 ↔ 96 ≤ t.val)

theorem coord1_0 (t : Fin cfg1.N) : (grid1.coords t 0).val = t.val / 12 := by
  have e : (grid1.coords t 0).val = t.val / 12 % 9 := Pipeline.Grid.coords_val t 0 (by decide) rfl
  have := lt1 t
  omega
theorem coord1_1 (t : Fin cfg1.N) : (grid1.coords t 1).val = t.val % 12 := by
  have e : (grid1.coords t 1).val = t.val / 1 % 12 := Pipeline.Grid.coords_val t 1 (by decide) rfl
  omega

theorem idle1_4 : ∀ t : Fin cfg1.N, cfg1.idle 4 (grid1.coords t) = decide (t.val < 12) :=
  (by decide +kernel : ∀ t : Fin grid1.N, idle1 4 (grid1.coords t) = decide (t.val < 12))
theorem idle1_5 : ∀ t : Fin cfg1.N, cfg1.idle 5 (grid1.coords t) = decide (96 ≤ t.val) :=
  (by decide +kernel : ∀ t : Fin grid1.N, idle1 5 (grid1.coords t) = decide (96 ≤ t.val))
theorem idle1_6 : ∀ t : Fin cfg1.N, cfg1.idle 6 (grid1.coords t) = decide (96 ≤ t.val) :=
  (by decide +kernel : ∀ t : Fin grid1.N, idle1 6 (grid1.coords t) = decide (96 ≤ t.val))
theorem flush1_4 : ∀ t : Fin cfg1.N, (cfg1.win 4).flush t = decide (12 ≤ t.val) :=
  (by decide +kernel : ∀ t : Fin grid1.N, win1_4.flush t = decide (12 ≤ t.val))
theorem flush1_5 : ∀ t : Fin cfg1.N, (cfg1.win 5).flush t = decide (t.val < 95 ∨ t.val = 107) :=
  (by decide +kernel : ∀ t : Fin grid1.N, win1_5.flush t = decide (t.val < 95 ∨ t.val = 107))
theorem flush1_6 : ∀ t : Fin cfg1.N, (cfg1.win 6).flush t = decide (t.val < 95 ∨ t.val = 107) :=
  (by decide +kernel : ∀ t : Fin grid1.N, win1_6.flush t = decide (t.val < 95 ∨ t.val = 107))

/-- The n-th point. -/
def pt1 (n : ℕ) : Fin cfg1.N := ⟨n % 108, (Nat.mod_lt _ (by decide)).trans_eq (show 108 = cfg1.N from N_1.symm)⟩

theorem pt1_val (t : Fin cfg1.N) (n : ℕ) (h : n = t.val) : pt1 n = t :=
  Fin.ext (by subst h; exact Nat.mod_eq_of_lt (lt1 t))

/-! ## What the buffers hold -/

section Data

variable (V : Dev nD → Valuation τ sig (Elt F)) (c : Dev nD)

/-- Window `w`'s block at point `t`, of the arrays as the call finds them. -/
def iblk1 (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The k-th dequantised tile (1024 rows of the weights). -/
def dd (k : ℕ) : Vec F S2x1024x3072 .bf16 := fun y =>
  Tiles.tile3 (deqTiles (s0 (iblk1 V c 0 (pt1 (12 * k + (y 2).val / 256)))) (iblk1 V c 2 (pt1 (12 * k + (y 2).val / 256))) (iblk1 V c 3 (pt1 (12 * k + (y 2).val / 256)))) y

/-- What the two kept tiles hold before point `t`: the columns quantised at the last 24 points. -/
def Inv (t : ℕ) (d : Vec F S2x1024x3072 .bf16) : Prop :=
  ∀ k < 8, ∀ y : S2x1024x3072.Idx, (y 0).val = k % 2 → 12 * k + (y 2).val / 256 < t → t ≤ 12 * k + (y 2).val / 256 + 24 → d y = dd V c k y

theorem inv_zero (d : Vec F S2x1024x3072 .bf16) : Inv V c 0 d := fun _ _ _ _ h _ => absurd h (Nat.not_lt_zero _)

theorem inv_step (t : Fin cfg1.N) (ht : t.val < 96) (d : Vec F S2x1024x3072 .bf16) (h : Inv V c t.val d) :
    Inv V c (t.val + 1) (scr (grid1.coords t 0).val (grid1.coords t 1).val (iblk1 V c 0 t) (iblk1 V c 2 t) (iblk1 V c 3 t) d) := by
  rw [coord1_0, coord1_1]
  intro k hk y h0 h1 h2
  have y2 : (y 2).val < 3072 := (y 2).isLt
  by_cases hy : (y 0).val = t.val / 12 % 2 ∧ 256 * (t.val % 12) ≤ (y 2).val ∧ (y 2).val < 256 * (t.val % 12) + 256
  · have e : pt1 (12 * k + (y 2).val / 256) = t := pt1_val t _ (by omega)
    rw [show scr (t.val / 12) (t.val % 12) (iblk1 V c 0 t) (iblk1 V c 2 t) (iblk1 V c 3 t) d y = Tiles.tile3 (deqTiles (s0 (iblk1 V c 0 t)) (iblk1 V c 2 t) (iblk1 V c 3 t)) y from if_pos hy]
    unfold dd
    rw [e]
  · refine (if_neg hy).trans (h k hk y h0 ?_ (by omega))
    omega

theorem inv_stay (t : ℕ) (ht : 96 ≤ t) (d : Vec F S2x1024x3072 .bf16) (h : Inv V c t d) : Inv V c (t + 1) d := by
  intro k hk y h0 h1 h2
  have y2 : (y 2).val < 3072 := (y 2).isLt
  exact h k hk y h0 (by omega) (by omega)

/-- The product reads one of the two kept tiles. -/
theorem yBlock_congr (x0 : Vec F S1x1 .f32) (x1 : Vec F S768x3072 .bf16) (ds ds' : Vec F S2x1024x3072 .bf16) (h : ℕ) (hh : h < 2)
    (e : ∀ y : S2x1024x3072.Idx, (y 0).val = h → ds y = ds' y) : yBlock x0 x1 ds h = yBlock x0 x1 ds' h := by
  have hd : ∀ b, dPiece ds h b = dPiece ds' h b := fun b => funext fun y => e _ (Nat.mod_eq_of_lt hh)
  unfold yBlock
  refine congrArg Tiles.tile2 (funext fun a => funext fun b => ?_)
  exact congrArg (yPiece (s0 x0) x1) (hd b)

theorem yBlock_inv (t : Fin cfg1.N) (ht : 12 ≤ t.val) (d : Vec F S2x1024x3072 .bf16) (h : Inv V c t.val d) :
    yBlock (iblk1 V c 0 t) (iblk1 V c 1 t) d (1 - (grid1.coords t 0).val % 2)
      = yBlock (iblk1 V c 0 t) (iblk1 V c 1 t) (dd V c (t.val / 12 - 1)) (1 - t.val / 12 % 2) := by
  rw [coord1_0]
  have := lt1 t
  refine yBlock_congr _ _ _ _ _ (by omega) fun y hy => h _ (by omega) y (by omega) ?_ ?_
  · have y2 : (y 2).val < 3072 := (y 2).isLt
    omega
  · omega

/-! ## The call's data -/

abbrev scM1 : Memref sig .tc .vmem S2x1024x3072 .bf16 := Memref.whole cc1_scratch0

/-- The other call's buffers. -/
def rest1 : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The call's data: each input's buffer keeps its block; the product's holds the product with the tile quantised one
    round of points before; the codes' hold the codes of the block, the last ones from the last quantised block on. -/
def dat1 : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => yBlock (iblk1 V c 0 t) (iblk1 V c 1 t) (dd V c (t.val / 12 - 1)) (1 - t.val / 12 % 2)
    | ⟨5, _⟩ => ckBlock (iblk1 V c 0 (pt1 (min t.val 95))) (iblk1 V c 2 (pt1 (min t.val 95))) (iblk1 V c 3 (pt1 (min t.val 95)))
    | ⟨6, _⟩ => cnBlock (iblk1 V c 0 (pt1 (min t.val 95))) (iblk1 V c 2 (pt1 (min t.val 95))) (iblk1 V c 3 (pt1 (min t.val 95)))
  Φ t := iprop((∃ d, ⌜Inv V c t.val d⌝ ∗ owns (c : Thread nD τ) scM1 fullShare d) ∗ rest1 c ∗ (∃ r, prngReg c r))
  q _ := fullShare
  owed _ := 0

theorem A1_eq (w : Fin cfg1.W) : (dat1 V c).A w = V c (Proc.devRef .tc (Pipeline.arrRef spec1 w)) := by dsimp only [dat1]
theorem after1_0 (t : Fin cfg1.N) : (dat1 V c).after 0 t = iblk1 V c 0 t := by dsimp only [dat1]
theorem after1_1 (t : Fin cfg1.N) : (dat1 V c).after 1 t = iblk1 V c 1 t := by dsimp only [dat1]
theorem after1_2 (t : Fin cfg1.N) : (dat1 V c).after 2 t = iblk1 V c 2 t := by dsimp only [dat1]
theorem after1_3 (t : Fin cfg1.N) : (dat1 V c).after 3 t = iblk1 V c 3 t := by dsimp only [dat1]
theorem after1_4 (t : Fin cfg1.N) : (dat1 V c).after 4 t = yBlock (iblk1 V c 0 t) (iblk1 V c 1 t) (dd V c (t.val / 12 - 1)) (1 - t.val / 12 % 2) := by dsimp only [dat1]
theorem after1_5 (t : Fin cfg1.N) : (dat1 V c).after 5 t = ckBlock (iblk1 V c 0 (pt1 (min t.val 95))) (iblk1 V c 2 (pt1 (min t.val 95))) (iblk1 V c 3 (pt1 (min t.val 95))) := by dsimp only [dat1]
theorem after1_6 (t : Fin cfg1.N) : (dat1 V c).after 6 t = cnBlock (iblk1 V c 0 (pt1 (min t.val 95))) (iblk1 V c 2 (pt1 (min t.val 95))) (iblk1 V c 3 (pt1 (min t.val 95))) := by dsimp only [dat1]

theorem before1_0 (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)

theorem fresh1_5 (n : ℕ) (h : n ≤ cfg1.N) : cfg1.fresh 5 n = decide (n < 96 ∨ n = 108) :=
  cfg1.fresh_tab 5 (fun n => decide (n < 96 ∨ n = 108)) rfl
    (by decide +kernel : ∀ t : Fin cfg1.N, decide (t.val + 1 < 96 ∨ t.val + 1 = 108) = ((cfg1.win 5).flush t || (cfg1.idle 5 (cfg1.grid.coords t) && decide (t.val < 96 ∨ t.val = 108)))) n h

/-- After the last block of codes its buffer stays as it is. -/
theorem before1_5 (t : Fin cfg1.N) (ht : 96 ≤ t.val) (d) : (dat1 V c).before 5 t d = (dat1 V c).after 5 t := by
  have := lt1 t
  have hcar : ∀ (t : Fin cfg1.N) (h0 : t.val ≠ 0), 96 ≤ t.val → (dat1 V c).after 5 t = (dat1 V c).after 5 ⟨t.val - 1, by omega⟩ := by
    intro t h0 ht
    rw [after1_5, after1_5, show min t.val 95 = 95 from by omega, show min (t.val - 1) 95 = 95 from by omega]
  have hf : cfg1.fresh 5 t.val = false := by rw [fresh1_5 _ t.isLt.le]; exact decide_eq_false (by omega)
  rw [(dat1 V c).before_out_traj 5 rfl (fun _ _ => rfl) (fun t h0 hi hf => hcar t h0 (of_decide_eq_true ((idle1_5 t).symm.trans hi))) _ t rfl d, hf, hcar t (by omega) ht]
  rfl

theorem leave1_5 (t : Fin cfg1.N) (ht : 96 ≤ t.val) (d) :
    owns (c : Thread nD τ) (st1_5 t) fullShare ((dat1 V c).before 5 t d) ⊢ ((dat1 V c).leavesExact 5 t : sProp 𝕄) := by
  by_cases hl : t.val = 107
  · rw [before1_5 V c t ht]
    unfold Dat.leavesExact
    rw [idle1_5, flush1_5, decide_eq_true ht, decide_eq_true (Or.inr hl)]
  · rw [(dat1 V c).leavesExact_idle 5 t ((idle1_5 t).trans (decide_eq_true ht)) ((flush1_5 t).trans (decide_eq_false (by omega)))]
    iintro H
    iexists _
    iexact H

theorem live1_5 (t : Fin cfg1.N) (ht : t.val < 96) :
    ((dat1 V c).leavesExact 5 t : sProp 𝕄) = owns (c : Thread nD τ) (st1_5 t) fullShare (ckBlock (iblk1 V c 0 t) (iblk1 V c 2 t) (iblk1 V c 3 t)) := by
  unfold Dat.leavesExact
  rw [idle1_5, decide_eq_false (by omega), after1_5, pt1_val t _ (by omega)]

theorem fresh1_6 (n : ℕ) (h : n ≤ cfg1.N) : cfg1.fresh 6 n = decide (n < 96 ∨ n = 108) :=
  cfg1.fresh_tab 6 (fun n => decide (n < 96 ∨ n = 108)) rfl
    (by decide +kernel : ∀ t : Fin cfg1.N, decide (t.val + 1 < 96 ∨ t.val + 1 = 108) = ((cfg1.win 6).flush t || (cfg1.idle 6 (cfg1.grid.coords t) && decide (t.val < 96 ∨ t.val = 108)))) n h

/-- After the last block of codes its buffer stays as it is. -/
theorem before1_6 (t : Fin cfg1.N) (ht : 96 ≤ t.val) (d) : (dat1 V c).before 6 t d = (dat1 V c).after 6 t := by
  have := lt1 t
  have hcar : ∀ (t : Fin cfg1.N) (h0 : t.val ≠ 0), 96 ≤ t.val → (dat1 V c).after 6 t = (dat1 V c).after 6 ⟨t.val - 1, by omega⟩ := by
    intro t h0 ht
    rw [after1_6, after1_6, show min t.val 95 = 95 from by omega, show min (t.val - 1) 95 = 95 from by omega]
  have hf : cfg1.fresh 6 t.val = false := by rw [fresh1_6 _ t.isLt.le]; exact decide_eq_false (by omega)
  rw [(dat1 V c).before_out_traj 6 rfl (fun _ _ => rfl) (fun t h0 hi hf => hcar t h0 (of_decide_eq_true ((idle1_6 t).symm.trans hi))) _ t rfl d, hf, hcar t (by omega) ht]
  rfl

theorem leave1_6 (t : Fin cfg1.N) (ht : 96 ≤ t.val) (d) :
    owns (c : Thread nD τ) (st1_6 t) fullShare ((dat1 V c).before 6 t d) ⊢ ((dat1 V c).leavesExact 6 t : sProp 𝕄) := by
  by_cases hl : t.val = 107
  · rw [before1_6 V c t ht]
    unfold Dat.leavesExact
    rw [idle1_6, flush1_6, decide_eq_true ht, decide_eq_true (Or.inr hl)]
  · rw [(dat1 V c).leavesExact_idle 6 t ((idle1_6 t).trans (decide_eq_true ht)) ((flush1_6 t).trans (decide_eq_false (by omega)))]
    iintro H
    iexists _
    iexact H

theorem live1_6 (t : Fin cfg1.N) (ht : t.val < 96) :
    ((dat1 V c).leavesExact 6 t : sProp 𝕄) = owns (c : Thread nD τ) (st1_6 t) fullShare (cnBlock (iblk1 V c 0 t) (iblk1 V c 2 t) (iblk1 V c 3 t)) := by
  unfold Dat.leavesExact
  rw [idle1_6, decide_eq_false (by omega), after1_6, pt1_val t _ (by omega)]

theorem live1_4 (t : Fin cfg1.N) (ht : 12 ≤ t.val) :
    ((dat1 V c).leavesExact 4 t : sProp 𝕄) = owns (c : Thread nD τ) (st1_4 t) fullShare (yBlock (iblk1 V c 0 t) (iblk1 V c 1 t) (dd V c (t.val / 12 - 1)) (1 - t.val / 12 % 2)) := by
  unfold Dat.leavesExact
  rw [idle1_4, decide_eq_false (by omega), after1_4]

theorem leave1_4 (t : Fin cfg1.N) (ht : t.val < 12) :
    ((dat1 V c).leavesExact 4 t : sProp 𝕄) = iprop(∃ d, owns (c : Thread nD τ) (st1_4 t) fullShare ((dat1 V c).before 4 t d)) :=
  (dat1 V c).leavesExact_idle 4 t ((idle1_4 t).trans (decide_eq_true ht)) ((flush1_4 t).trans (decide_eq_false (by omega)))

/-! ## The body at a point -/

def bodyPre1 (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 2400000 in
theorem sound1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = iprop((∃ d, ⌜Inv V c (t.val + 1) d⌝ ∗ owns (c : Thread nD τ) scM1 fullShare d) ∗ rest1 c ∗ (∃ r, prngReg c r)) from rfl,
    show (dat1 V c).Φ t.castSucc = iprop((∃ d, ⌜Inv V c t.val d⌝ ∗ owns (c : Thread nD τ) scM1 fullShare d) ∗ rest1 c ∗ (∃ r, prngReg c r)) from rfl,
    show (dat1 V c).owesAt () t.succ = (dat1 V c).owesAt () t.castSucc from rfl]
  rw [show ((dat1 V c).leavesExact 0 t : sProp 𝕄) = owns (c : Thread nD τ) (st1_0 t) fullShare ((dat1 V c).after 0 t) from rfl, after1_0]
  rw [show ((dat1 V c).leavesExact 1 t : sProp 𝕄) = owns (c : Thread nD τ) (st1_1 t) fullShare ((dat1 V c).after 1 t) from rfl, after1_1]
  rw [show ((dat1 V c).leavesExact 2 t : sProp 𝕄) = owns (c : Thread nD τ) (st1_2 t) fullShare ((dat1 V c).after 2 t) from rfl, after1_2]
  rw [show ((dat1 V c).leavesExact 3 t : sProp 𝕄) = owns (c : Thread nD τ) (st1_3 t) fullShare ((dat1 V c).after 3 t) from rfl, after1_3]
  have := lt1 t
  by_cases h0 : t.val < 12
  · rw [leave1_4 V c t h0, live1_5 V c t (by omega), live1_6 V c t (by omega)]
    iintro ⟨⟨⟨%d, %hd, HS⟩, Hr, Hg⟩, Ho, ⟨%d0, H0⟩, ⟨%d1, H1⟩, ⟨%d2, H2⟩, ⟨%d3, H3⟩, ⟨%d4, H4⟩, ⟨%d5, H5⟩, ⟨%d6, H6⟩⟩
    iapply (runA c (grid1.coords t) _ _ _ _ _ _ _ _ _ _ _ _ _ _ _ _ ((hc1_1 t).mpr h0) (fun h => by have := (hc1_2 t).mp h; omega) (fun h => by have := (hc1_3 t).mp h; omega) (iblk1 V c 0 t) (iblk1 V c 1 t) (iblk1 V c 2 t) (iblk1 V c 3 t) d Set.univ _)
    isplitl [H0]; · iexact H0
    isplitl [H1]; · iexact H1
    isplitl [H2]; · iexact H2
    isplitl [H3]; · iexact H3
    isplitl [H5]; · iexists _; iexact H5
    isplitl [H6]; · iexists _; iexact H6
    isplitl [HS]; · iexact HS
    iintro ⟨H0, H1, H2, H3, H5, H6, HS⟩
    isplitl [HS Hr Hg]
    · isplitl [HS]
      · iexists _
        isplitr; · ipureintro; exact inv_step V c t (by omega) d hd
        iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexact H5
    iexact H6
  by_cases h2 : 96 ≤ t.val
  · rw [live1_4 V c t (by omega)]
    iintro ⟨⟨⟨%d, %hd, HS⟩, Hr, Hg⟩, Ho, ⟨%d0, H0⟩, ⟨%d1, H1⟩, ⟨%d2, H2⟩, ⟨%d3, H3⟩, ⟨%d4, H4⟩, ⟨%d5, H5⟩, ⟨%d6, H6⟩⟩
    iapply (runC c (grid1.coords t) _ _ _ _ _ _ _ _ _ _ _ _ _ _ _ _ (fun h => by have := (hc1_1 t).mp h; omega) (fun h => by have := (hc1_2 t).mp h; omega) ((hc1_3 t).mpr h2) (iblk1 V c 0 t) (iblk1 V c 1 t) (iblk1 V c 2 t) (iblk1 V c 3 t) d Set.univ _)
    isplitl [H0]; · iexact H0
    isplitl [H1]; · iexact H1
    isplitl [H2]; · iexact H2
    isplitl [H3]; · iexact H3
    isplitl [H4]; · iexists _; iexact H4
    isplitl [HS]; · iexact HS
    rw [yBlock_inv V c t (by omega) d hd]
    iintro ⟨H0, H1, H2, H3, H4, HS⟩
    isplitl [HS Hr Hg]
    · isplitl [HS]
      · iexists _
        isplitr; · ipureintro; exact inv_stay V c t.val h2 d hd
        iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leave1_5 V c t h2 d5); iexact H5
    iapply (leave1_6 V c t h2 d6); iexact H6
  · rw [live1_4 V c t (by omega), live1_5 V c t (by omega), live1_6 V c t (by omega)]
    iintro ⟨⟨⟨%d, %hd, HS⟩, Hr, Hg⟩, Ho, ⟨%d0, H0⟩, ⟨%d1, H1⟩, ⟨%d2, H2⟩, ⟨%d3, H3⟩, ⟨%d4, H4⟩, ⟨%d5, H5⟩, ⟨%d6, H6⟩⟩
    iapply (runB c (grid1.coords t) _ _ _ _ _ _ _ _ _ _ _ _ _ _ _ _ (fun h => by have := (hc1_1 t).mp h; omega) ((hc1_2 t).mpr (by omega)) (fun h => h2 ((hc1_3 t).mp h)) (iblk1 V c 0 t) (iblk1 V c 1 t) (iblk1 V c 2 t) (iblk1 V c 3 t) d Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    rw [yBlock_inv V c t (by omega) d hd]
    iintro ⟨H0, H1, H2, H3, H4, H5, H6, HS⟩
    isplitl [HS Hr Hg]
    · isplitl [HS]
      · iexists _
        isplitr; · ipureintro; exact inv_step V c t (by omega) d hd
        iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row1 (t : Fin cfg1.N) : defs₀ (F := F) .tc cfg1.body (cfg1.bodyArgs t (cfg1.slots t)) = bodyAt1 t := by
  unfold defs₀; rw [Defs.onTc_tc]

/-- The body at every point. -/
theorem obligation1 : BodyObligation (dat1 (F := F) V c) (defs₀ (F := F)) Variants.none () Set.univ := fun t => by
  rw [bigSep_W1, bigSep_W1, row1]
  exact triple_restated (sound1 V c t) rfl .rfl fun _ => .rfl

/-- The call's start, and its end. -/
theorem enter1 : iprop(Pipeline.scopedRest spec1 c ∗ (∃ r, prngReg c r)) ⊢ ((dat1 V c).Φ 0 : sProp 𝕄) := by
  rw [show (dat1 V c).Φ 0 = iprop((∃ d, ⌜Inv V c 0 d⌝ ∗ owns (c : Thread nD τ) scM1 fullShare d) ∗ rest1 c ∗ (∃ r, prngReg c r)) from rfl, scopedRest1_eq]
  simp only [scM1, owns_whole, rest1]
  iintro ⟨⟨H0, H1, H2, H3, H4, H5, H6, H7, H8, ⟨%d, HS⟩⟩, Hg⟩
  isplitl [HS]
  · iexists d
    isplitr; · ipureintro; exact inv_zero V c d
    iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem exit1 : ((dat1 V c).Φ (Fin.last cfg1.N) : sProp 𝕄) ⊢ iprop(Pipeline.scopedRest spec1 c ∗ (∃ r, prngReg c r)) := by
  rw [show (dat1 V c).Φ (Fin.last cfg1.N) = iprop((∃ d, ⌜Inv V c cfg1.N d⌝ ∗ owns (c : Thread nD τ) scM1 fullShare d) ∗ rest1 c ∗ (∃ r, prngReg c r)) from rfl, scopedRest1_eq]
  simp only [scM1, owns_whole, rest1]
  iintro ⟨⟨%d, -, HS⟩, ⟨H0, H1, H2, H3, H4, H5, H6, H7, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d
    iexact HS
  iexact Hg

end Data

end Cert.Kernel.Run

end
-- ==== Proof.Kern.Launch.lean ====
/- The whole program: host operations, the two calls one after the other, host operations; where every buffer ends. -/
module

public import proofs.«01_k».proof.Proof.Kern.Region0
public import proofs.«01_k».proof.Proof.Kern.Region1
public import proofs.«01_k».proof.Proof.Gen.Kernel.Regions
public import Idealize.ShloMosaic.Lib.Pipeline.RegionArraysS
public import Idealize.ShloMosaic.Lib.Tactic

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [BitOps F]

local notation "𝕄" => MT nD τ sig Unit (Elt F) ℕ (UR sig nD τ) ℕ

section

variable (A B : Dev nD → Valuation τ sig (Elt F))

/-- The two calls' blocks. -/
def pdats : (p : Fin 2) → (c : Dev nD) → Dat τ (Elt F) Unit ℕ (UR sig nD τ) ℕ (cfgs p) c
  | 0 => fun c => dat0 A c
  | 1 => fun c => dat1 B c

/-- Levels: one at every cell of a TensorCore. -/
def L : GSem nD τ sig → Finset Unit := fun g => if g.1.2 = .tc then {()} else ∅
def lv : GSem nD τ sig → Unit → ℕ := fun _ _ => 0

/-- What rides along beside the buffers: the random register and that nothing is owed. -/
abbrev E : Dev nD → sProp 𝕄 := fun c => iprop((∃ W, owes (c : Thread nD τ) (0 : CellTallies nD τ sig Unit) W) ∗ (∃ r, prngReg c r) ∗ emp)

theorem cut (p : Fin 2) : Pipeline.LevelCut (pcfgs (F := F)) adm () L lv p (fun _ : Dev nD => (0 : CellTallies nD τ sig Unit)) (fun _ => 0) where
  hι c w s := by
    show () ∈ (if _ then ({()} : Finset Unit) else ∅)
    rw [if_pos rfl]; exact Finset.mem_singleton_self ()
  hιb c w s := le_refl 0
  hD c g i h := absurd h (lt_irrefl 0)

set_option backward.isDefEq.respectTransparency.types false in
def reg0 : RegionSeg (pcfgs (F := F)) adm (pdats A B) () defs₀ Variants.none L lv 0 :=
  Pipeline.RegionSeg.ofHeldIn (pcfgs (F := F)) adm (pdats A B) () defs₀ Variants.none L lv 0 (fun _ => 0) (Pipeline.ucRefs τ sig)
    (fun c => iprop(∃ r, prngReg c r)) (fun c => iprop(∃ r, prngReg c r)) launch0.toP rfl
    (fun c => (obligation0 A c).loose) (fun _ _ => rfl) (fun _ => rfl) (fun c => (dat0 A c).share_full fun _ => rfl)
    (fun c => enter0 A c) (fun c => exit0 A c) (fun _ => 0) (cut 0) (fun _ => iprop(emp)) A (fun c w => (A0_eq A c w))

set_option backward.isDefEq.respectTransparency.types false in
def reg1 : RegionSeg (pcfgs (F := F)) adm (pdats A B) () defs₀ Variants.none L lv 1 :=
  Pipeline.RegionSeg.ofHeldIn (pcfgs (F := F)) adm (pdats A B) () defs₀ Variants.none L lv 1 (fun _ => 0) (Pipeline.ucRefs τ sig)
    (fun c => iprop(∃ r, prngReg c r)) (fun c => iprop(∃ r, prngReg c r)) launch1.toP rfl
    (fun c => (obligation1 B c).loose) (fun _ _ => rfl) (fun _ => rfl) (fun c => (dat1 B c).share_full fun _ => rfl)
    (fun c => enter1 B c) (fun c => exit1 B c) (fun _ => 0) (cut 1) (fun _ => iprop(emp)) B (fun c w => (A1_eq B c w))

theorem sub0 : Pipeline.arrRefs (τ := τ) ((pcfgs (F := F)) 0).spec ⊆ Pipeline.ucRefs τ sig :=
  Pipeline.arrRefs_sub_ucRefs _ (show ∀ w, (Pipeline.arrRef spec0 w).isScoped = false from by decide)
theorem sub1 : Pipeline.arrRefs (τ := τ) ((pcfgs (F := F)) 1).spec ⊆ Pipeline.ucRefs τ sig :=
  Pipeline.arrRefs_sub_ucRefs _ (show ∀ w, (Pipeline.arrRef spec1 w).isScoped = false from by decide)

set_option backward.isDefEq.respectTransparency.types false in
theorem pre0 (c : Dev nD) : iprop(StableHlo.held (c : Thread nD τ) (Pipeline.ucRefs τ sig) (A c) ∗ E c) ⊢ (reg0 A B).pre c := by
  unfold reg0
  exact Pipeline.RegionSeg.ofHeldIn_pre (D := fun _ => 0) (X := fun c => iprop(∃ r, prngReg c r)) (R := fun _ => iprop(emp)) (W := A) sub0 c
theorem post0 (c : Dev nD) : (reg0 A B).post c ⊢ iprop(StableHlo.held (c : Thread nD τ) (Pipeline.ucRefs τ sig) (Pipeline.afterRegion (dat0 A c) (A c)) ∗ E c) :=
  Pipeline.RegionSeg.ofHeldIn_post sub0 c
set_option backward.isDefEq.respectTransparency.types false in
theorem pre1 (c : Dev nD) : iprop(StableHlo.held (c : Thread nD τ) (Pipeline.ucRefs τ sig) (B c) ∗ E c) ⊢ (reg1 A B).pre c := by
  unfold reg1
  exact Pipeline.RegionSeg.ofHeldIn_pre (D := fun _ => 0) (X := fun c => iprop(∃ r, prngReg c r)) (R := fun _ => iprop(emp)) (W := B) sub1 c
theorem post1 (c : Dev nD) : (reg1 A B).post c ⊢ iprop(StableHlo.held (c : Thread nD τ) (Pipeline.ucRefs τ sig) (Pipeline.afterRegion (dat1 B c) (B c)) ∗ E c) :=
  Pipeline.RegionSeg.ofHeldIn_post sub1 c

end

variable (m : (ℓ : Loc nD τ sig) → Buf (Elt F) ℓ)

/-- What every buffer holds after the first call. -/
def W2 : Dev nD → Valuation τ sig (Elt F) := fun c => Pipeline.afterRegion (dat0 (V1 m) c) (V1 m c)

/-- What every buffer holds after the second call. -/
def W3 : Dev nD → Valuation τ sig (Elt F) := fun c => Pipeline.afterRegion (dat1 (W2 m) c) (W2 m c)

/-- What every buffer holds at the end. -/
def W4 : Dev nD → Valuation τ sig (Elt F) := fun c => StableHlo.after hostOps2 (W3 m c)

/-- The last host operations, run from what the second call leaves. -/
def segEnd : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E

abbrev allSegs (c : Dev nD) : List (Seg (pcfgs (F := F)) adm (pdats (V1 m) (W2 m)) () defs₀ Variants.none L lv) :=
  [.host (seg0 m Variants.none L lv (fun _ => E)), .region (reg0 (V1 m) (W2 m)), .region (reg1 (V1 m) (W2 m)), .host (segEnd m)]

theorem mem_uc (b : Ref sig .tc) (h : b.isScoped = false) : Proc.devRef .tc b ∈ Pipeline.ucRefs τ sig :=
  Finset.mem_filter.mpr ⟨StableHlo.devRef_mem_tcRefs b, fun h' => Bool.false_ne_true (h.symm.trans h')⟩

theorem W2_keeps (c : Dev nD) (r : Ref sig .tc) (h : ∀ w, Pipeline.arrRef cfg0.spec w = r → (cfg0.win w).isOut = false) :
    W2 m c (Proc.devRef .tc r) = V1 m c (Proc.devRef .tc r) :=
  Pipeline.afterRegion_keeps _ _ launch0.win.arr_inj (A0_eq (V1 m) c) r h

theorem W3_keeps (c : Dev nD) (r : Ref sig .tc) (h : ∀ w, Pipeline.arrRef cfg1.spec w = r → (cfg1.win w).isOut = false) :
    W3 m c (Proc.devRef .tc r) = W2 m c (Proc.devRef .tc r) :=
  Pipeline.afterRegion_keeps _ _ launch1.win.arr_inj (A1_eq (W2 m) c) r h

theorem W4_of (c : Dev nD) (r : Ref sig .tc) (h : r ∉ hostOps2_W) :
    W4 m c (Proc.devRef .tc r) = W3 m c (Proc.devRef .tc r) :=
  StableHlo.after_of_writes_sub hostOps2 _ hostOps2_writes h

set_option backward.isDefEq.respectTransparency.types false in
/-- Every weakly fair execution of the program ends, with every unscoped buffer at `W4` and every semaphore counter at zero. -/
theorem run_main (ρ : Dev nD → PrngReg) :
    θ_run defs (onTc (τ := τ) (main (F := F))) ⟨m, fun _ => 0, ρ⟩ (fun r => (∀ c : Dev nD, ∀ b : Ref sig .tc, b.isScoped = false →
      r.2.mem ((c.tc : Thread nD τ).loc b) = W4 m c (Proc.devRef .tc b))
      ∧ r.2.sem = fun _ => 0) := by
  refine Pipeline.θ_run_regions_kit_dev_sems (pcfgs (F := F)) adm (pdats (V1 m) (W2 m)) () cellOf_inj emb₁ defs₀ Variants.none L lv m ρ main
    (allSegs m)
    (fun c Q => by
      rewrite [main_chain c, Seg.run_eq_chain,
        show (allSegs m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [allSegs, Seg.pipes_host, Seg.pipes_region, Seg.pipes_nil]; decide) 0
    (fun g hg => if_neg hg) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (W4 m c))
    (hch := fun c => ⟨.rfl, pre0 (V1 m) (W2 m) c, (post0 (V1 m) (W2 m) c).trans (pre1 (V1 m) (W2 m) c), post1 (V1 m) (W2 m) c, sep_mono .rfl (by iintro ⟨H, -⟩; iexact H)⟩)
    (hinit := ?_) (QY := fun c s => ∀ b : Ref sig .tc, b.isScoped = false → s.mem ((c.tc : Thread nD τ).loc b) = W4 m c (Proc.devRef .tc b))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact fun b hb => h (Proc.devRef .tc b) (mem_uc b hb)
    · iexact HSI

theorem W4_arg0 (c : Dev nD) : W4 m c (Proc.devRef .tc main_arg0) = m ((c.tc : Thread nD τ).loc main_arg0) :=
  (W4_of m c main_arg0 (by decide)).trans ((W3_keeps m c main_arg0 (by decide)).trans ((W2_keeps m c main_arg0 (by decide)).trans
    (V1_of m c main_arg0 (by decide))))

theorem W4_arg1 (c : Dev nD) : W4 m c (Proc.devRef .tc main_arg1) = m ((c.tc : Thread nD τ).loc main_arg1) :=
  (W4_of m c main_arg1 (by decide)).trans ((W3_keeps m c main_arg1 (by decide)).trans ((W2_keeps m c main_arg1 (by decide)).trans
    (V1_of m c main_arg1 (by decide))))

end Cert.Kernel.Run

end
-- ==== Proof.Ideal.Run0.lean ====
/- The runs of the body of the first call: the maxima of one block of rows, and at the last point the scales. -/
module

public import proofs.«01_k».proof.Proof.Quant.Tiles
public import proofs.«01_k».proof.Proof.Gen.KernelIdeal.Skeleton
public import Idealize.ShloMosaic.Lib.Pipeline.FrameBody
public import Idealize.ShloMosaic.Lib.WritesUnit
public import Idealize.ShloMosaic.Lib.VecWindow
public import Idealize.ShloMosaic.Lib.Pipeline.Value
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition. -/
abbrev k0_condA (i : grid0.Coords) : BitVec 1 :=
  Scalar.cmpi .ne (Scalar.extui (Scalar.cmpi .eq (BitVec.ofNat 32 (i 0).val) 0#32) : BitVec 32) 0#32

/-- The block maxima of 512 rows, each repeated over the lanes of its block. -/
def repB (x0 : Vec F S512x3072 .bf16) : Vec F S32x3072 .f32 := k0_pay1 (k0_pay9 x0) 8#32

/-- The block maxima of 512 rows, one lane each. -/
def compB (x0 : Vec F S512x3072 .bf16) (x1 : Vec F S3072x192 .bf16) : Vec F S32x192 .f32 := k0_pay2 (k0_pay8 x0) x1

/-- The running maximum of each lane. -/
def mxB (x0 : Vec F S512x3072 .bf16) (e : Vec F S1x3072 .f32) : Vec F S1x3072 .f32 := k0_pay4 (k0_pay7 x0) e

/-- The collected block maxima after point `i`. -/
def compScr (i : ℕ) (x0 : Vec F S512x3072 .bf16) (x1 : Vec F S3072x192 .bf16) (ds : Vec F S512x192 .f32) : Vec F S512x192 .f32 := fun y =>
  if 32 * i ≤ (y 0).val ∧ (y 0).val < 32 * i + 32 then compB x0 x1 (ix2 (Fin.ofNat 32 (y 0).val) (y 1)) else ds y

theorem hz : (![0, 0] : Fin 2 → ℕ) = fun _ => 0 := by funext k; match k with | ⟨0, _⟩ => rfl | ⟨1, _⟩ => rfl

/-- A load of the whole buffer reads the buffer. -/
theorem ldfull {sp : Space} {S : Shape} {e : EltTy} (v : View sig .tc sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

theorem comp_write (v : View sig .tc .vmem S512x192 .f32) (f : v.ty.Contents (Elt F)) (i : ℕ) (x0 : Vec F S512x3072 .bf16) (x1 : Vec F S3072x192 .bf16)
    (off : Fin 2 → ℕ) (inb : ∀ a, off a + S32x192.size a ≤ S512x192.size a) (w : (Rect.unit (s := S512x192) off S32x192.size inb).shape.Idx → Elt F .f32) (hw : w = compB x0 x1) (ho : off = ![32 * i, 0]) :
    v.read (Elt F) (v.writes (Elt F) f [⟨Rect.unit (s := S512x192) off S32x192.size inb, w⟩]) = compScr i x0 x1 (v.read (Elt F) f) := by
  subst hw
  funext y
  unfold compScr
  by_cases h : 32 * i ≤ (y 0).val ∧ (y 0).val < 32 * i + 32
  · rw [if_pos h]
    refine View.read_writes_cons_rows_of_mem v f (o := 32 * i) inb _ [] y (ix2 (Fin.ofNat 32 (y 0).val) (y 1)) ho ?_ rfl
    show (y 0).val = 32 * i + (y 0).val % 32
    omega
  · rw [if_neg h]
    exact View.read_writes_cons_rows_of_not_mem v f (o := 32 * i) (W := 32) inb _ [] y ho rfl (by omega)

set_option maxHeartbeats 400000 in
theorem run0_first (c : Dev nD) (i : grid0.Coords) (arg1 : Memref sig .tc .vmem S512x3072 .bf16) (harg1 : arg1.IsWhole) (arg2 : Memref sig .tc .vmem S3072x192 .bf16) (harg2 : arg2.IsWhole) (arg3 : Memref sig .tc .vmem S32x3072 .f32) (harg3 : arg3.IsWhole) (arg4 : Memref sig .tc .vmem S512x192 .fp8e4m3) (harg4 : arg4.IsWhole) (arg5 : Memref sig .tc .vmem S1x1 .f32) (harg5 : arg5.IsWhole) (arg6 : Memref sig .tc .vmem S512x192 .f32) (harg6 : arg6.IsWhole) (arg7 : Memref sig .tc .vmem S1x3072 .f32) (harg7 : arg7.IsWhole)
    (hcA : (k0_condA i = 1#1)) (hc2 : ¬(k0_cond2 i = 1#1))
    (x0 : Vec F S512x3072 .bf16) (x1 : Vec F S3072x192 .bf16) (ds : Vec F S512x192 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg6 fullShare ds ∗ (∃ d, owns (c : Thread nD τ) arg7 fullShare d)
            ∗ (iprop(owns (c : Thread nD τ) arg1 fullShare x0 ∗ owns (c : Thread nD τ) arg2 fullShare x1 ∗ owns (c : Thread nD τ) arg3 fullShare (repB x0) ∗ owns (c : Thread nD τ) arg6 fullShare (compScr (i 0).val x0 x1 ds) ∗ owns (c : Thread nD τ) arg7 fullShare (mxB x0 (k0_pay3 (F := F)))) -∗ K ⟨⟩))
          ⊢ wp frame (wpE (defs₀ (F := F)) Variants.none c none) E (cc0_block_amax i arg1 harg1 arg2 harg2 arg3 harg3 arg4 harg4 arg5 harg5 arg6 harg6 arg7 harg7) K := by
    intro E K
    simp only [cc0_block_amax_eq_skeleton]; unfold cc0_block_amax_skel
    simp only [hc2, ↓reduceDIte]
    simp only [k0_part1_eq_skeleton]; unfold k0_part1_skel
    unfold owns
    iintro ⟨⟨%f0, %hf0, H0⟩, ⟨%f1, %hf1, H1⟩, ⟨%d3, %f3, -, H3⟩, ⟨%f6, %hf6, H6⟩, ⟨%d7, %f7, -, H7⟩, Hk⟩
    subst hf0; subst hf1; subst hf6
    sl_exec (disch := first | sl_exact hcA | sl_exact hc2)
    sl_step
    iapply Hk
    isplitl [H0]
    · iexists _; isplitr; · ipureintro; rfl
      iexact H0
    isplitl [H1]
    · iexists _; isplitr; · ipureintro; rfl
      iexact H1
    isplitl [H3]
    · iexists _; isplitr; swap; · iexact H3
      ipureintro
      dsimp only
      exact Eq.trans (View.read_writes_full _ _ _ _ _) (congrArg (fun z => k0_pay1 (k0_pay9 z) 8#32) (ldfull arg1.view hz _ f0))
    isplitl [H6]
    · iexists _; isplitr; swap; · iexact H6
      ipureintro
      dsimp only
      refine comp_write _ _ _ _ _ _ _ _ ?_ (k0_off1_eq i)
      exact congrArg₂ (fun z z' => k0_pay2 (k0_pay8 z) z') (ldfull arg1.view hz _ f0) (ldfull arg2.view hz _ f1)
    iexists _; isplitr; swap; · iexact H7
    ipureintro
    dsimp only
    exact Eq.trans (View.read_writes_full _ _ _ _ _) (congrArg₂ (fun z z' => k0_pay4 (k0_pay7 z) z') (ldfull arg1.view hz _ f0) (Eq.trans (ldfull arg7.view hz _ _) (View.read_writes_full _ _ _ _ _)))

set_option maxHeartbeats 400000 in
theorem run0_mid (c : Dev nD) (i : grid0.Coords) (arg1 : Memref sig .tc .vmem S512x3072 .bf16) (harg1 : arg1.IsWhole) (arg2 : Memref sig .tc .vmem S3072x192 .bf16) (harg2 : arg2.IsWhole) (arg3 : Memref sig .tc .vmem S32x3072 .f32) (harg3 : arg3.IsWhole) (arg4 : Memref sig .tc .vmem S512x192 .fp8e4m3) (harg4 : arg4.IsWhole) (arg5 : Memref sig .tc .vmem S1x1 .f32) (harg5 : arg5.IsWhole) (arg6 : Memref sig .tc .vmem S512x192 .f32) (harg6 : arg6.IsWhole) (arg7 : Memref sig .tc .vmem S1x3072 .f32) (harg7 : arg7.IsWhole)
    (hcA : ¬(k0_condA i = 1#1)) (hc2 : ¬(k0_cond2 i = 1#1))
    (x0 : Vec F S512x3072 .bf16) (x1 : Vec F S3072x192 .bf16) (ds : Vec F S512x192 .f32) (e : Vec F S1x3072 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg6 fullShare ds ∗ owns (c : Thread nD τ) arg7 fullShare e
            ∗ (iprop(owns (c : Thread nD τ) arg1 fullShare x0 ∗ owns (c : Thread nD τ) arg2 fullShare x1 ∗ owns (c : Thread nD τ) arg3 fullShare (repB x0) ∗ owns (c : Thread nD τ) arg6 fullShare (compScr (i 0).val x0 x1 ds) ∗ owns (c : Thread nD τ) arg7 fullShare (mxB x0 e)) -∗ K ⟨⟩))
          ⊢ wp frame (wpE (defs₀ (F := F)) Variants.none c none) E (cc0_block_amax i arg1 harg1 arg2 harg2 arg3 harg3 arg4 harg4 arg5 harg5 arg6 harg6 arg7 harg7) K := by
    intro E K
    simp only [cc0_block_amax_eq_skeleton]; unfold cc0_block_amax_skel
    simp only [hc2, ↓reduceDIte]
    simp only [k0_part1_eq_skeleton]; unfold k0_part1_skel
    unfold owns
    iintro ⟨⟨%f0, %hf0, H0⟩, ⟨%f1, %hf1, H1⟩, ⟨%d3, %f3, -, H3⟩, ⟨%f6, %hf6, H6⟩, ⟨%f7, %hf7, H7⟩, Hk⟩
    subst hf0; subst hf1; subst hf6; subst hf7
    sl_exec (disch := first | sl_exact hcA | sl_exact hc2)
    sl_step
    iapply Hk
    isplitl [H0]
    · iexists _; isplitr; · ipureintro; rfl
      iexact H0
    isplitl [H1]
    · iexists _; isplitr; · ipureintro; rfl
      iexact H1
    isplitl [H3]
    · iexists _; isplitr; swap; · iexact H3
      ipureintro
      dsimp only
      exact Eq.trans (View.read_writes_full _ _ _ _ _) (congrArg (fun z => k0_pay1 (k0_pay9 z) 8#32) (ldfull arg1.view hz _ f0))
    isplitl [H6]
    · iexists _; isplitr; swap; · iexact H6
      ipureintro
      dsimp only
      refine comp_write _ _ _ _ _ _ _ _ ?_ (k0_off1_eq i)
      exact congrArg₂ (fun z z' => k0_pay2 (k0_pay8 z) z') (ldfull arg1.view hz _ f0) (ldfull arg2.view hz _ f1)
    iexists _; isplitr; swap; · iexact H7
    ipureintro
    dsimp only
    exact Eq.trans (View.read_writes_full _ _ _ _ _) (congrArg₂ (fun z z' => k0_pay4 (k0_pay7 z) z') (ldfull arg1.view hz _ f0) (ldfull arg7.view hz _ _))

set_option maxHeartbeats 400000 in
theorem run0_last (c : Dev nD) (i : grid0.Coords) (arg1 : Memref sig .tc .vmem S512x3072 .bf16) (harg1 : arg1.IsWhole) (arg2 : Memref sig .tc .vmem S3072x192 .bf16) (harg2 : arg2.IsWhole) (arg3 : Memref sig .tc .vmem S32x3072 .f32) (harg3 : arg3.IsWhole) (arg4 : Memref sig .tc .vmem S512x192 .fp8e4m3) (harg4 : arg4.IsWhole) (arg5 : Memref sig .tc .vmem S1x1 .f32) (harg5 : arg5.IsWhole) (arg6 : Memref sig .tc .vmem S512x192 .f32) (harg6 : arg6.IsWhole) (arg7 : Memref sig .tc .vmem S1x3072 .f32) (harg7 : arg7.IsWhole)
    (hcA : ¬(k0_condA i = 1#1)) (hc2 : (k0_cond2 i = 1#1))
    (x0 : Vec F S512x3072 .bf16) (x1 : Vec F S3072x192 .bf16) (ds : Vec F S512x192 .f32) (e : Vec F S1x3072 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare ds ∗ owns (c : Thread nD τ) arg7 fullShare e
            ∗ (iprop(owns (c : Thread nD τ) arg1 fullShare x0 ∗ owns (c : Thread nD τ) arg2 fullShare x1 ∗ owns (c : Thread nD τ) arg3 fullShare (repB x0) ∗ owns (c : Thread nD τ) arg4 fullShare (k0_pay6 (mxB x0 e) (compScr (i 0).val x0 x1 ds)) ∗ owns (c : Thread nD τ) arg5 fullShare (k0_pay5 (mxB x0 e)) ∗ owns (c : Thread nD τ) arg6 fullShare (compScr (i 0).val x0 x1 ds) ∗ owns (c : Thread nD τ) arg7 fullShare (mxB x0 e)) -∗ K ⟨⟩))
          ⊢ wp frame (wpE (defs₀ (F := F)) Variants.none c none) E (cc0_block_amax i arg1 harg1 arg2 harg2 arg3 harg3 arg4 harg4 arg5 harg5 arg6 harg6 arg7 harg7) K := by
    intro E K
    simp only [cc0_block_amax_eq_skeleton]; unfold cc0_block_amax_skel
    simp only [hc2, ↓reduceDIte]
    simp only [k0_part1_eq_skeleton]; unfold k0_part1_skel
    unfold owns
    iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, Hk⟩
    subst hf0; subst hf1; subst hf6; subst hf7
    sl_exec (disch := first | sl_exact hcA | sl_exact hc2)
    sl_step
    iapply Hk
    isplitl [H0]
    · iexists _; isplitr; · ipureintro; rfl
      iexact H0
    isplitl [H1]
    · iexists _; isplitr; · ipureintro; rfl
      iexact H1
    isplitl [H3]
    · iexists _; isplitr; swap; · iexact H3
      ipureintro
      dsimp only
      exact Eq.trans (View.read_writes_full _ _ _ _ _) (congrArg (fun z => k0_pay1 (k0_pay9 z) 8#32) (ldfull arg1.view hz _ f0))
    isplitl [H4]
    · iexists _; isplitr; swap; · iexact H4
      ipureintro
      dsimp only
      refine Eq.trans (View.read_writes_full _ _ _ _ _) (congrArg₂ k0_pay6 ?_ ?_)
      · refine Eq.trans (ldfull arg7.view hz _ _) ?_
        exact Eq.trans (View.read_writes_full _ _ _ _ _) (congrArg₂ (fun z z' => k0_pay4 (k0_pay7 z) z') (ldfull arg1.view hz _ f0) (ldfull arg7.view hz _ _))
      · refine Eq.trans (ldfull arg6.view hz _ _) ?_
        refine comp_write _ _ _ _ _ _ _ _ ?_ (k0_off1_eq i)
        exact congrArg₂ (fun z z' => k0_pay2 (k0_pay8 z) z') (ldfull arg1.view hz _ f0) (ldfull arg2.view hz _ f1)
    isplitl [H5]
    · iexists _; isplitr; swap; · iexact H5
      ipureintro
      dsimp only
      refine Eq.trans (View.read_writes_full _ _ _ _ _) (congrArg k0_pay5 ?_)
      refine Eq.trans (ldfull arg7.view hz _ _) ?_
      exact Eq.trans (View.read_writes_full _ _ _ _ _) (congrArg₂ (fun z z' => k0_pay4 (k0_pay7 z) z') (ldfull arg1.view hz _ f0) (ldfull arg7.view hz _ _))
    isplitl [H6]
    · iexists _; isplitr; swap; · iexact H6
      ipureintro
      dsimp only
      refine comp_write _ _ _ _ _ _ _ _ ?_ (k0_off1_eq i)
      exact congrArg₂ (fun z z' => k0_pay2 (k0_pay8 z) z') (ldfull arg1.view hz _ f0) (ldfull arg2.view hz _ f1)
    iexists _; isplitr; swap; · iexact H7
    ipureintro
    dsimp only
    exact Eq.trans (View.read_writes_full _ _ _ _ _) (congrArg₂ (fun z z' => k0_pay4 (k0_pay7 z) z') (ldfull arg1.view hz _ f0) (ldfull arg7.view hz _ _))

end Cert.KernelIdeal.Run

end
-- ==== Proof.Ideal.Region0.lean ====
/- The first call over its grid: what each block holds after the body ran at a point, and the body there. -/
module

public import proofs.«01_k».proof.Proof.Ideal.Run0
public import proofs.«01_k».proof.Proof.Gen.KernelIdeal.Launch
public import proofs.«01_k».proof.Proof.Gen.KernelIdeal.Points
public import Idealize.ShloMosaic.Lib.Pipeline.Value
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem lt0 (t : Fin cfg0.N) : t.val < 16 := Nat.lt_of_lt_of_eq t.isLt (show cfg0.N = 16 from N_0)

theorem hc0_A : ∀ t : Fin cfg0.N, k0_condA (grid0.coords t) = 1#1 ↔ t.val = 0 :=
  (by decide +kernel : ∀ t : Fin grid0.N, k0_condA (grid0.coords t) = 1#1 ↔ t.val = 0)
theorem hc0_2 : ∀ t : Fin cfg0.N, k0_cond2 (grid0.coords t) = 1#1 ↔ t.val = 15 :=
  (by decide +kernel : ∀ t : Fin grid0.N, k0_cond2 (grid0.coords t) = 1#1 ↔ t.val = 15)
theorem coord0_0 : ∀ t : Fin cfg0.N, (grid0.coords t 0).val = t.val :=
  (by decide +kernel : ∀ t : Fin grid0.N, (grid0.coords t 0).val = t.val)
theorem idle0_3 : ∀ t : Fin cfg0.N, cfg0.idle 3 (grid0.coords t) = decide (t.val ≠ 15) :=
  (by decide +kernel : ∀ t : Fin grid0.N, idle0 3 (grid0.coords t) = decide (t.val ≠ 15))
theorem idle0_4 : ∀ t : Fin cfg0.N, cfg0.idle 4 (grid0.coords t) = decide (t.val ≠ 15) :=
  (by decide +kernel : ∀ t : Fin grid0.N, idle0 4 (grid0.coords t) = decide (t.val ≠ 15))

/-- The n-th point. -/
def pt0 (n : ℕ) : Fin cfg0.N := ⟨n % 16, (Nat.mod_lt _ (by decide)).trans_eq (show 16 = cfg0.N from N_0.symm)⟩

theorem pt0_val (t : Fin cfg0.N) (n : ℕ) (h : n = t.val) : pt0 n = t :=
  Fin.ext (by subst h; exact Nat.mod_eq_of_lt (lt0 t))

section Data

variable (V : Dev nD → Valuation τ sig (Elt F)) (c : Dev nD)

/-- Window `w`'s block at point `t`, of the arrays as the call finds them. -/
def iblk0 (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The running maximum of each lane before the n-th point. -/
def runMax : ℕ → Vec F S1x3072 .f32
  | 0 => k0_pay3
  | n + 1 => mxB (iblk0 V c 0 (pt0 n)) (runMax n)

/-- All the block maxima. -/
def compAll : Vec F S512x192 .f32 := fun y =>
  compB (iblk0 V c 0 (pt0 ((y 0).val / 32))) (iblk0 V c 1 (pt0 ((y 0).val / 32))) (ix2 (Fin.ofNat 32 (y 0).val) (y 1))

/-- What the collected block maxima hold before point `t`. -/
def Inv0 (t : ℕ) (d : Vec F S512x192 .f32) : Prop := ∀ y : S512x192.Idx, (y 0).val < 32 * t → d y = compAll V c y

theorem inv0_zero (d : Vec F S512x192 .f32) : Inv0 V c 0 d := fun _ h => absurd h (Nat.not_lt_zero _)

theorem inv0_step (t : Fin cfg0.N) (d : Vec F S512x192 .f32) (h : Inv0 V c t.val d) :
    Inv0 V c (t.val + 1) (compScr (grid0.coords t 0).val (iblk0 V c 0 t) (iblk0 V c 1 t) d) := by
  rw [coord0_0]
  intro y hy
  by_cases hc : 32 * t.val ≤ (y 0).val ∧ (y 0).val < 32 * t.val + 32
  · refine (if_pos hc).trans ?_
    unfold compAll
    rw [pt0_val t ((y 0).val / 32) (by omega)]
  · exact (if_neg hc).trans (h y (by omega))

theorem inv0_last (t : Fin cfg0.N) (ht : t.val = 15) (d : Vec F S512x192 .f32) (h : Inv0 V c t.val d) :
    compScr (grid0.coords t 0).val (iblk0 V c 0 t) (iblk0 V c 1 t) d = compAll V c := by
  funext y
  refine inv0_step V c t d h y ?_
  have : (y 0).val < 512 := (y 0).isLt
  omega

theorem runMax_step (t : Fin cfg0.N) : mxB (iblk0 V c 0 t) (runMax V c t.val) = runMax V c (t.val + 1) := by
  show _ = mxB (iblk0 V c 0 (pt0 t.val)) (runMax V c t.val)
  rw [pt0_val t _ rfl]

abbrev scM0a : Memref sig .tc .vmem S512x192 .f32 := Memref.whole cc0_scratch0
abbrev scM0b : Memref sig .tc .vmem S1x3072 .f32 := Memref.whole cc0_scratch1

/-- The other call's buffers. -/
def rest0 : sProp 𝕄 :=
  iprop((∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_stg0_0), ((c : Thread nD τ).loc cc1_stg0_0) ↦{fullShare} f))

/-- The two scratch buffers before point `t`. -/
def keep0 (t : ℕ) : sProp 𝕄 :=
  iprop((∃ d, ⌜Inv0 V c t d⌝ ∗ owns (c : Thread nD τ) scM0a fullShare d) ∗ (∃ e, ⌜0 < t → e = runMax V c t⌝ ∗ owns (c : Thread nD τ) scM0b fullShare e)
    ∗ rest0 c ∗ (∃ r, prngReg c r))

/-- The call's data: each input's buffer keeps its block; the repeated block maxima are the block's; the scales are those
    of all the rows. -/
def dat0 : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => repB (iblk0 V c 0 t)
    | ⟨3, _⟩ => k0_pay6 (runMax V c 16) (compAll V c)
    | ⟨4, _⟩ => k0_pay5 (runMax V c 16)
  Φ t := keep0 V c t.val
  q _ := fullShare
  owed _ := 0

theorem A0_eq (w : Fin cfg0.W) : (dat0 V c).A w = V c (Proc.devRef .tc (Pipeline.arrRef spec0 w)) := by dsimp only [dat0]
theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = repB (iblk0 V c 0 t) := by dsimp only [dat0]
theorem after0_3 (t : Fin cfg0.N) : (dat0 V c).after 3 t = k0_pay6 (runMax V c 16) (compAll V c) := by dsimp only [dat0]
theorem after0_4 (t : Fin cfg0.N) : (dat0 V c).after 4 t = k0_pay5 (runMax V c 16) := by dsimp only [dat0]

theorem before0_0 (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem leave0_3 (t : Fin cfg0.N) (ht : t.val ≠ 15) :
    ((dat0 V c).leavesExact 3 t : sProp 𝕄) = iprop(∃ d, owns (c : Thread nD τ) (st0_3 t) fullShare ((dat0 V c).before 3 t d)) :=
  (dat0 V c).leavesExact_idle 3 t ((idle0_3 t).trans (decide_eq_true ht)) (by
    cases hf : (cfg0.win 3).flush t
    · rfl
    · have := (flush0_3 t).mp hf
      have := lt0 t
      omega)
theorem live0_3 (t : Fin cfg0.N) (ht : t.val = 15) :
    ((dat0 V c).leavesExact 3 t : sProp 𝕄) = owns (c : Thread nD τ) (st0_3 t) fullShare ((dat0 V c).after 3 t) := by
  unfold Dat.leavesExact
  rw [idle0_3, decide_eq_false (by omega)]
theorem leave0_4 (t : Fin cfg0.N) (ht : t.val ≠ 15) :
    ((dat0 V c).leavesExact 4 t : sProp 𝕄) = iprop(∃ d, owns (c : Thread nD τ) (st0_4 t) fullShare ((dat0 V c).before 4 t d)) :=
  (dat0 V c).leavesExact_idle 4 t ((idle0_4 t).trans (decide_eq_true ht)) (by
    cases hf : (cfg0.win 4).flush t
    · rfl
    · have := (flush0_4 t).mp hf
      have := lt0 t
      omega)
theorem live0_4 (t : Fin cfg0.N) (ht : t.val = 15) :
    ((dat0 V c).leavesExact 4 t : sProp 𝕄) = owns (c : Thread nD τ) (st0_4 t) fullShare ((dat0 V c).after 4 t) := by
  unfold Dat.leavesExact
  rw [idle0_4, decide_eq_false (by omega)]

/-! ## The body at a point -/

def bodyPre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 2400000 in
theorem sound0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = keep0 V c (t.val + 1) from rfl,
    show (dat0 V c).Φ t.castSucc = keep0 V c t.val from rfl,
    show (dat0 V c).owesAt () t.succ = (dat0 V c).owesAt () t.castSucc from rfl]
  rw [show ((dat0 V c).leavesExact 0 t : sProp 𝕄) = owns (c : Thread nD τ) (st0_0 t) fullShare ((dat0 V c).after 0 t) from rfl, after0_0]
  rw [show ((dat0 V c).leavesExact 1 t : sProp 𝕄) = owns (c : Thread nD τ) (st0_1 t) fullShare ((dat0 V c).after 1 t) from rfl, after0_1]
  rw [show ((dat0 V c).leavesExact 2 t : sProp 𝕄) = owns (c : Thread nD τ) (st0_2 t) fullShare ((dat0 V c).after 2 t) from rfl, after0_2]
  unfold keep0
  have := lt0 t
  by_cases hA : t.val = 0
  · rw [leave0_3 V c t (by omega), leave0_4 V c t (by omega)]
    iintro ⟨⟨⟨%d, %hd, HS⟩, ⟨%e, %he, HT⟩, Hr, Hg⟩, Ho, ⟨%d0, H0⟩, ⟨%d1, H1⟩, ⟨%d2, H2⟩, ⟨%d3, H3⟩, ⟨%d4, H4⟩⟩
    iapply (run0_first c (grid0.coords t) _ _ _ _ _ _ _ _ _ _ _ _ _ _ ((hc0_A t).mpr hA) (fun h => by have := (hc0_2 t).mp h; omega) (iblk0 V c 0 t) (iblk0 V c 1 t) d Set.univ _)
    isplitl [H0]; · iexact H0
    isplitl [H1]; · iexact H1
    isplitl [H2]; · iexists _; iexact H2
    isplitl [HS]; · iexact HS
    isplitl [HT]; · iexists _; iexact HT
    iintro ⟨H0, H1, H2, HS, HT⟩
    isplitl [HS HT Hr Hg]
    · isplitl [HS]
      · iexists _
        isplitr; · ipureintro; exact inv0_step V c t d hd
        iexact HS
      isplitl [HT]
      · iexists _
        isplitr; · ipureintro; exact fun _ => (by rw [← runMax_step V c t, hA])
        iexact HT
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  by_cases h2 : t.val = 15
  · rw [live0_3 V c t h2, live0_4 V c t h2, after0_3, after0_4]
    iintro ⟨⟨⟨%d, %hd, HS⟩, ⟨%e, %he, HT⟩, Hr, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ _ _ (fun h => hA ((hc0_A t).mp h)) ((hc0_2 t).mpr h2) (iblk0 V c 0 t) (iblk0 V c 1 t) d e Set.univ _)
    isplitl [H0]; · iexact H0
    isplitl [H1]; · iexact H1
    isplitl [H2]; · iexists _; iexact H2
    isplitl [H3]; · iexists _; iexact H3
    isplitl [H4]; · iexists _; iexact H4
    isplitl [HS]; · iexact HS
    isplitl [HT]; · iexact HT
    rw [inv0_last V c t h2 d hd, he (by omega), runMax_step V c t, show t.val + 1 = 16 from by omega]
    iintro ⟨H0, H1, H2, H3, H4, HS, HT⟩
    isplitl [HS HT Hr Hg]
    · isplitl [HS]
      · iexists _
        isplitr; · ipureintro; exact (fun _ _ => rfl)
        iexact HS
      isplitl [HT]
      · iexists _
        isplitr; · ipureintro; exact fun _ => rfl
        iexact HT
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [leave0_3 V c t h2, leave0_4 V c t h2]
    iintro ⟨⟨⟨%d, %hd, HS⟩, ⟨%e, %he, HT⟩, Hr, Hg⟩, Ho, ⟨%d0, H0⟩, ⟨%d1, H1⟩, ⟨%d2, H2⟩, ⟨%d3, H3⟩, ⟨%d4, H4⟩⟩
    have he := he (by omega); subst he
    iapply (run0_mid c (grid0.coords t) _ _ _ _ _ _ _ _ _ _ _ _ _ _ (fun h => hA ((hc0_A t).mp h)) (fun h => h2 ((hc0_2 t).mp h)) (iblk0 V c 0 t) (iblk0 V c 1 t) d (runMax V c t.val) Set.univ _)
    isplitl [H0]; · iexact H0
    isplitl [H1]; · iexact H1
    isplitl [H2]; · iexists _; iexact H2
    isplitl [HS]; · iexact HS
    isplitl [HT]; · iexact HT
    iintro ⟨H0, H1, H2, HS, HT⟩
    isplitl [HS HT Hr Hg]
    · isplitl [HS]
      · iexists _
        isplitr; · ipureintro; exact inv0_step V c t d hd
        iexact HS
      isplitl [HT]
      · iexists _
        isplitr; · ipureintro; exact fun _ => runMax_step V c t
        iexact HT
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4

theorem row0 (t : Fin cfg0.N) : defs₀ (F := F) .tc cfg0.body (cfg0.bodyArgs t (cfg0.slots t)) = bodyAt0 t := by
  unfold defs₀; rw [Defs.onTc_tc]

/-- The body at every point. -/
theorem obligation0 : BodyObligation (dat0 (F := F) V c) (defs₀ (F := F)) Variants.none () Set.univ := fun t => by
  rw [bigSep_W0, bigSep_W0, row0]
  exact triple_restated (sound0 V c t) rfl .rfl fun _ => .rfl

/-- The call's start, and its end. -/
theorem enter0 : iprop(Pipeline.scopedRest spec0 c ∗ (∃ r, prngReg c r)) ⊢ ((dat0 V c).Φ 0 : sProp 𝕄) := by
  rw [show (dat0 V c).Φ 0 = keep0 V c 0 from rfl, scopedRest0_eq]
  simp only [keep0, scM0a, scM0b, owns_whole, rest0]
  iintro ⟨⟨⟨%d, HS⟩, ⟨%e, HT⟩, R0, R1, R2, R3, R4, R5, R6, R7, R8, R9, R10, R11, R12, R13⟩, Hg⟩
  isplitl [HS]
  · iexists d
    isplitr; · ipureintro; exact inv0_zero V c d
    iexact HS
  isplitl [HT]
  · iexists e
    isplitr; · ipureintro; exact fun h => absurd h (Nat.lt_irrefl 0)
    iexact HT
  isplitr [Hg]
  · skip
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact Hg

theorem exit0 : ((dat0 V c).Φ (Fin.last cfg0.N) : sProp 𝕄) ⊢ iprop(Pipeline.scopedRest spec0 c ∗ (∃ r, prngReg c r)) := by
  rw [show (dat0 V c).Φ (Fin.last cfg0.N) = keep0 V c cfg0.N from rfl, scopedRest0_eq]
  simp only [keep0, scM0a, scM0b, owns_whole, rest0]
  iintro ⟨⟨%d, -, HS⟩, ⟨%e, -, HT⟩, ⟨R0, R1, R2, R3, R4, R5, R6, R7, R8, R9, R10, R11, R12, R13⟩, Hg⟩
  isplitr [Hg]
  · isplitl [HS]; · iexists d; iexact HS
    isplitl [HT]; · iexists e; iexact HT
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact Hg

end Data

end Cert.KernelIdeal.Run

end
-- ==== Proof.Ideal.Pieces.lean ====
/- The pieces the quantising body stores at one grid point, as functions of the blocks it reads. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Quant.Tiles
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows 256·a to 256·a + 255 and columns 128·b to 128·b + 127 of the weight block. -/
def wPiece (x2 : Vec F S1024x256 .bf16) (a : Fin 4) (b : Fin 2) : Vec F S256x128 .bf16 :=
  View.ld x2 (Rect.unit (s := S1024x256) ![256 * a.val, 128 * b.val] S256x128.size (by
    intro k; match k with
    | ⟨0, _⟩ => show 256 * a.val + 256 ≤ 1024; omega
    | ⟨1, _⟩ => show 128 * b.val + 128 ≤ 256; omega))

/-- Rows 16·a to 16·a + 15 and columns 128·b to 128·b + 127 of the block of block maxima. -/
def rPiece (x3 : Vec F S64x256 .f32) (a : Fin 4) (b : Fin 2) : Vec F S16x128 .f32 :=
  View.ld x3 (Rect.unit (s := S64x256) ![16 * a.val, 128 * b.val] S16x128.size (by
    intro k; match k with
    | ⟨0, _⟩ => show 16 * a.val + 16 ≤ 64; omega
    | ⟨1, _⟩ => show 128 * b.val + 128 ≤ 256; omega))

/-- The codes of the even rows of a piece. -/
def nibLo (v0 : Elt F .f32) (w : Vec F S256x128 .bf16) (r : Vec F S16x128 .f32) : IVec S128x128 32 :=
  k1_pay19 (k1_pay12 v0 w r) (k1_pay13 v0 w r) (k1_pay14 v0 w r) k1_pay15

/-- The codes of the odd rows of a piece. -/
def nibHi (v0 : Elt F .f32) (w : Vec F S256x128 .bf16) (r : Vec F S16x128 .f32) : IVec S128x128 32 :=
  k1_pay27 (k1_pay21 (k1_pay6 w) (k1_pay10 v0 r) (k1_pay11 v0 r)) (k1_pay22 (k1_pay6 w) (k1_pay10 v0 r) (k1_pay11 v0 r))
    (k1_pay23 (k1_pay6 w) (k1_pay10 v0 r) (k1_pay11 v0 r)) (Scalar.ofBits .f32 0x40800000#32)

/-- The dequantised piece. -/
def deqPiece (v0 : Elt F .f32) (w : Vec F S256x128 .bf16) (r : Vec F S16x128 .f32) : FVec F S1x256x128 .bf16 :=
  k1_pay28 (k1_pay9 v0 r) (k1_pay20 (k1_pay9 v0 r) (k1_pay12 v0 w r) (k1_pay13 v0 w r) (k1_pay14 v0 w r) k1_pay15)
    (k1_pay21 (k1_pay6 w) (k1_pay10 v0 r) (k1_pay11 v0 r)) (k1_pay22 (k1_pay6 w) (k1_pay10 v0 r) (k1_pay11 v0 r))
    (k1_pay23 (k1_pay6 w) (k1_pay10 v0 r) (k1_pay11 v0 r)) (Scalar.ofBits .f32 0x40800000#32)

/-- The piece of codes paired along the rows, transposed. -/
def cnPiece (v0 : Elt F .f32) (w : Vec F S256x128 .bf16) (r : Vec F S16x128 .f32) : IVec S128x128 8 :=
  k1_pay29 (nibLo v0 w r) (nibHi v0 w r)

/-- The codes of a piece paired along the columns, four rows to a word, in the first 64 lanes and again in the last. -/
def packed (v0 : Elt F .f32) (w : Vec F S256x128 .bf16) (r : Vec F S16x128 .f32) : IVec S64x128 32 :=
  k1_pay30 k1_pay5 (nibLo v0 w r) (nibHi v0 w r)

/-- Two packed pieces side by side, as bytes. -/
def ckPiece (v0 : Elt F .f32) (w : Vec F S256x128 .bf16) (r : Vec F S16x128 .f32) (w' : Vec F S256x128 .bf16) (r' : Vec F S16x128 .f32) :
    IVec S256x128 8 :=
  k1_pay60 (iota .tc S64x128 32 [1] iota_S64x128_d1_w32) (packed v0 w r) (packed v0 w' r') 64#32

/-- One column tile of the product, scaled. -/
def yPiece (v0 : Elt F .f32) (x1 : Vec F S768x3072 .bf16) (D : Vec F S1x256x3072 .bf16) : FVec F S768x256 .bf16 :=
  k1_pay441 v0 x1 D

/-- Rows 256·b to 256·b + 255 of level `h` of the two dequantised tiles. -/
def dPiece (ds : Vec F S2x1024x3072 .bf16) (h : ℕ) (b : Fin 4) : Vec F S1x256x3072 .bf16 :=
  fun y => ds (ix3 (Fin.ofNat 2 h) (Fin.ofNat 1024 (256 * b.val + (y 1).val)) (y 2))

/-- The scalar the body reads from its first operand. -/
def s0 (x0 : Vec F S1x1 .f32) : Elt F .f32 :=
  View.ld x0 (Rect.unit (s := S1x1) ![0, 0] S1x1.size inb_S1x1_S1x1_0_0) (Shape.Idx.first (by decide))

theorem s0_eq (x0 : Vec F S1x1 .f32) : s0 x0 = x0 (ix2 0 0) :=
  congrArg x0 (funext fun k => match k with | ⟨0, _⟩ => rfl | ⟨1, _⟩ => rfl)

def deqTiles (v0 : Elt F .f32) (x2 : Vec F S1024x256 .bf16) (x3 : Vec F S64x256 .f32) (a : Fin 4) (b : Fin 2) : S1x256x128.Idx → Elt F .bf16 :=
  deqPiece v0 (wPiece x2 a b) (rPiece x3 a b)

def ckTiles (v0 : Elt F .f32) (x2 : Vec F S1024x256 .bf16) (x3 : Vec F S64x256 .f32) (a : Fin 4) (b : Fin 1) : S256x128.Idx → Elt F .i8 :=
  ckPiece v0 (wPiece x2 a 0) (rPiece x3 a 0) (wPiece x2 a 1) (rPiece x3 a 1)

def cnTiles (v0 : Elt F .f32) (x2 : Vec F S1024x256 .bf16) (x3 : Vec F S64x256 .f32) (b : Fin 2) (a : Fin 4) : S128x128.Idx → Elt F .i8 :=
  cnPiece v0 (wPiece x2 a b) (rPiece x3 a b)

def yTiles (v0 : Elt F .f32) (x1 : Vec F S768x3072 .bf16) (ds : Vec F S2x1024x3072 .bf16) (h : ℕ) (a : Fin 1) (b : Fin 4) : S768x256.Idx → Elt F .bf16 :=
  yPiece v0 x1 (dPiece ds h b)

/-- The block of codes paired along the columns. -/
def ckBlock (x0 : Vec F S1x1 .f32) (x2 : Vec F S1024x256 .bf16) (x3 : Vec F S64x256 .f32) : Vec F S1024x128 .i8 :=
  Tiles.tile2 (ckTiles (s0 x0) x2 x3)

/-- The block of codes paired along the rows, transposed. -/
def cnBlock (x0 : Vec F S1x1 .f32) (x2 : Vec F S1024x256 .bf16) (x3 : Vec F S64x256 .f32) : Vec F S256x512 .i8 :=
  Tiles.tile2 (cnTiles (s0 x0) x2 x3)

/-- The product with level `h` of the dequantised tiles. -/
def yBlock (x0 : Vec F S1x1 .f32) (x1 : Vec F S768x3072 .bf16) (ds : Vec F S2x1024x3072 .bf16) (h : ℕ) : Vec F S768x1024 .bf16 :=
  Tiles.tile2 (yTiles (s0 x0) x1 ds h)

/-- The two dequantised tiles after point (i, j): on level i mod 2 the columns 256·j to 256·j + 255 are the block's. -/
def scr (i j : ℕ) (x0 : Vec F S1x1 .f32) (x2 : Vec F S1024x256 .bf16) (x3 : Vec F S64x256 .f32) (ds : Vec F S2x1024x3072 .bf16) : Vec F S2x1024x3072 .bf16 :=
  fun y => if (y 0).val = i % 2 ∧ 256 * j ≤ (y 2).val ∧ (y 2).val < 256 * j + 256 then Tiles.tile3 (deqTiles (s0 x0) x2 x3) y else ds y

/-- The eight stores of one point's dequantised pieces leave the tiles with that point's columns replaced. -/
theorem scr_writes (v : View sig .tc .vmem S2x1024x3072 .bf16) (f : v.ty.Contents (Elt F)) (i j : ℕ) (hj : j < 12)
    (x0 : Vec F S1x1 .f32) (x2 : Vec F S1024x256 .bf16) (x3 : Vec F S64x256 .f32)
    (o31 o30 o21 o20 o11 o10 o01 o00 : Fin 3 → ℕ)
    (n31 : ∀ k, o31 k + S1x256x128.size k ≤ S2x1024x3072.size k) (n30 : ∀ k, o30 k + S1x256x128.size k ≤ S2x1024x3072.size k) (n21 : ∀ k, o21 k + S1x256x128.size k ≤ S2x1024x3072.size k) (n20 : ∀ k, o20 k + S1x256x128.size k ≤ S2x1024x3072.size k) (n11 : ∀ k, o11 k + S1x256x128.size k ≤ S2x1024x3072.size k) (n10 : ∀ k, o10 k + S1x256x128.size k ≤ S2x1024x3072.size k) (n01 : ∀ k, o01 k + S1x256x128.size k ≤ S2x1024x3072.size k) (n00 : ∀ k, o00 k + S1x256x128.size k ≤ S2x1024x3072.size k)
    (w31 w30 w21 w20 w11 w10 w01 w00 : S1x256x128.Idx → Elt F .bf16)
    (e31 : o31 = ![i % 2, 768, 256 * j + 128]) (e30 : o30 = ![i % 2, 768, 256 * j + 0]) (e21 : o21 = ![i % 2, 512, 256 * j + 128]) (e20 : o20 = ![i % 2, 512, 256 * j + 0]) (e11 : o11 = ![i % 2, 256, 256 * j + 128]) (e10 : o10 = ![i % 2, 256, 256 * j + 0]) (e01 : o01 = ![i % 2, 0, 256 * j + 128]) (e00 : o00 = ![i % 2, 0, 256 * j + 0])
    (q31 : w31 = deqTiles (s0 x0) x2 x3 3 1) (q30 : w30 = deqTiles (s0 x0) x2 x3 3 0) (q21 : w21 = deqTiles (s0 x0) x2 x3 2 1) (q20 : w20 = deqTiles (s0 x0) x2 x3 2 0) (q11 : w11 = deqTiles (s0 x0) x2 x3 1 1) (q10 : w10 = deqTiles (s0 x0) x2 x3 1 0) (q01 : w01 = deqTiles (s0 x0) x2 x3 0 1) (q00 : w00 = deqTiles (s0 x0) x2 x3 0 0) :
    v.read (Elt F) (v.writes (Elt F) f [⟨Rect.unit (s := S2x1024x3072) o31 S1x256x128.size n31, w31⟩, ⟨Rect.unit (s := S2x1024x3072) o30 S1x256x128.size n30, w30⟩, ⟨Rect.unit (s := S2x1024x3072) o21 S1x256x128.size n21, w21⟩, ⟨Rect.unit (s := S2x1024x3072) o20 S1x256x128.size n20, w20⟩, ⟨Rect.unit (s := S2x1024x3072) o11 S1x256x128.size n11, w11⟩, ⟨Rect.unit (s := S2x1024x3072) o10 S1x256x128.size n10, w10⟩, ⟨Rect.unit (s := S2x1024x3072) o01 S1x256x128.size n01, w01⟩, ⟨Rect.unit (s := S2x1024x3072) o00 S1x256x128.size n00, w00⟩]) = scr i j x0 x2 x3 (v.read (Elt F) f) := by
  refine Tiles.read_writes_where _ _ (Tiles.tile3 (deqTiles (s0 x0) x2 x3))
    (fun y => (y 0).val = i % 2 ∧ 256 * j ≤ (y 2).val ∧ (y 2).val < 256 * j + 256) _ ?_ ?_
  · simp only [List.forall_mem_cons, List.not_mem_nil, false_imp_iff, implies_true, and_true]
    refine ⟨fun x => ?_, fun x => ?_, fun x => ?_, fun x => ?_, fun x => ?_, fun x => ?_, fun x => ?_, fun x => ?_⟩
    · exact Eq.trans (congrFun q31 x) (Tiles.tile3_emb (deqTiles (s0 x0) x2 x3) 3 1 j _ _ (by rw [e31]; rfl) (by rw [e31]; show 256 * j + 128 = 128 * (2 * j + 1); omega) x).symm
    · exact Eq.trans (congrFun q30 x) (Tiles.tile3_emb (deqTiles (s0 x0) x2 x3) 3 0 j _ _ (by rw [e30]; rfl) (by rw [e30]; show 256 * j + 0 = 128 * (2 * j + 0); omega) x).symm
    · exact Eq.trans (congrFun q21 x) (Tiles.tile3_emb (deqTiles (s0 x0) x2 x3) 2 1 j _ _ (by rw [e21]; rfl) (by rw [e21]; show 256 * j + 128 = 128 * (2 * j + 1); omega) x).symm
    · exact Eq.trans (congrFun q20 x) (Tiles.tile3_emb (deqTiles (s0 x0) x2 x3) 2 0 j _ _ (by rw [e20]; rfl) (by rw [e20]; show 256 * j + 0 = 128 * (2 * j + 0); omega) x).symm
    · exact Eq.trans (congrFun q11 x) (Tiles.tile3_emb (deqTiles (s0 x0) x2 x3) 1 1 j _ _ (by rw [e11]; rfl) (by rw [e11]; show 256 * j + 128 = 128 * (2 * j + 1); omega) x).symm
    · exact Eq.trans (congrFun q10 x) (Tiles.tile3_emb (deqTiles (s0 x0) x2 x3) 1 0 j _ _ (by rw [e10]; rfl) (by rw [e10]; show 256 * j + 0 = 128 * (2 * j + 0); omega) x).symm
    · exact Eq.trans (congrFun q01 x) (Tiles.tile3_emb (deqTiles (s0 x0) x2 x3) 0 1 j _ _ (by rw [e01]; rfl) (by rw [e01]; show 256 * j + 128 = 128 * (2 * j + 1); omega) x).symm
    · exact Eq.trans (congrFun q00 x) (Tiles.tile3_emb (deqTiles (s0 x0) x2 x3) 0 0 j _ _ (by rw [e00]; rfl) (by rw [e00]; show 256 * j + 0 = 128 * (2 * j + 0); omega) x).symm
  · intro y
    have h0 : (y 0).val < 2 := (y 0).isLt
    have h1 : (y 1).val < 1024 := (y 1).isLt
    have h2 : (y 2).val < 3072 := (y 2).isLt
    simp only [List.exists_mem_cons_iff, List.not_mem_nil, _root_.false_and, exists_false, exists_const, _root_.or_false, Rect.mem_set_unit, Fin.forall_fin_succ, Fin.forall_fin_zero_pi, e31, e30, e21, e20, e11, e10, e01, e00]
    simp only [Matrix.cons_val_zero, Matrix.cons_val_one, Matrix.cons_val_succ, Fin.succ_zero_eq_one, Fin.succ_one_eq_two, Matrix.cons_val, IsEmpty.forall_iff, and_true]
    generalize i % 2 = w at *
    generalize (y 0).val = p at *; generalize (y 1).val = q at *; generalize (y 2).val = s at *
    constructor
    · intro h
      obtain ⟨ha, hb, hc⟩ := h
      omega
    · intro h
      rcases h with h | h | h | h | h | h | h | h <;> exact ⟨by omega, by omega, by omega⟩

/-- Level `h`'s rows read through the rectangle the body loads them from. -/
theorem ld_dPiece (ds : Vec F S2x1024x3072 .bf16) (h : ℕ) (hh : h < 2) (b : Fin 4) (off : Fin 3 → ℕ) (inb) (h0 : off 0 = h) (h1 : off 1 = 256 * b.val) (h2 : off 2 = 0) :
    View.ld ds (Rect.unit (s := S2x1024x3072) off S1x256x3072.size inb) = dPiece ds h b := by
  funext y
  refine congrArg ds (funext fun k => Fin.ext ?_)
  have y0 : (y 0).val = 0 := by have := (y 0).isLt; change (y 0).val < 1 at this; omega
  have y1 : (y 1).val < 256 := (y 1).isLt
  have hb := b.isLt
  match k with
  | ⟨0, _⟩ => show off 0 + 1 * (y 0).val = h % 2; rw [h0, y0]; omega
  | ⟨1, _⟩ => show off 1 + 1 * (y 1).val = (256 * b.val + (y 1).val) % 1024; rw [h1]; omega
  | ⟨2, _⟩ => show off 2 + 1 * (y 2).val = (y 2).val; rw [h2]; omega

/-- The level the point does not write is untouched. -/
theorem dPiece_scr (i j h : ℕ) (hh : h < 2) (hi : h ≠ i % 2) (x0 : Vec F S1x1 .f32) (x2 : Vec F S1024x256 .bf16) (x3 : Vec F S64x256 .f32) (ds : Vec F S2x1024x3072 .bf16) (b : Fin 4) :
    dPiece (scr i j x0 x2 x3 ds) h b = dPiece ds h b := by
  funext y
  refine if_neg fun hc => hi ?_
  have := hc.1
  change h % 2 = i % 2 at this
  omega

end Cert.KernelIdeal.Run

end
-- ==== Proof.Ideal.RunA.lean ====
/- The run of the body at the points of the first tile: the quantisation alone. -/
module

public import proofs.«01_k».proof.Proof.Ideal.Pieces
public import Idealize.ShloMosaic.Lib.Pipeline.Value
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runA (c : Dev nD) (i : grid1.Coords) (arg2 : Memref sig .tc .smem S1x1 .f32) (harg2 : arg2.IsWhole) (arg3 : Memref sig .tc .vmem S768x3072 .bf16) (harg3 : arg3.IsWhole) (arg4 : Memref sig .tc .vmem S1024x256 .bf16) (harg4 : arg4.IsWhole) (arg5 : Memref sig .tc .vmem S64x256 .f32) (harg5 : arg5.IsWhole) (arg6 : Memref sig .tc .vmem S768x1024 .bf16) (harg6 : arg6.IsWhole) (arg7 : Memref sig .tc .vmem S1024x128 .i8) (harg7 : arg7.IsWhole) (arg8 : Memref sig .tc .vmem S256x512 .i8) (harg8 : arg8.IsWhole) (arg9 : Memref sig .tc .vmem S2x1024x3072 .bf16) (harg9 : arg9.IsWhole)
    (hc0 : k1_cond1 i = 1#1) (hc1 : ¬(k1_cond2 i = 1#1)) (hc2 : ¬(k1_cond3 i = 1#1))
    (x0 : Vec F S1x1 .f32) (x1 : Vec F S768x3072 .bf16) (x2 : Vec F S1024x256 .bf16) (x3 : Vec F S64x256 .f32) (ds : Vec F S2x1024x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ owns (c : Thread nD τ) arg9 fullShare ds
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare (ckBlock x0 x2 x3) ∗ owns (c : Thread nD τ) arg8 fullShare (cnBlock x0 x2 x3) ∗ owns (c : Thread nD τ) arg9 fullShare (scr (i 0).val (i 1).val x0 x2 x3 ds)) -∗ K ⟨⟩))
          ⊢ wp frame (wpE (defs₀ (F := F)) Variants.none c none) E (cc1_quant_matmul i arg2 harg2 arg3 harg3 arg4 harg4 arg5 harg5 arg6 harg6 arg7 harg7 arg8 harg8 arg9 harg9) K := by
    intro E K
    simp only [cc1_quant_matmul_eq_skeleton]; unfold cc1_quant_matmul_skel
    simp only [hc0, hc1, hc2, ↓reduceDIte]
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%fs0, %hfs0, HS0⟩, Hk⟩
    subst hf0; subst hf1; subst hf2; subst hf3; subst hfs0
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H7]
    · iexists _; isplitr; swap; · iexact H7
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_⟩
        · exact Eq.trans (congrFun (by rfl : _ = ckTiles (s0 (arg2.view.read (Elt F) f0)) (arg4.view.read (Elt F) f2) (arg5.view.read (Elt F) f3) 3 0) x) (Tiles.tile2_emb (ckTiles (s0 (arg2.view.read (Elt F) f0)) (arg4.view.read (Elt F) f2) (arg5.view.read (Elt F) f3)) 3 0 _ _ rfl rfl x).symm
        · exact Eq.trans (congrFun (by rfl : _ = ckTiles (s0 (arg2.view.read (Elt F) f0)) (arg4.view.read (Elt F) f2) (arg5.view.read (Elt F) f3) 2 0) x) (Tiles.tile2_emb (ckTiles (s0 (arg2.view.read (Elt F) f0)) (arg4.view.read (Elt F) f2) (arg5.view.read (Elt F) f3)) 2 0 _ _ rfl rfl x).symm
        · exact Eq.trans (congrFun (by rfl : _ = ckTiles (s0 (arg2.view.read (Elt F) f0)) (arg4.view.read (Elt F) f2) (arg5.view.read (Elt F) f3) 1 0) x) (Tiles.tile2_emb (ckTiles (s0 (arg2.view.read (Elt F) f0)) (arg4.view.read (Elt F) f2) (arg5.view.read (Elt F) f3)) 1 0 _ _ rfl rfl x).symm
        · exact Eq.trans (congrFun (by rfl : _ = ckTiles (s0 (arg2.view.read (Elt F) f0)) (arg4.view.read (Elt F) f2) (arg5.view.read (Elt F) f3) 0 0) x) (Tiles.tile2_emb (ckTiles (s0 (arg2.view.read (Elt F) f0)) (arg4.view.read (Elt F) f2) (arg5.view.read (Elt F) f3)) 0 0 _ _ rfl rfl x).symm
      · intro y
        have h0 : (y 0).val < 1024 := (y 0).isLt
        have h1 : (y 1).val < 128 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    isplitl [H8]
    · iexists _; isplitr; swap; · iexact H8
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_, fun x => ?_, fun x => ?_, fun x => ?_, fun x => ?_⟩
        · exact Eq.trans (congrFun (by rfl : _ = cnTiles (s0 (arg2.view.read (Elt F) f0)) (arg4.view.read (Elt F) f2) (arg5.view.read (Elt F) f3) 1 3) x) (Tiles.tile2_emb (cnTiles (s0 (arg2.view.read (Elt F) f0)) (arg4.view.read (Elt F) f2) (arg5.view.read (Elt F) f3)) 1 3 _ _ rfl rfl x).symm
        · exact Eq.trans (congrFun (by rfl : _ = cnTiles (s0 (arg2.view.read (Elt F) f0)) (arg4.view.read (Elt F) f2) (arg5.view.read (Elt F) f3) 0 3) x) (Tiles.tile2_emb (cnTiles (s0 (arg2.view.read (Elt F) f0)) (arg4.view.read (Elt F) f2) (arg5.view.read (Elt F) f3)) 0 3 _ _ rfl rfl x).symm
        · exact Eq.trans (congrFun (by rfl : _ = cnTiles (s0 (arg2.view.read (Elt F) f0)) (arg4.view.read (Elt F) f2) (arg5.view.read (Elt F) f3) 1 2) x) (Tiles.tile2_emb (cnTiles (s0 (arg2.view.read (Elt F) f0)) (arg4.view.read (Elt F) f2) (arg5.view.read (Elt F) f3)) 1 2 _ _ rfl rfl x).symm
        · exact Eq.trans (congrFun (by rfl : _ = cnTiles (s0 (arg2.view.read (Elt F) f0)) (arg4.view.read (Elt F) f2) (arg5.view.read (Elt F) f3) 0 2) x) (Tiles.tile2_emb (cnTiles (s0 (arg2.view.read (Elt F) f0)) (arg4.view.read (Elt F) f2) (arg5.view.read (Elt F) f3)) 0 2 _ _ rfl rfl x).symm
        · exact Eq.trans (congrFun (by rfl : _ = cnTiles (s0 (arg2.view.read (Elt F) f0)) (arg4.view.read (Elt F) f2) (arg5.view.read (Elt F) f3) 1 1) x) (Tiles.tile2_emb (cnTiles (s0 (arg2.view.read (Elt F) f0)) (arg4.view.read (Elt F) f2) (arg5.view.read (Elt F) f3)) 1 1 _ _ rfl rfl x).symm
        · exact Eq.trans (congrFun (by rfl : _ = cnTiles (s0 (arg2.view.read (Elt F) f0)) (arg4.view.read (Elt F) f2) (arg5.view.read (Elt F) f3) 0 1) x) (Tiles.tile2_emb (cnTiles (s0 (arg2.view.read (Elt F) f0)) (arg4.view.read (Elt F) f2) (arg5.view.read (Elt F) f3)) 0 1 _ _ rfl rfl x).symm
        · exact Eq.trans (congrFun (by rfl : _ = cnTiles (s0 (arg2.view.read (Elt F) f0)) (arg4.view.read (Elt F) f2) (arg5.view.read (Elt F) f3) 1 0) x) (Tiles.tile2_emb (cnTiles (s0 (arg2.view.read (Elt F) f0)) (arg4.view.read (Elt F) f2) (arg5.view.read (Elt F) f3)) 1 0 _ _ rfl rfl x).symm
        · exact Eq.trans (congrFun (by rfl : _ = cnTiles (s0 (arg2.view.read (Elt F) f0)) (arg4.view.read (Elt F) f2) (arg5.view.read (Elt F) f3) 0 0) x) (Tiles.tile2_emb (cnTiles (s0 (arg2.view.read (Elt F) f0)) (arg4.view.read (Elt F) f2) (arg5.view.read (Elt F) f3)) 0 0 _ _ rfl rfl x).symm
      · intro y
        have h0 : (y 0).val < 256 := (y 0).isLt
        have h1 : (y 1).val < 512 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    iexists _; isplitr; swap; · iexact HS0
    ipureintro
    exact scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off4_eq i 1) (k1_off4_eq i 0) (k1_off3_eq i 1) (k1_off3_eq i 0) (k1_off2_eq i 1) (k1_off2_eq i 0) (k1_off1_eq i 1) (k1_off1_eq i 0) (by rfl) (by rfl) (by rfl) (by rfl) (by rfl) (by rfl) (by rfl) (by rfl)

end Cert.KernelIdeal.Run

end
-- ==== Proof.Ideal.RunB.lean ====
/- The run of the body at the points of the middle tiles: the quantisation of one tile and the product with the one before. -/
module

public import proofs.«01_k».proof.Proof.Ideal.Pieces
public import Idealize.ShloMosaic.Lib.Pipeline.Value
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid1.Coords) (arg2 : Memref sig .tc .smem S1x1 .f32) (harg2 : arg2.IsWhole) (arg3 : Memref sig .tc .vmem S768x3072 .bf16) (harg3 : arg3.IsWhole) (arg4 : Memref sig .tc .vmem S1024x256 .bf16) (harg4 : arg4.IsWhole) (arg5 : Memref sig .tc .vmem S64x256 .f32) (harg5 : arg5.IsWhole) (arg6 : Memref sig .tc .vmem S768x1024 .bf16) (harg6 : arg6.IsWhole) (arg7 : Memref sig .tc .vmem S1024x128 .i8) (harg7 : arg7.IsWhole) (arg8 : Memref sig .tc .vmem S256x512 .i8) (harg8 : arg8.IsWhole) (arg9 : Memref sig .tc .vmem S2x1024x3072 .bf16) (harg9 : arg9.IsWhole)
    (hc0 : ¬(k1_cond1 i = 1#1)) (hc1 : k1_cond2 i = 1#1) (hc2 : ¬(k1_cond3 i = 1#1))
    (x0 : Vec F S1x1 .f32) (x1 : Vec F S768x3072 .bf16) (x2 : Vec F S1024x256 .bf16) (x3 : Vec F S64x256 .f32) (ds : Vec F S2x1024x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare ds
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yBlock x0 x1 ds (1 - (i 0).val % 2)) ∗ owns (c : Thread nD τ) arg7 fullShare (ckBlock x0 x2 x3) ∗ owns (c : Thread nD τ) arg8 fullShare (cnBlock x0 x2 x3) ∗ owns (c : Thread nD τ) arg9 fullShare (scr (i 0).val (i 1).val x0 x2 x3 ds)) -∗ K ⟨⟩))
          ⊢ wp frame (wpE (defs₀ (F := F)) Variants.none c none) E (cc1_quant_matmul i arg2 harg2 arg3 harg3 arg4 harg4 arg5 harg5 arg6 harg6 arg7 harg7 arg8 harg8 arg9 harg9) K := by
    intro E K
    simp only [cc1_quant_matmul_eq_skeleton]; unfold cc1_quant_matmul_skel
    simp only [hc0, hc1, hc2, ↓reduceDIte]
    simp only [k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%fs0, %hfs0, HS0⟩, Hk⟩
    subst hf0; subst hf1; subst hf2; subst hf3; subst hfs0
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H6]
    · iexists _; isplitr; swap; · iexact H6
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_⟩
        · refine Eq.trans ?_ (Tiles.tile2_emb (yTiles (s0 (arg2.view.read (Elt F) f0)) (arg3.view.read (Elt F) f1) (arg9.view.read (Elt F) fs0) (1 - (i 0).val % 2)) 0 3 _ _ rfl rfl x).symm
          refine congrFun (Eq.trans (b := yPiece (s0 (arg2.view.read (Elt F) f0)) (View.ld (arg3.view.read (Elt F) f1) (Rect.unit (s := S768x3072) ![0, 0] S768x3072.size inb_S768x3072_S768x3072_0_0)) (View.readAt (Elt F) arg9.view (Rect.unit (s := S2x1024x3072) (k1_off12 i) S1x256x3072.size (k1_off12_inb i hc1)).toLoadRect (arg9.view.writes (Elt F) fs0 _))) (by rfl) ?_) x
          rw [View.ld_unit_zero (by funext k; match k with | ⟨0, _⟩ => rfl | ⟨1, _⟩ => rfl), View.readAt_eq_ld]
          refine (congrArg (fun z => yPiece (s0 (arg2.view.read (Elt F) f0)) (arg3.view.read (Elt F) f1) (View.ld z (Rect.unit (s := S2x1024x3072) (k1_off12 i) S1x256x3072.size (k1_off12_inb i hc1)))) (scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl))).trans ?_
          dsimp only
          rw [ld_dPiece _ (1 - (i 0).val % 2) (by omega) 3 (k1_off12 i) (k1_off12_inb i hc1) (by rw [k1_off12_eq]; rfl) (by rw [k1_off12_eq]; rfl) (by rw [k1_off12_eq]; rfl), dPiece_scr _ _ _ (by omega) (by omega)]
          rfl
        · refine Eq.trans ?_ (Tiles.tile2_emb (yTiles (s0 (arg2.view.read (Elt F) f0)) (arg3.view.read (Elt F) f1) (arg9.view.read (Elt F) fs0) (1 - (i 0).val % 2)) 0 2 _ _ rfl rfl x).symm
          refine congrFun (Eq.trans (b := yPiece (s0 (arg2.view.read (Elt F) f0)) (View.ld (arg3.view.read (Elt F) f1) (Rect.unit (s := S768x3072) ![0, 0] S768x3072.size inb_S768x3072_S768x3072_0_0)) (View.readAt (Elt F) arg9.view (Rect.unit (s := S2x1024x3072) (k1_off11 i) S1x256x3072.size (k1_off11_inb i hc1)).toLoadRect (arg9.view.writes (Elt F) fs0 _))) (by rfl) ?_) x
          rw [View.ld_unit_zero (by funext k; match k with | ⟨0, _⟩ => rfl | ⟨1, _⟩ => rfl), View.readAt_eq_ld]
          refine (congrArg (fun z => yPiece (s0 (arg2.view.read (Elt F) f0)) (arg3.view.read (Elt F) f1) (View.ld z (Rect.unit (s := S2x1024x3072) (k1_off11 i) S1x256x3072.size (k1_off11_inb i hc1)))) (scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl))).trans ?_
          dsimp only
          rw [ld_dPiece _ (1 - (i 0).val % 2) (by omega) 2 (k1_off11 i) (k1_off11_inb i hc1) (by rw [k1_off11_eq]; rfl) (by rw [k1_off11_eq]; rfl) (by rw [k1_off11_eq]; rfl), dPiece_scr _ _ _ (by omega) (by omega)]
          rfl
        · refine Eq.trans ?_ (Tiles.tile2_emb (yTiles (s0 (arg2.view.read (Elt F) f0)) (arg3.view.read (Elt F) f1) (arg9.view.read (Elt F) fs0) (1 - (i 0).val % 2)) 0 1 _ _ rfl rfl x).symm
          refine congrFun (Eq.trans (b := yPiece (s0 (arg2.view.read (Elt F) f0)) (View.ld (arg3.view.read (Elt F) f1) (Rect.unit (s := S768x3072) ![0, 0] S768x3072.size inb_S768x3072_S768x3072_0_0)) (View.readAt (Elt F) arg9.view (Rect.unit (s := S2x1024x3072) (k1_off10 i) S1x256x3072.size (k1_off10_inb i hc1)).toLoadRect (arg9.view.writes (Elt F) fs0 _))) (by rfl) ?_) x
          rw [View.ld_unit_zero (by funext k; match k with | ⟨0, _⟩ => rfl | ⟨1, _⟩ => rfl), View.readAt_eq_ld]
          refine (congrArg (fun z => yPiece (s0 (arg2.view.read (Elt F) f0)) (arg3.view.read (Elt F) f1) (View.ld z (Rect.unit (s := S2x1024x3072) (k1_off10 i) S1x256x3072.size (k1_off10_inb i hc1)))) (scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl))).trans ?_
          dsimp only
          rw [ld_dPiece _ (1 - (i 0).val % 2) (by omega) 1 (k1_off10 i) (k1_off10_inb i hc1) (by rw [k1_off10_eq]; rfl) (by rw [k1_off10_eq]; rfl) (by rw [k1_off10_eq]; rfl), dPiece_scr _ _ _ (by omega) (by omega)]
          rfl
        · refine Eq.trans ?_ (Tiles.tile2_emb (yTiles (s0 (arg2.view.read (Elt F) f0)) (arg3.view.read (Elt F) f1) (arg9.view.read (Elt F) fs0) (1 - (i 0).val % 2)) 0 0 _ _ rfl rfl x).symm
          refine congrFun (Eq.trans (b := yPiece (s0 (arg2.view.read (Elt F) f0)) (View.ld (arg3.view.read (Elt F) f1) (Rect.unit (s := S768x3072) ![0, 0] S768x3072.size inb_S768x3072_S768x3072_0_0)) (View.readAt (Elt F) arg9.view (Rect.unit (s := S2x1024x3072) (k1_off9 i) S1x256x3072.size (k1_off9_inb i hc1)).toLoadRect (arg9.view.writes (Elt F) fs0 _))) (by rfl) ?_) x
          rw [View.ld_unit_zero (by funext k; match k with | ⟨0, _⟩ => rfl | ⟨1, _⟩ => rfl), View.readAt_eq_ld]
          refine (congrArg (fun z => yPiece (s0 (arg2.view.read (Elt F) f0)) (arg3.view.read (Elt F) f1) (View.ld z (Rect.unit (s := S2x1024x3072) (k1_off9 i) S1x256x3072.size (k1_off9_inb i hc1)))) (scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl))).trans ?_
          dsimp only
          rw [ld_dPiece _ (1 - (i 0).val % 2) (by omega) 0 (k1_off9 i) (k1_off9_inb i hc1) (by rw [k1_off9_eq]; rfl) (by rw [k1_off9_eq]; rfl) (by rw [k1_off9_eq]; rfl), dPiece_scr _ _ _ (by omega) (by omega)]
          rfl
      · intro y
        have h0 : (y 0).val < 768 := (y 0).isLt
        have h1 : (y 1).val < 1024 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    isplitl [H7]
    · iexists _; isplitr; swap; · iexact H7
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_⟩
        · exact Eq.trans (congrFun (by rfl : _ = ckTiles (s0 (arg2.view.read (Elt F) f0)) (arg4.view.read (Elt F) f2) (arg5.view.read (Elt F) f3) 3 0) x) (Tiles.tile2_emb (ckTiles (s0 (arg2.view.read (Elt F) f0)) (arg4.view.read (Elt F) f2) (arg5.view.read (Elt F) f3)) 3 0 _ _ rfl rfl x).symm
        · exact Eq.trans (congrFun (by rfl : _ = ckTiles (s0 (arg2.view.read (Elt F) f0)) (arg4.view.read (Elt F) f2) (arg5.view.read (Elt F) f3) 2 0) x) (Tiles.tile2_emb (ckTiles (s0 (arg2.view.read (Elt F) f0)) (arg4.view.read (Elt F) f2) (arg5.view.read (Elt F) f3)) 2 0 _ _ rfl rfl x).symm
        · exact Eq.trans (congrFun (by rfl : _ = ckTiles (s0 (arg2.view.read (Elt F) f0)) (arg4.view.read (Elt F) f2) (arg5.view.read (Elt F) f3) 1 0) x) (Tiles.tile2_emb (ckTiles (s0 (arg2.view.read (Elt F) f0)) (arg4.view.read (Elt F) f2) (arg5.view.read (Elt F) f3)) 1 0 _ _ rfl rfl x).symm
        · exact Eq.trans (congrFun (by rfl : _ = ckTiles (s0 (arg2.view.read (Elt F) f0)) (arg4.view.read (Elt F) f2) (arg5.view.read (Elt F) f3) 0 0) x) (Tiles.tile2_emb (ckTiles (s0 (arg2.view.read (Elt F) f0)) (arg4.view.read (Elt F) f2) (arg5.view.read (Elt F) f3)) 0 0 _ _ rfl rfl x).symm
      · intro y
        have h0 : (y 0).val < 1024 := (y 0).isLt
        have h1 : (y 1).val < 128 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    isplitl [H8]
    · iexists _; isplitr; swap; · iexact H8
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_, fun x => ?_, fun x => ?_, fun x => ?_, fun x => ?_⟩
        · exact Eq.trans (congrFun (by rfl : _ = cnTiles (s0 (arg2.view.read (Elt F) f0)) (arg4.view.read (Elt F) f2) (arg5.view.read (Elt F) f3) 1 3) x) (Tiles.tile2_emb (cnTiles (s0 (arg2.view.read (Elt F) f0)) (arg4.view.read (Elt F) f2) (arg5.view.read (Elt F) f3)) 1 3 _ _ rfl rfl x).symm
        · exact Eq.trans (congrFun (by rfl : _ = cnTiles (s0 (arg2.view.read (Elt F) f0)) (arg4.view.read (Elt F) f2) (arg5.view.read (Elt F) f3) 0 3) x) (Tiles.tile2_emb (cnTiles (s0 (arg2.view.read (Elt F) f0)) (arg4.view.read (Elt F) f2) (arg5.view.read (Elt F) f3)) 0 3 _ _ rfl rfl x).symm
        · exact Eq.trans (congrFun (by rfl : _ = cnTiles (s0 (arg2.view.read (Elt F) f0)) (arg4.view.read (Elt F) f2) (arg5.view.read (Elt F) f3) 1 2) x) (Tiles.tile2_emb (cnTiles (s0 (arg2.view.read (Elt F) f0)) (arg4.view.read (Elt F) f2) (arg5.view.read (Elt F) f3)) 1 2 _ _ rfl rfl x).symm
        · exact Eq.trans (congrFun (by rfl : _ = cnTiles (s0 (arg2.view.read (Elt F) f0)) (arg4.view.read (Elt F) f2) (arg5.view.read (Elt F) f3) 0 2) x) (Tiles.tile2_emb (cnTiles (s0 (arg2.view.read (Elt F) f0)) (arg4.view.read (Elt F) f2) (arg5.view.read (Elt F) f3)) 0 2 _ _ rfl rfl x).symm
        · exact Eq.trans (congrFun (by rfl : _ = cnTiles (s0 (arg2.view.read (Elt F) f0)) (arg4.view.read (Elt F) f2) (arg5.view.read (Elt F) f3) 1 1) x) (Tiles.tile2_emb (cnTiles (s0 (arg2.view.read (Elt F) f0)) (arg4.view.read (Elt F) f2) (arg5.view.read (Elt F) f3)) 1 1 _ _ rfl rfl x).symm
        · exact Eq.trans (congrFun (by rfl : _ = cnTiles (s0 (arg2.view.read (Elt F) f0)) (arg4.view.read (Elt F) f2) (arg5.view.read (Elt F) f3) 0 1) x) (Tiles.tile2_emb (cnTiles (s0 (arg2.view.read (Elt F) f0)) (arg4.view.read (Elt F) f2) (arg5.view.read (Elt F) f3)) 0 1 _ _ rfl rfl x).symm
        · exact Eq.trans (congrFun (by rfl : _ = cnTiles (s0 (arg2.view.read (Elt F) f0)) (arg4.view.read (Elt F) f2) (arg5.view.read (Elt F) f3) 1 0) x) (Tiles.tile2_emb (cnTiles (s0 (arg2.view.read (Elt F) f0)) (arg4.view.read (Elt F) f2) (arg5.view.read (Elt F) f3)) 1 0 _ _ rfl rfl x).symm
        · exact Eq.trans (congrFun (by rfl : _ = cnTiles (s0 (arg2.view.read (Elt F) f0)) (arg4.view.read (Elt F) f2) (arg5.view.read (Elt F) f3) 0 0) x) (Tiles.tile2_emb (cnTiles (s0 (arg2.view.read (Elt F) f0)) (arg4.view.read (Elt F) f2) (arg5.view.read (Elt F) f3)) 0 0 _ _ rfl rfl x).symm
      · intro y
        have h0 : (y 0).val < 256 := (y 0).isLt
        have h1 : (y 1).val < 512 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    iexists _; isplitr; swap; · iexact HS0
    ipureintro
    exact scr_writes arg9.view fs0 (i 0).val (i 1).val (i 1).isLt (arg2.view.read (Elt F) f0) (arg4.view.read (Elt F) f2) (arg5.view.read (Elt F) f3) _ _ _ _ _ _ _ _ _ _ _ _ _ _ _ _ _ _ _ _ _ _ _ _ (k1_off8_eq i 1) (k1_off8_eq i 0) (k1_off7_eq i 1) (k1_off7_eq i 0) (k1_off6_eq i 1) (k1_off6_eq i 0) (k1_off5_eq i 1) (k1_off5_eq i 0) (by rfl) (by rfl) (by rfl) (by rfl) (by rfl) (by rfl) (by rfl) (by rfl)

end Cert.KernelIdeal.Run

end
-- ==== Proof.Ideal.RunC.lean ====
/- The run of the body at the points past the last tile: the product alone. -/
module

public import proofs.«01_k».proof.Proof.Ideal.Pieces
public import Idealize.ShloMosaic.Lib.Pipeline.Value
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runC (c : Dev nD) (i : grid1.Coords) (arg2 : Memref sig .tc .smem S1x1 .f32) (harg2 : arg2.IsWhole) (arg3 : Memref sig .tc .vmem S768x3072 .bf16) (harg3 : arg3.IsWhole) (arg4 : Memref sig .tc .vmem S1024x256 .bf16) (harg4 : arg4.IsWhole) (arg5 : Memref sig .tc .vmem S64x256 .f32) (harg5 : arg5.IsWhole) (arg6 : Memref sig .tc .vmem S768x1024 .bf16) (harg6 : arg6.IsWhole) (arg7 : Memref sig .tc .vmem S1024x128 .i8) (harg7 : arg7.IsWhole) (arg8 : Memref sig .tc .vmem S256x512 .i8) (harg8 : arg8.IsWhole) (arg9 : Memref sig .tc .vmem S2x1024x3072 .bf16) (harg9 : arg9.IsWhole)
    (hc0 : ¬(k1_cond1 i = 1#1)) (hc1 : ¬(k1_cond2 i = 1#1)) (hc2 : k1_cond3 i = 1#1)
    (x0 : Vec F S1x1 .f32) (x1 : Vec F S768x3072 .bf16) (x2 : Vec F S1024x256 .bf16) (x3 : Vec F S64x256 .f32) (ds : Vec F S2x1024x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg9 fullShare ds
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yBlock x0 x1 ds (1 - (i 0).val % 2)) ∗ owns (c : Thread nD τ) arg9 fullShare ds) -∗ K ⟨⟩))
          ⊢ wp frame (wpE (defs₀ (F := F)) Variants.none c none) E (cc1_quant_matmul i arg2 harg2 arg3 harg3 arg4 harg4 arg5 harg5 arg6 harg6 arg7 harg7 arg8 harg8 arg9 harg9) K := by
    intro E K
    simp only [cc1_quant_matmul_eq_skeleton]; unfold cc1_quant_matmul_skel
    simp only [hc0, hc1, hc2, ↓reduceDIte]
    simp only [k1_part58_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%fs0, %hfs0, HS0⟩, Hk⟩
    subst hf0; subst hf1; subst hf2; subst hf3; subst hfs0
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H6]
    · iexists _; isplitr; swap; · iexact H6
      ipureintro
      refine Tiles.read_writes_all _ _ _ _ ?_ ?_
      · simp only [List.forall_mem_cons, List.not_mem_nil, false_imp_iff, implies_true, _root_.and_true]
        refine ⟨fun x => ?_, fun x => ?_, fun x => ?_, fun x => ?_⟩
        · refine Eq.trans ?_ (Tiles.tile2_emb (yTiles (s0 (arg2.view.read (Elt F) f0)) (arg3.view.read (Elt F) f1) (arg9.view.read (Elt F) fs0) (1 - (i 0).val % 2)) 0 3 _ _ rfl rfl x).symm
          refine congrFun (?_ : _ = yPiece (s0 (arg2.view.read (Elt F) f0)) (arg3.view.read (Elt F) f1) (dPiece (arg9.view.read (Elt F) fs0) (1 - (i 0).val % 2) 3)) x
          rw [← ld_dPiece (arg9.view.read (Elt F) fs0) (1 - (i 0).val % 2) (by omega) 3 (k1_off16 i) (k1_off16_inb i hc2) (by rw [k1_off16_eq]; rfl) (by rw [k1_off16_eq]; rfl) (by rw [k1_off16_eq]; rfl),
            ← View.ld_unit_zero (off := ![0, 0]) (by funext k; match k with | ⟨0, _⟩ => rfl | ⟨1, _⟩ => rfl) inb_S768x3072_S768x3072_0_0 (arg3.view.read (Elt F) f1)]
          rfl
        · refine Eq.trans ?_ (Tiles.tile2_emb (yTiles (s0 (arg2.view.read (Elt F) f0)) (arg3.view.read (Elt F) f1) (arg9.view.read (Elt F) fs0) (1 - (i 0).val % 2)) 0 2 _ _ rfl rfl x).symm
          refine congrFun (?_ : _ = yPiece (s0 (arg2.view.read (Elt F) f0)) (arg3.view.read (Elt F) f1) (dPiece (arg9.view.read (Elt F) fs0) (1 - (i 0).val % 2) 2)) x
          rw [← ld_dPiece (arg9.view.read (Elt F) fs0) (1 - (i 0).val % 2) (by omega) 2 (k1_off15 i) (k1_off15_inb i hc2) (by rw [k1_off15_eq]; rfl) (by rw [k1_off15_eq]; rfl) (by rw [k1_off15_eq]; rfl),
            ← View.ld_unit_zero (off := ![0, 0]) (by funext k; match k with | ⟨0, _⟩ => rfl | ⟨1, _⟩ => rfl) inb_S768x3072_S768x3072_0_0 (arg3.view.read (Elt F) f1)]
          rfl
        · refine Eq.trans ?_ (Tiles.tile2_emb (yTiles (s0 (arg2.view.read (Elt F) f0)) (arg3.view.read (Elt F) f1) (arg9.view.read (Elt F) fs0) (1 - (i 0).val % 2)) 0 1 _ _ rfl rfl x).symm
          refine congrFun (?_ : _ = yPiece (s0 (arg2.view.read (Elt F) f0)) (arg3.view.read (Elt F) f1) (dPiece (arg9.view.read (Elt F) fs0) (1 - (i 0).val % 2) 1)) x
          rw [← ld_dPiece (arg9.view.read (Elt F) fs0) (1 - (i 0).val % 2) (by omega) 1 (k1_off14 i) (k1_off14_inb i hc2) (by rw [k1_off14_eq]; rfl) (by rw [k1_off14_eq]; rfl) (by rw [k1_off14_eq]; rfl),
            ← View.ld_unit_zero (off := ![0, 0]) (by funext k; match k with | ⟨0, _⟩ => rfl | ⟨1, _⟩ => rfl) inb_S768x3072_S768x3072_0_0 (arg3.view.read (Elt F) f1)]
          rfl
        · refine Eq.trans ?_ (Tiles.tile2_emb (yTiles (s0 (arg2.view.read (Elt F) f0)) (arg3.view.read (Elt F) f1) (arg9.view.read (Elt F) fs0) (1 - (i 0).val % 2)) 0 0 _ _ rfl rfl x).symm
          refine congrFun (?_ : _ = yPiece (s0 (arg2.view.read (Elt F) f0)) (arg3.view.read (Elt F) f1) (dPiece (arg9.view.read (Elt F) fs0) (1 - (i 0).val % 2) 0)) x
          rw [← ld_dPiece (arg9.view.read (Elt F) fs0) (1 - (i 0).val % 2) (by omega) 0 (k1_off13 i) (k1_off13_inb i hc2) (by rw [k1_off13_eq]; rfl) (by rw [k1_off13_eq]; rfl) (by rw [k1_off13_eq]; rfl),
            ← View.ld_unit_zero (off := ![0, 0]) (by funext k; match k with | ⟨0, _⟩ => rfl | ⟨1, _⟩ => rfl) inb_S768x3072_S768x3072_0_0 (arg3.view.read (Elt F) f1)]
          rfl
      · intro y
        have h0 : (y 0).val < 768 := (y 0).isLt
        have h1 : (y 1).val < 1024 := (y 1).isLt
        simp only [List.exists_mem_cons_iff, List.not_mem_nil, _root_.false_and, exists_false, exists_const, _root_.or_false, Rect.mem_set_unit, Fin.forall_fin_two, Matrix.cons_val_zero, Matrix.cons_val_one, Matrix.head_cons]
        omega
    iexists _; isplitr; swap; · iexact HS0
    ipureintro; rfl

end Cert.KernelIdeal.Run

end
-- ==== Proof.Ideal.Region1.lean ====
/- The second call over its grid: what each block holds after the body ran at a point, and the body there. -/
module

public import proofs.«01_k».proof.Proof.Ideal.RunA
public import proofs.«01_k».proof.Proof.Ideal.RunB
public import proofs.«01_k».proof.Proof.Ideal.RunC
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

theorem lt1 (t : Fin cfg1.N) : t.val < 108 := Nat.lt_of_lt_of_eq t.isLt (show cfg1.N = 108 from N_1)

theorem hc1_1 : ∀ t : Fin cfg1.N, k1_cond1 (grid1.coords t) = 1#1 ↔ t.val < 12 :=
  (by decide +kernel : ∀ t : Fin grid1.N, k1_cond1 (grid1.coords t) = 1#1 ↔ t.val < 12)
theorem hc1_2 : ∀ t : Fin cfg1.N, k1_cond2 (grid1.coords t) = 1#1 ↔ (12 ≤ t.val ∧ t.val < 96) :=
  (by decide +kernel : ∀ t : Fin grid1.N, k1_cond2 (grid1.coords t) = 1#1 ↔ (12 ≤ t.val ∧ t.val < 96))
theorem hc1_3 : ∀ t : Fin cfg1.N, k1_cond3 (grid1.coords t) = 1#1 ↔ 96 ≤ t.val :=
  (by decide +kernel : ∀ t : Fin grid1.N, k1_cond3 (grid1.coords t) = 1#1 ↔ 96 ≤ t.val)

theorem coord1_0 (t : Fin cfg1.N) : (grid1.coords t 0).val = t.val / 12 := by
  have e : (grid1.coords t 0).val = t.val / 12 % 9 := Pipeline.Grid.coords_val t 0 (by decide) rfl
  have := lt1 t
  omega
theorem coord1_1 (t : Fin cfg1.N) : (grid1.coords t 1).val = t.val % 12 := by
  have e : (grid1.coords t 1).val = t.val / 1 % 12 := Pipeline.Grid.coords_val t 1 (by decide) rfl
  omega

theorem idle1_4 : ∀ t : Fin cfg1.N, cfg1.idle 4 (grid1.coords t) = decide (t.val < 12) :=
  (by decide +kernel : ∀ t : Fin grid1.N, idle1 4 (grid1.coords t) = decide (t.val < 12))
theorem idle1_5 : ∀ t : Fin cfg1.N, cfg1.idle 5 (grid1.coords t) = decide (96 ≤ t.val) :=
  (by decide +kernel : ∀ t : Fin grid1.N, idle1 5 (grid1.coords t) = decide (96 ≤ t.val))
theorem idle1_6 : ∀ t : Fin cfg1.N, cfg1.idle 6 (grid1.coords t) = decide (96 ≤ t.val) :=
  (by decide +kernel : ∀ t : Fin grid1.N, idle1 6 (grid1.coords t) = decide (96 ≤ t.val))
theorem flush1_4 : ∀ t : Fin cfg1.N, (cfg1.win 4).flush t = decide (12 ≤ t.val) :=
  (by decide +kernel : ∀ t : Fin grid1.N, win1_4.flush t = decide (12 ≤ t.val))
theorem flush1_5 : ∀ t : Fin cfg1.N, (cfg1.win 5).flush t = decide (t.val < 95 ∨ t.val = 107) :=
  (by decide +kernel : ∀ t : Fin grid1.N, win1_5.flush t = decide (t.val < 95 ∨ t.val = 107))
theorem flush1_6 : ∀ t : Fin cfg1.N, (cfg1.win 6).flush t = decide (t.val < 95 ∨ t.val = 107) :=
  (by decide +kernel : ∀ t : Fin grid1.N, win1_6.flush t = decide (t.val < 95 ∨ t.val = 107))

/-- The n-th point. -/
def pt1 (n : ℕ) : Fin cfg1.N := ⟨n % 108, (Nat.mod_lt _ (by decide)).trans_eq (show 108 = cfg1.N from N_1.symm)⟩

theorem pt1_val (t : Fin cfg1.N) (n : ℕ) (h : n = t.val) : pt1 n = t :=
  Fin.ext (by subst h; exact Nat.mod_eq_of_lt (lt1 t))

/-! ## What the buffers hold -/

section Data

variable (V : Dev nD → Valuation τ sig (Elt F)) (c : Dev nD)

/-- Window `w`'s block at point `t`, of the arrays as the call finds them. -/
def iblk1 (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The k-th dequantised tile (1024 rows of the weights). -/
def dd (k : ℕ) : Vec F S2x1024x3072 .bf16 := fun y =>
  Tiles.tile3 (deqTiles (s0 (iblk1 V c 0 (pt1 (12 * k + (y 2).val / 256)))) (iblk1 V c 2 (pt1 (12 * k + (y 2).val / 256))) (iblk1 V c 3 (pt1 (12 * k + (y 2).val / 256)))) y

/-- What the two kept tiles hold before point `t`: the columns quantised at the last 24 points. -/
def Inv (t : ℕ) (d : Vec F S2x1024x3072 .bf16) : Prop :=
  ∀ k < 8, ∀ y : S2x1024x3072.Idx, (y 0).val = k % 2 → 12 * k + (y 2).val / 256 < t → t ≤ 12 * k + (y 2).val / 256 + 24 → d y = dd V c k y

theorem inv_zero (d : Vec F S2x1024x3072 .bf16) : Inv V c 0 d := fun _ _ _ _ h _ => absurd h (Nat.not_lt_zero _)

theorem inv_step (t : Fin cfg1.N) (ht : t.val < 96) (d : Vec F S2x1024x3072 .bf16) (h : Inv V c t.val d) :
    Inv V c (t.val + 1) (scr (grid1.coords t 0).val (grid1.coords t 1).val (iblk1 V c 0 t) (iblk1 V c 2 t) (iblk1 V c 3 t) d) := by
  rw [coord1_0, coord1_1]
  intro k hk y h0 h1 h2
  have y2 : (y 2).val < 3072 := (y 2).isLt
  by_cases hy : (y 0).val = t.val / 12 % 2 ∧ 256 * (t.val % 12) ≤ (y 2).val ∧ (y 2).val < 256 * (t.val % 12) + 256
  · have e : pt1 (12 * k + (y 2).val / 256) = t := pt1_val t _ (by omega)
    rw [show scr (t.val / 12) (t.val % 12) (iblk1 V c 0 t) (iblk1 V c 2 t) (iblk1 V c 3 t) d y = Tiles.tile3 (deqTiles (s0 (iblk1 V c 0 t)) (iblk1 V c 2 t) (iblk1 V c 3 t)) y from if_pos hy]
    unfold dd
    rw [e]
  · refine (if_neg hy).trans (h k hk y h0 ?_ (by omega))
    omega

theorem inv_stay (t : ℕ) (ht : 96 ≤ t) (d : Vec F S2x1024x3072 .bf16) (h : Inv V c t d) : Inv V c (t + 1) d := by
  intro k hk y h0 h1 h2
  have y2 : (y 2).val < 3072 := (y 2).isLt
  exact h k hk y h0 (by omega) (by omega)

/-- The product reads one of the two kept tiles. -/
theorem yBlock_congr (x0 : Vec F S1x1 .f32) (x1 : Vec F S768x3072 .bf16) (ds ds' : Vec F S2x1024x3072 .bf16) (h : ℕ) (hh : h < 2)
    (e : ∀ y : S2x1024x3072.Idx, (y 0).val = h → ds y = ds' y) : yBlock x0 x1 ds h = yBlock x0 x1 ds' h := by
  have hd : ∀ b, dPiece ds h b = dPiece ds' h b := fun b => funext fun y => e _ (Nat.mod_eq_of_lt hh)
  unfold yBlock
  refine congrArg Tiles.tile2 (funext fun a => funext fun b => ?_)
  exact congrArg (yPiece (s0 x0) x1) (hd b)

theorem yBlock_inv (t : Fin cfg1.N) (ht : 12 ≤ t.val) (d : Vec F S2x1024x3072 .bf16) (h : Inv V c t.val d) :
    yBlock (iblk1 V c 0 t) (iblk1 V c 1 t) d (1 - (grid1.coords t 0).val % 2)
      = yBlock (iblk1 V c 0 t) (iblk1 V c 1 t) (dd V c (t.val / 12 - 1)) (1 - t.val / 12 % 2) := by
  rw [coord1_0]
  have := lt1 t
  refine yBlock_congr _ _ _ _ _ (by omega) fun y hy => h _ (by omega) y (by omega) ?_ ?_
  · have y2 : (y 2).val < 3072 := (y 2).isLt
    omega
  · omega

/-! ## The call's data -/

abbrev scM1 : Memref sig .tc .vmem S2x1024x3072 .bf16 := Memref.whole cc1_scratch0

/-- The other call's buffers. -/
def rest1 : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The call's data: each input's buffer keeps its block; the product's holds the product with the tile quantised one
    round of points before; the codes' hold the codes of the block, the last ones from the last quantised block on. -/
def dat1 : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => yBlock (iblk1 V c 0 t) (iblk1 V c 1 t) (dd V c (t.val / 12 - 1)) (1 - t.val / 12 % 2)
    | ⟨5, _⟩ => ckBlock (iblk1 V c 0 (pt1 (min t.val 95))) (iblk1 V c 2 (pt1 (min t.val 95))) (iblk1 V c 3 (pt1 (min t.val 95)))
    | ⟨6, _⟩ => cnBlock (iblk1 V c 0 (pt1 (min t.val 95))) (iblk1 V c 2 (pt1 (min t.val 95))) (iblk1 V c 3 (pt1 (min t.val 95)))
  Φ t := iprop((∃ d, ⌜Inv V c t.val d⌝ ∗ owns (c : Thread nD τ) scM1 fullShare d) ∗ rest1 c ∗ (∃ r, prngReg c r))
  q _ := fullShare
  owed _ := 0

theorem A1_eq (w : Fin cfg1.W) : (dat1 V c).A w = V c (Proc.devRef .tc (Pipeline.arrRef spec1 w)) := by dsimp only [dat1]
theorem after1_0 (t : Fin cfg1.N) : (dat1 V c).after 0 t = iblk1 V c 0 t := by dsimp only [dat1]
theorem after1_1 (t : Fin cfg1.N) : (dat1 V c).after 1 t = iblk1 V c 1 t := by dsimp only [dat1]
theorem after1_2 (t : Fin cfg1.N) : (dat1 V c).after 2 t = iblk1 V c 2 t := by dsimp only [dat1]
theorem after1_3 (t : Fin cfg1.N) : (dat1 V c).after 3 t = iblk1 V c 3 t := by dsimp only [dat1]
theorem after1_4 (t : Fin cfg1.N) : (dat1 V c).after 4 t = yBlock (iblk1 V c 0 t) (iblk1 V c 1 t) (dd V c (t.val / 12 - 1)) (1 - t.val / 12 % 2) := by dsimp only [dat1]
theorem after1_5 (t : Fin cfg1.N) : (dat1 V c).after 5 t = ckBlock (iblk1 V c 0 (pt1 (min t.val 95))) (iblk1 V c 2 (pt1 (min t.val 95))) (iblk1 V c 3 (pt1 (min t.val 95))) := by dsimp only [dat1]
theorem after1_6 (t : Fin cfg1.N) : (dat1 V c).after 6 t = cnBlock (iblk1 V c 0 (pt1 (min t.val 95))) (iblk1 V c 2 (pt1 (min t.val 95))) (iblk1 V c 3 (pt1 (min t.val 95))) := by dsimp only [dat1]

theorem before1_0 (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)

theorem fresh1_5 (n : ℕ) (h : n ≤ cfg1.N) : cfg1.fresh 5 n = decide (n < 96 ∨ n = 108) :=
  cfg1.fresh_tab 5 (fun n => decide (n < 96 ∨ n = 108)) rfl
    (by decide +kernel : ∀ t : Fin cfg1.N, decide (t.val + 1 < 96 ∨ t.val + 1 = 108) = ((cfg1.win 5).flush t || (cfg1.idle 5 (cfg1.grid.coords t) && decide (t.val < 96 ∨ t.val = 108)))) n h

/-- After the last block of codes its buffer stays as it is. -/
theorem before1_5 (t : Fin cfg1.N) (ht : 96 ≤ t.val) (d) : (dat1 V c).before 5 t d = (dat1 V c).after 5 t := by
  have := lt1 t
  have hcar : ∀ (t : Fin cfg1.N) (h0 : t.val ≠ 0), 96 ≤ t.val → (dat1 V c).after 5 t = (dat1 V c).after 5 ⟨t.val - 1, by omega⟩ := by
    intro t h0 ht
    rw [after1_5, after1_5, show min t.val 95 = 95 from by omega, show min (t.val - 1) 95 = 95 from by omega]
  have hf : cfg1.fresh 5 t.val = false := by rw [fresh1_5 _ t.isLt.le]; exact decide_eq_false (by omega)
  rw [(dat1 V c).before_out_traj 5 rfl (fun _ _ => rfl) (fun t h0 hi hf => hcar t h0 (of_decide_eq_true ((idle1_5 t).symm.trans hi))) _ t rfl d, hf, hcar t (by omega) ht]
  rfl

theorem leave1_5 (t : Fin cfg1.N) (ht : 96 ≤ t.val) (d) :
    owns (c : Thread nD τ) (st1_5 t) fullShare ((dat1 V c).before 5 t d) ⊢ ((dat1 V c).leavesExact 5 t : sProp 𝕄) := by
  by_cases hl : t.val = 107
  · rw [before1_5 V c t ht]
    unfold Dat.leavesExact
    rw [idle1_5, flush1_5, decide_eq_true ht, decide_eq_true (Or.inr hl)]
  · rw [(dat1 V c).leavesExact_idle 5 t ((idle1_5 t).trans (decide_eq_true ht)) ((flush1_5 t).trans (decide_eq_false (by omega)))]
    iintro H
    iexists _
    iexact H

theorem live1_5 (t : Fin cfg1.N) (ht : t.val < 96) :
    ((dat1 V c).leavesExact 5 t : sProp 𝕄) = owns (c : Thread nD τ) (st1_5 t) fullShare (ckBlock (iblk1 V c 0 t) (iblk1 V c 2 t) (iblk1 V c 3 t)) := by
  unfold Dat.leavesExact
  rw [idle1_5, decide_eq_false (by omega), after1_5, pt1_val t _ (by omega)]

theorem fresh1_6 (n : ℕ) (h : n ≤ cfg1.N) : cfg1.fresh 6 n = decide (n < 96 ∨ n = 108) :=
  cfg1.fresh_tab 6 (fun n => decide (n < 96 ∨ n = 108)) rfl
    (by decide +kernel : ∀ t : Fin cfg1.N, decide (t.val + 1 < 96 ∨ t.val + 1 = 108) = ((cfg1.win 6).flush t || (cfg1.idle 6 (cfg1.grid.coords t) && decide (t.val < 96 ∨ t.val = 108)))) n h

/-- After the last block of codes its buffer stays as it is. -/
theorem before1_6 (t : Fin cfg1.N) (ht : 96 ≤ t.val) (d) : (dat1 V c).before 6 t d = (dat1 V c).after 6 t := by
  have := lt1 t
  have hcar : ∀ (t : Fin cfg1.N) (h0 : t.val ≠ 0), 96 ≤ t.val → (dat1 V c).after 6 t = (dat1 V c).after 6 ⟨t.val - 1, by omega⟩ := by
    intro t h0 ht
    rw [after1_6, after1_6, show min t.val 95 = 95 from by omega, show min (t.val - 1) 95 = 95 from by omega]
  have hf : cfg1.fresh 6 t.val = false := by rw [fresh1_6 _ t.isLt.le]; exact decide_eq_false (by omega)
  rw [(dat1 V c).before_out_traj 6 rfl (fun _ _ => rfl) (fun t h0 hi hf => hcar t h0 (of_decide_eq_true ((idle1_6 t).symm.trans hi))) _ t rfl d, hf, hcar t (by omega) ht]
  rfl

theorem leave1_6 (t : Fin cfg1.N) (ht : 96 ≤ t.val) (d) :
    owns (c : Thread nD τ) (st1_6 t) fullShare ((dat1 V c).before 6 t d) ⊢ ((dat1 V c).leavesExact 6 t : sProp 𝕄) := by
  by_cases hl : t.val = 107
  · rw [before1_6 V c t ht]
    unfold Dat.leavesExact
    rw [idle1_6, flush1_6, decide_eq_true ht, decide_eq_true (Or.inr hl)]
  · rw [(dat1 V c).leavesExact_idle 6 t ((idle1_6 t).trans (decide_eq_true ht)) ((flush1_6 t).trans (decide_eq_false (by omega)))]
    iintro H
    iexists _
    iexact H

theorem live1_6 (t : Fin cfg1.N) (ht : t.val < 96) :
    ((dat1 V c).leavesExact 6 t : sProp 𝕄) = owns (c : Thread nD τ) (st1_6 t) fullShare (cnBlock (iblk1 V c 0 t) (iblk1 V c 2 t) (iblk1 V c 3 t)) := by
  unfold Dat.leavesExact
  rw [idle1_6, decide_eq_false (by omega), after1_6, pt1_val t _ (by omega)]

theorem live1_4 (t : Fin cfg1.N) (ht : 12 ≤ t.val) :
    ((dat1 V c).leavesExact 4 t : sProp 𝕄) = owns (c : Thread nD τ) (st1_4 t) fullShare (yBlock (iblk1 V c 0 t) (iblk1 V c 1 t) (dd V c (t.val / 12 - 1)) (1 - t.val / 12 % 2)) := by
  unfold Dat.leavesExact
  rw [idle1_4, decide_eq_false (by omega), after1_4]

theorem leave1_4 (t : Fin cfg1.N) (ht : t.val < 12) :
    ((dat1 V c).leavesExact 4 t : sProp 𝕄) = iprop(∃ d, owns (c : Thread nD τ) (st1_4 t) fullShare ((dat1 V c).before 4 t d)) :=
  (dat1 V c).leavesExact_idle 4 t ((idle1_4 t).trans (decide_eq_true ht)) ((flush1_4 t).trans (decide_eq_false (by omega)))

/-! ## The body at a point -/

def bodyPre1 (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 2400000 in
theorem sound1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = iprop((∃ d, ⌜Inv V c (t.val + 1) d⌝ ∗ owns (c : Thread nD τ) scM1 fullShare d) ∗ rest1 c ∗ (∃ r, prngReg c r)) from rfl,
    show (dat1 V c).Φ t.castSucc = iprop((∃ d, ⌜Inv V c t.val d⌝ ∗ owns (c : Thread nD τ) scM1 fullShare d) ∗ rest1 c ∗ (∃ r, prngReg c r)) from rfl,
    show (dat1 V c).owesAt () t.succ = (dat1 V c).owesAt () t.castSucc from rfl]
  rw [show ((dat1 V c).leavesExact 0 t : sProp 𝕄) = owns (c : Thread nD τ) (st1_0 t) fullShare ((dat1 V c).after 0 t) from rfl, after1_0]
  rw [show ((dat1 V c).leavesExact 1 t : sProp 𝕄) = owns (c : Thread nD τ) (st1_1 t) fullShare ((dat1 V c).after 1 t) from rfl, after1_1]
  rw [show ((dat1 V c).leavesExact 2 t : sProp 𝕄) = owns (c : Thread nD τ) (st1_2 t) fullShare ((dat1 V c).after 2 t) from rfl, after1_2]
  rw [show ((dat1 V c).leavesExact 3 t : sProp 𝕄) = owns (c : Thread nD τ) (st1_3 t) fullShare ((dat1 V c).after 3 t) from rfl, after1_3]
  have := lt1 t
  by_cases h0 : t.val < 12
  · rw [leave1_4 V c t h0, live1_5 V c t (by omega), live1_6 V c t (by omega)]
    iintro ⟨⟨⟨%d, %hd, HS⟩, Hr, Hg⟩, Ho, ⟨%d0, H0⟩, ⟨%d1, H1⟩, ⟨%d2, H2⟩, ⟨%d3, H3⟩, ⟨%d4, H4⟩, ⟨%d5, H5⟩, ⟨%d6, H6⟩⟩
    iapply (runA c (grid1.coords t) _ _ _ _ _ _ _ _ _ _ _ _ _ _ _ _ ((hc1_1 t).mpr h0) (fun h => by have := (hc1_2 t).mp h; omega) (fun h => by have := (hc1_3 t).mp h; omega) (iblk1 V c 0 t) (iblk1 V c 1 t) (iblk1 V c 2 t) (iblk1 V c 3 t) d Set.univ _)
    isplitl [H0]; · iexact H0
    isplitl [H1]; · iexact H1
    isplitl [H2]; · iexact H2
    isplitl [H3]; · iexact H3
    isplitl [H5]; · iexists _; iexact H5
    isplitl [H6]; · iexists _; iexact H6
    isplitl [HS]; · iexact HS
    iintro ⟨H0, H1, H2, H3, H5, H6, HS⟩
    isplitl [HS Hr Hg]
    · isplitl [HS]
      · iexists _
        isplitr; · ipureintro; exact inv_step V c t (by omega) d hd
        iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexact H5
    iexact H6
  by_cases h2 : 96 ≤ t.val
  · rw [live1_4 V c t (by omega)]
    iintro ⟨⟨⟨%d, %hd, HS⟩, Hr, Hg⟩, Ho, ⟨%d0, H0⟩, ⟨%d1, H1⟩, ⟨%d2, H2⟩, ⟨%d3, H3⟩, ⟨%d4, H4⟩, ⟨%d5, H5⟩, ⟨%d6, H6⟩⟩
    iapply (runC c (grid1.coords t) _ _ _ _ _ _ _ _ _ _ _ _ _ _ _ _ (fun h => by have := (hc1_1 t).mp h; omega) (fun h => by have := (hc1_2 t).mp h; omega) ((hc1_3 t).mpr h2) (iblk1 V c 0 t) (iblk1 V c 1 t) (iblk1 V c 2 t) (iblk1 V c 3 t) d Set.univ _)
    isplitl [H0]; · iexact H0
    isplitl [H1]; · iexact H1
    isplitl [H2]; · iexact H2
    isplitl [H3]; · iexact H3
    isplitl [H4]; · iexists _; iexact H4
    isplitl [HS]; · iexact HS
    rw [yBlock_inv V c t (by omega) d hd]
    iintro ⟨H0, H1, H2, H3, H4, HS⟩
    isplitl [HS Hr Hg]
    · isplitl [HS]
      · iexists _
        isplitr; · ipureintro; exact inv_stay V c t.val h2 d hd
        iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leave1_5 V c t h2 d5); iexact H5
    iapply (leave1_6 V c t h2 d6); iexact H6
  · rw [live1_4 V c t (by omega), live1_5 V c t (by omega), live1_6 V c t (by omega)]
    iintro ⟨⟨⟨%d, %hd, HS⟩, Hr, Hg⟩, Ho, ⟨%d0, H0⟩, ⟨%d1, H1⟩, ⟨%d2, H2⟩, ⟨%d3, H3⟩, ⟨%d4, H4⟩, ⟨%d5, H5⟩, ⟨%d6, H6⟩⟩
    iapply (runB c (grid1.coords t) _ _ _ _ _ _ _ _ _ _ _ _ _ _ _ _ (fun h => by have := (hc1_1 t).mp h; omega) ((hc1_2 t).mpr (by omega)) (fun h => h2 ((hc1_3 t).mp h)) (iblk1 V c 0 t) (iblk1 V c 1 t) (iblk1 V c 2 t) (iblk1 V c 3 t) d Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    rw [yBlock_inv V c t (by omega) d hd]
    iintro ⟨H0, H1, H2, H3, H4, H5, H6, HS⟩
    isplitl [HS Hr Hg]
    · isplitl [HS]
      · iexists _
        isplitr; · ipureintro; exact inv_step V c t (by omega) d hd
        iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row1 (t : Fin cfg1.N) : defs₀ (F := F) .tc cfg1.body (cfg1.bodyArgs t (cfg1.slots t)) = bodyAt1 t := by
  unfold defs₀; rw [Defs.onTc_tc]

/-- The body at every point. -/
theorem obligation1 : BodyObligation (dat1 (F := F) V c) (defs₀ (F := F)) Variants.none () Set.univ := fun t => by
  rw [bigSep_W1, bigSep_W1, row1]
  exact triple_restated (sound1 V c t) rfl .rfl fun _ => .rfl

/-- The call's start, and its end. -/
theorem enter1 : iprop(Pipeline.scopedRest spec1 c ∗ (∃ r, prngReg c r)) ⊢ ((dat1 V c).Φ 0 : sProp 𝕄) := by
  rw [show (dat1 V c).Φ 0 = iprop((∃ d, ⌜Inv V c 0 d⌝ ∗ owns (c : Thread nD τ) scM1 fullShare d) ∗ rest1 c ∗ (∃ r, prngReg c r)) from rfl, scopedRest1_eq]
  simp only [scM1, owns_whole, rest1]
  iintro ⟨⟨H0, H1, H2, H3, H4, H5, H6, H7, H8, ⟨%d, HS⟩⟩, Hg⟩
  isplitl [HS]
  · iexists d
    isplitr; · ipureintro; exact inv_zero V c d
    iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem exit1 : ((dat1 V c).Φ (Fin.last cfg1.N) : sProp 𝕄) ⊢ iprop(Pipeline.scopedRest spec1 c ∗ (∃ r, prngReg c r)) := by
  rw [show (dat1 V c).Φ (Fin.last cfg1.N) = iprop((∃ d, ⌜Inv V c cfg1.N d⌝ ∗ owns (c : Thread nD τ) scM1 fullShare d) ∗ rest1 c ∗ (∃ r, prngReg c r)) from rfl, scopedRest1_eq]
  simp only [scM1, owns_whole, rest1]
  iintro ⟨⟨%d, -, HS⟩, ⟨H0, H1, H2, H3, H4, H5, H6, H7, H8⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d
    iexact HS
  iexact Hg

end Data

end Cert.KernelIdeal.Run

end
-- ==== Proof.Ideal.Launch.lean ====
/- The whole program: host operations, the two calls one after the other, host operations; where every buffer ends. -/
module

public import proofs.«01_k».proof.Proof.Ideal.Region0
public import proofs.«01_k».proof.Proof.Ideal.Region1
public import proofs.«01_k».proof.Proof.Gen.KernelIdeal.Regions
public import Idealize.ShloMosaic.Lib.Pipeline.RegionArraysS
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section

variable (A B : Dev nD → Valuation τ sig (Elt F))

/-- The two calls' blocks. -/
def pdats : (p : Fin 2) → (c : Dev nD) → Dat τ (Elt F) Unit ℕ (UR sig nD τ) ℕ (cfgs p) c
  | 0 => fun c => dat0 A c
  | 1 => fun c => dat1 B c

/-- Levels: one at every cell of a TensorCore. -/
def L : GSem nD τ sig → Finset Unit := fun g => if g.1.2 = .tc then {()} else ∅
def lv : GSem nD τ sig → Unit → ℕ := fun _ _ => 0

/-- What rides along beside the buffers: the random register and that nothing is owed. -/
abbrev E : Dev nD → sProp 𝕄 := fun c => iprop((∃ W, owes (c : Thread nD τ) (0 : CellTallies nD τ sig Unit) W) ∗ (∃ r, prngReg c r) ∗ emp)

theorem cut (p : Fin 2) : Pipeline.LevelCut (pcfgs (F := F)) adm () L lv p (fun _ : Dev nD => (0 : CellTallies nD τ sig Unit)) (fun _ => 0) where
  hι c w s := by
    show () ∈ (if _ then ({()} : Finset Unit) else ∅)
    rw [if_pos rfl]; exact Finset.mem_singleton_self ()
  hιb c w s := le_refl 0
  hD c g i h := absurd h (lt_irrefl 0)

set_option backward.isDefEq.respectTransparency.types false in
def reg0 : RegionSeg (pcfgs (F := F)) adm (pdats A B) () defs₀ Variants.none L lv 0 :=
  Pipeline.RegionSeg.ofHeldIn (pcfgs (F := F)) adm (pdats A B) () defs₀ Variants.none L lv 0 (fun _ => 0) (Pipeline.ucRefs τ sig)
    (fun c => iprop(∃ r, prngReg c r)) (fun c => iprop(∃ r, prngReg c r)) launch0.toP rfl
    (fun c => (obligation0 A c).loose) (fun _ _ => rfl) (fun _ => rfl) (fun c => (dat0 A c).share_full fun _ => rfl)
    (fun c => enter0 A c) (fun c => exit0 A c) (fun _ => 0) (cut 0) (fun _ => iprop(emp)) A (fun c w => (A0_eq A c w))

set_option backward.isDefEq.respectTransparency.types false in
def reg1 : RegionSeg (pcfgs (F := F)) adm (pdats A B) () defs₀ Variants.none L lv 1 :=
  Pipeline.RegionSeg.ofHeldIn (pcfgs (F := F)) adm (pdats A B) () defs₀ Variants.none L lv 1 (fun _ => 0) (Pipeline.ucRefs τ sig)
    (fun c => iprop(∃ r, prngReg c r)) (fun c => iprop(∃ r, prngReg c r)) launch1.toP rfl
    (fun c => (obligation1 B c).loose) (fun _ _ => rfl) (fun _ => rfl) (fun c => (dat1 B c).share_full fun _ => rfl)
    (fun c => enter1 B c) (fun c => exit1 B c) (fun _ => 0) (cut 1) (fun _ => iprop(emp)) B (fun c w => (A1_eq B c w))

theorem sub0 : Pipeline.arrRefs (τ := τ) ((pcfgs (F := F)) 0).spec ⊆ Pipeline.ucRefs τ sig :=
  Pipeline.arrRefs_sub_ucRefs _ (show ∀ w, (Pipeline.arrRef spec0 w).isScoped = false from by decide)
theorem sub1 : Pipeline.arrRefs (τ := τ) ((pcfgs (F := F)) 1).spec ⊆ Pipeline.ucRefs τ sig :=
  Pipeline.arrRefs_sub_ucRefs _ (show ∀ w, (Pipeline.arrRef spec1 w).isScoped = false from by decide)

set_option backward.isDefEq.respectTransparency.types false in
theorem pre0 (c : Dev nD) : iprop(StableHlo.held (c : Thread nD τ) (Pipeline.ucRefs τ sig) (A c) ∗ E c) ⊢ (reg0 A B).pre c := by
  unfold reg0
  exact Pipeline.RegionSeg.ofHeldIn_pre (D := fun _ => 0) (X := fun c => iprop(∃ r, prngReg c r)) (R := fun _ => iprop(emp)) (W := A) sub0 c
theorem post0 (c : Dev nD) : (reg0 A B).post c ⊢ iprop(StableHlo.held (c : Thread nD τ) (Pipeline.ucRefs τ sig) (Pipeline.afterRegion (dat0 A c) (A c)) ∗ E c) :=
  Pipeline.RegionSeg.ofHeldIn_post sub0 c
set_option backward.isDefEq.respectTransparency.types false in
theorem pre1 (c : Dev nD) : iprop(StableHlo.held (c : Thread nD τ) (Pipeline.ucRefs τ sig) (B c) ∗ E c) ⊢ (reg1 A B).pre c := by
  unfold reg1
  exact Pipeline.RegionSeg.ofHeldIn_pre (D := fun _ => 0) (X := fun c => iprop(∃ r, prngReg c r)) (R := fun _ => iprop(emp)) (W := B) sub1 c
theorem post1 (c : Dev nD) : (reg1 A B).post c ⊢ iprop(StableHlo.held (c : Thread nD τ) (Pipeline.ucRefs τ sig) (Pipeline.afterRegion (dat1 B c) (B c)) ∗ E c) :=
  Pipeline.RegionSeg.ofHeldIn_post sub1 c

end

variable (m : (ℓ : Loc nD τ sig) → Buf (Elt F) ℓ)

/-- What every buffer holds after the first call. -/
def W2 : Dev nD → Valuation τ sig (Elt F) := fun c => Pipeline.afterRegion (dat0 (V1 m) c) (V1 m c)

/-- What every buffer holds after the second call. -/
def W3 : Dev nD → Valuation τ sig (Elt F) := fun c => Pipeline.afterRegion (dat1 (W2 m) c) (W2 m c)

/-- What every buffer holds at the end. -/
def W4 : Dev nD → Valuation τ sig (Elt F) := fun c => StableHlo.after hostOps2 (W3 m c)

/-- The last host operations, run from what the second call leaves. -/
def segEnd : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E

abbrev allSegs (c : Dev nD) : List (Seg (pcfgs (F := F)) adm (pdats (V1 m) (W2 m)) () defs₀ Variants.none L lv) :=
  [.host (seg0 m Variants.none L lv (fun _ => E)), .region (reg0 (V1 m) (W2 m)), .region (reg1 (V1 m) (W2 m)), .host (segEnd m)]

theorem mem_uc (b : Ref sig .tc) (h : b.isScoped = false) : Proc.devRef .tc b ∈ Pipeline.ucRefs τ sig :=
  Finset.mem_filter.mpr ⟨StableHlo.devRef_mem_tcRefs b, fun h' => Bool.false_ne_true (h.symm.trans h')⟩

theorem W2_keeps (c : Dev nD) (r : Ref sig .tc) (h : ∀ w, Pipeline.arrRef cfg0.spec w = r → (cfg0.win w).isOut = false) :
    W2 m c (Proc.devRef .tc r) = V1 m c (Proc.devRef .tc r) :=
  Pipeline.afterRegion_keeps _ _ launch0.win.arr_inj (A0_eq (V1 m) c) r h

theorem W3_keeps (c : Dev nD) (r : Ref sig .tc) (h : ∀ w, Pipeline.arrRef cfg1.spec w = r → (cfg1.win w).isOut = false) :
    W3 m c (Proc.devRef .tc r) = W2 m c (Proc.devRef .tc r) :=
  Pipeline.afterRegion_keeps _ _ launch1.win.arr_inj (A1_eq (W2 m) c) r h

theorem W4_of (c : Dev nD) (r : Ref sig .tc) (h : r ∉ hostOps2_W) :
    W4 m c (Proc.devRef .tc r) = W3 m c (Proc.devRef .tc r) :=
  StableHlo.after_of_writes_sub hostOps2 _ hostOps2_writes h

set_option backward.isDefEq.respectTransparency.types false in
/-- Every weakly fair execution of the program ends, with every unscoped buffer at `W4` and every semaphore counter at zero. -/
theorem run_main (ρ : Dev nD → PrngReg) :
    θ_run defs (onTc (τ := τ) (main (F := F))) ⟨m, fun _ => 0, ρ⟩ (fun r => (∀ c : Dev nD, ∀ b : Ref sig .tc, b.isScoped = false →
      r.2.mem ((c.tc : Thread nD τ).loc b) = W4 m c (Proc.devRef .tc b))
      ∧ r.2.sem = fun _ => 0) := by
  refine Pipeline.θ_run_regions_kit_dev_sems (pcfgs (F := F)) adm (pdats (V1 m) (W2 m)) () cellOf_inj emb₁ defs₀ Variants.none L lv m ρ main
    (allSegs m)
    (fun c Q => by
      rewrite [main_chain c, Seg.run_eq_chain,
        show (allSegs m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [allSegs, Seg.pipes_host, Seg.pipes_region, Seg.pipes_nil]; decide) 0
    (fun g hg => if_neg hg) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (W4 m c))
    (hch := fun c => ⟨.rfl, pre0 (V1 m) (W2 m) c, (post0 (V1 m) (W2 m) c).trans (pre1 (V1 m) (W2 m) c), post1 (V1 m) (W2 m) c, sep_mono .rfl (by iintro ⟨H, -⟩; iexact H)⟩)
    (hinit := ?_) (QY := fun c s => ∀ b : Ref sig .tc, b.isScoped = false → s.mem ((c.tc : Thread nD τ).loc b) = W4 m c (Proc.devRef .tc b))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact fun b hb => h (Proc.devRef .tc b) (mem_uc b hb)
    · iexact HSI

theorem W4_arg0 (c : Dev nD) : W4 m c (Proc.devRef .tc main_arg0) = m ((c.tc : Thread nD τ).loc main_arg0) :=
  (W4_of m c main_arg0 (by decide)).trans ((W3_keeps m c main_arg0 (by decide)).trans ((W2_keeps m c main_arg0 (by decide)).trans
    (V1_of m c main_arg0 (by decide))))

theorem W4_arg1 (c : Dev nD) : W4 m c (Proc.devRef .tc main_arg1) = m ((c.tc : Thread nD τ).loc main_arg1) :=
  (W4_of m c main_arg1 (by decide)).trans ((W3_keeps m c main_arg1 (by decide)).trans ((W2_keeps m c main_arg1 (by decide)).trans
    (V1_of m c main_arg1 (by decide))))

end Cert.KernelIdeal.Run

end
-- ==== Proof.Quant.Maxima.lean ====
/- Maxima over a run of lanes taken by doubling: each step takes the maximum with the array rolled by the run's length. -/
module

public import Idealize.ShloMosaic.Lib.Pipeline.Value
public import Idealize.ShloMosaic.Lib.KernelVsHost
public import Idealize.ShloMosaic.Lib.ValueIdx
public import Idealize.ShloMosaic.Lib.Pointwise.Index
public import Idealize.ShloMosaic.PureOps.Ideal.Laws

@[expose] public section

noncomputable section

namespace Cert.Maxima

open Idealize.ShloMosaic

variable {R : ℕ}

/-- The matrices of 3072 lanes. -/
abbrev Mat (R : ℕ) : Shape := ⟨2, ![R, 3072]⟩

/-- A rolled array at a lane. -/
theorem rot_apply (k : BitVec 32) (x : (Mat R).Idx → EReal) (h : (Mat R).Rotates 1 none) (b : Fin R) (l l' : ℕ)
    (hl : (l % 3072 + 3072 - k.toNat % 3072) % 3072 = l' % 3072) :
    dynamicRotate 1 k none x h (ix2 b (Fin.ofNat 3072 l)) = x (ix2 b (Fin.ofNat 3072 l')) := by
  refine dynamicRotate_apply 1 k x h _ _ fun a => ?_
  match a with
  | ⟨0, _⟩ => rfl
  | ⟨1, _⟩ => exact hl.symm

/-- Rolling towards lower lanes: runs of `n` lanes starting at `l` become runs of `n + n`. -/
theorem fwd (A : (Mat R).Idx → EReal) (h : (Mat R).Rotates 1 none) (b : Fin R) (c : EReal) (P : ℕ → Prop) (n : ℕ) (k : BitVec 32)
    (hn : n ≤ 3072) (hn0 : 0 < n) (hk : k.toNat = 3072 - n)
    (hA : ∀ l, A (ix2 b (Fin.ofNat 3072 l)) ≤ c ↔ ∀ q < n, P (l + q)) (l : ℕ) :
    maximumf (F := Ideal) (φ := .f32) A (dynamicRotate 1 k none A h) (ix2 b (Fin.ofNat 3072 l)) ≤ c ↔ ∀ q < n + n, P (l + q) := by
  rw [ValueIdx.maximumf_apply, max_le_iff, rot_apply k A h b l (l + n) (by rw [hk]; omega), hA, hA]
  constructor
  · rintro ⟨h1, h2⟩ q hq
    by_cases hqn : q < n
    · exact h1 q hqn
    · have := h2 (q - n) (by omega)
      rwa [show l + n + (q - n) = l + q by omega] at this
  · intro H
    refine ⟨fun q hq => H q (by omega), fun q hq => ?_⟩
    rw [Nat.add_assoc]; exact H (n + q) (by omega)

/-- Rolling towards higher lanes: runs of `n` lanes ending at `l` become runs of `n + n`. -/
theorem bwd (A : (Mat R).Idx → EReal) (h : (Mat R).Rotates 1 none) (b : Fin R) (c : EReal) (P : ℕ → Prop) (n : ℕ) (k : BitVec 32)
    (hn : n < 3072) (hk : k.toNat = n)
    (hA : ∀ l, n ≤ l + 1 → (A (ix2 b (Fin.ofNat 3072 l)) ≤ c ↔ ∀ q < n, P (l - q))) (l : ℕ) (hl : n + n ≤ l + 1) :
    maximumf (F := Ideal) (φ := .f32) A (dynamicRotate 1 k none A h) (ix2 b (Fin.ofNat 3072 l)) ≤ c ↔ ∀ q < n + n, P (l - q) := by
  by_cases h0 : n ≤ l
  · rw [ValueIdx.maximumf_apply, max_le_iff, rot_apply k A h b l (l - n) (by rw [hk]; omega), hA l (by omega), hA (l - n) (by omega)]
    constructor
    · rintro ⟨h1, h2⟩ q hq
      by_cases hqn : q < n
      · exact h1 q hqn
      · have := h2 (q - n) (by omega)
        rwa [show l - n - (q - n) = l - q by omega] at this
    · intro H
      refine ⟨fun q hq => H q (by omega), fun q hq => ?_⟩
      rw [show l - n - q = l - (n + q) by omega]; exact H (n + q) (by omega)
  · have : n = 0 := by omega
    omega

/-- A fold of maxima from minus infinity. -/
theorem fold_le {ι : Type} (s : Finset ι) (f : ι → EReal) (c : EReal) :
    s.fold max (Ideal.ofBits .f32 0xFF800000#32) f ≤ c ↔ ∀ i ∈ s, f i ≤ c := by
  rw [Finset.fold_max_le]
  refine and_iff_right ?_
  have : Ideal.ofBits .f32 0xFF800000#32 = (⊥ : EReal) := by simp [Ideal.ofBits, Ideal.ieee]
  rw [this]; exact bot_le

/-- A maximum over one axis, from minus infinity. -/
theorem multi_le {s t : Shape} {a : Fin s.rank} (src : FVec Ideal s .f32) (h : s.Reduces [a] t) (hφ : FKind.Formats .f32)
    (hacc : 0xFF800000#32 = FKind.maximumf.neutral .f32 hφ) (j : t.Idx) (c : EReal) :
    multiReduction .maximumf [a] t src 0xFF800000#32 h hφ hacc j ≤ c ↔ ∀ k : Fin (s.size a), src (h.lift j k) ≤ c := by
  rw [Idealize.ShloMosaic.Ideal.multiReduction_maximumf_single]
  refine (fold_le _ _ _).trans ⟨fun h k => h k (Finset.mem_univ _), fun h k _ => h k⟩

end Cert.Maxima

end
-- ==== Proof.Quant.Spec.lean ====
/- The quantisation in plain terms over the extended reals: the maxima of the weight and the scales. -/
module

public import Idealize.ShloMosaic.Lib.ValueIdx
public import Idealize.ShloMosaic.Lib.Pointwise.Index
public import Idealize.ShloMosaic.PureOps.Ideal.Laws

@[expose] public section

noncomputable section

namespace Cert.Spec

open Idealize.ShloMosaic

/-- The weights. -/
abbrev WMat : Type := (⟨2, ![8192, 3072]⟩ : Shape).Idx → EReal

/-- The absolute value. -/
abbrev ab (x : EReal) : EReal := max x (-x)

theorem ab_nonneg (x : EReal) : 0 ≤ ab x := by
  rcases le_total 0 x with h | h
  · exact le_max_of_le_left h
  · exact le_max_of_le_right (EReal.neg_nonneg.mpr h)

/-- The weight at a row and a column. -/
def wn (W : WMat) (r l : ℕ) : EReal := W (ix2 (Fin.ofNat 8192 r) (Fin.ofNat 3072 l))

/-- The largest absolute value of the weight. -/
def amax (W : WMat) : EReal := Finset.univ.sup fun i => ab (W i)

/-- The largest absolute value of the block of sixteen rows and sixteen columns number (b, j). -/
def bmax (W : WMat) (b j : ℕ) : EReal := (Finset.range 16).sup fun q => (Finset.range 16).sup fun p => ab (wn W (16 * b + p) (16 * j + q))

/-- The scale of the whole weight. -/
def st (W : WMat) : EReal := Ideal.div (amax W) (Ideal.ofBits .f32 0x45280000#32)

/-- The scale of a block. -/
def sb (W : WMat) (b j : ℕ) : EReal := min (Ideal.div (bmax W b j) (st W * Ideal.ofBits .f32 0x40C00000#32)) (Ideal.ofBits .f32 0x43E00000#32)

theorem st_of (W : WMat) (x : EReal) (h : x = amax W) : Ideal.div x (Ideal.ofBits .f32 0x45280000#32) = st W := by rw [h]; rfl

theorem amax_le (W : WMat) (c : EReal) : amax W ≤ c ↔ ∀ i, ab (W i) ≤ c := by
  unfold amax; rw [Finset.sup_le_iff]; exact ⟨fun h i => h i (Finset.mem_univ _), fun h i _ => h i⟩

theorem bmax_le (W : WMat) (b j : ℕ) (c : EReal) : bmax W b j ≤ c ↔ ∀ q < 16, ∀ p < 16, ab (wn W (16 * b + p) (16 * j + q)) ≤ c := by
  unfold bmax
  rw [Finset.sup_le_iff]
  refine ⟨fun h q hq p hp => ?_, fun h q hq => ?_⟩
  · exact (Finset.sup_le_iff.mp (h q (Finset.mem_range.mpr hq))) p (Finset.mem_range.mpr hp)
  · exact Finset.sup_le_iff.mpr fun p hp => h q (Finset.mem_range.mp hq) p (Finset.mem_range.mp hp)

theorem eq_of_le_iff {a b : EReal} (h : ∀ c, a ≤ c ↔ b ≤ c) : a = b := le_antisymm ((h b).mpr le_rfl) ((h a).mp le_rfl)

end Cert.Spec

end
-- ==== Proof.Value.Scale0.lean ====
/- The block maxima and the running maxima of the scale pass, over the extended reals: each is characterised by the
   numbers that bound it. -/
module

public import proofs.«01_k».proof.Proof.Ideal.Run0
public import proofs.«01_k».proof.Proof.Quant.Maxima
public import proofs.«01_k».proof.Proof.Quant.Spec

@[expose] public section

set_option maxRecDepth 16384

noncomputable section

namespace Cert.KernelIdeal.Value

open Cert.KernelIdeal Cert.KernelIdeal.Gen Cert.KernelIdeal.Run
open Idealize.ShloMosaic Cert.Spec

/-- The maximum over the sixteen rows of a block, at a lane. -/
theorem rows_le (x0 : FVec Ideal S512x3072 .bf16) (b : Fin 32) (l : ℕ) (c : EReal) :
    multiReduction .maximumf [1] S32x3072 (shapeCast S32x16x3072 (absf (extf .f32 x0 bitsLt_bf16_f32)) shapeCasts_S512x3072_S32x16x3072)
      0xFF800000#32 reduces_S32x16x3072_S32x3072 (.inl rfl) rfl (ix2 b (Fin.ofNat 3072 l)) ≤ c
      ↔ ∀ p < 16, ab (x0 (ix2 (Fin.ofNat 512 (16 * b.val + p)) (Fin.ofNat 3072 l))) ≤ c := by
  refine (Maxima.multi_le _ reduces_S32x16x3072_S32x3072 _ _ _ _).trans ?_
  have hb := b.isLt
  have hp : ∀ p : Fin 16, (shapeCast S32x16x3072 (absf (F := Ideal) (extf .f32 x0 bitsLt_bf16_f32)) shapeCasts_S512x3072_S32x16x3072)
      (reduces_S32x16x3072_S32x3072.lift (ix2 b (Fin.ofNat 3072 l)) p)
      = ab (x0 (ix2 (Fin.ofNat 512 (16 * b.val + p.val)) (Fin.ofNat 3072 l))) := by
    intro p
    have hpl := p.isLt
    refine (shapeCast_apply _ _ _ (ix2 (Fin.ofNat 512 (16 * b.val + p.val)) (Fin.ofNat 3072 l)) ?_).trans rfl
    rw [Shape.rowMajor_val_two, Shape.rowMajor_val_three]
    show (16 * b.val + p.val) % 512 * 3072 + l % 3072 = (b.val * 16 + p.val) * 3072 + l % 3072
    omega
  constructor
  · intro h p hpp
    have := h ⟨p, hpp⟩
    exact (hp ⟨p, hpp⟩) ▸ this
  · intro h p
    refine (hp p).trans_le ?_
    exact h p.val p.isLt

/-- The sixteen rows of a block are bounded at a lane. -/
def RowsLe (x0 : FVec Ideal S512x3072 .bf16) (b : Fin 32) (c : EReal) (l : ℕ) : Prop :=
  ∀ p < 16, ab (x0 (ix2 (Fin.ofNat 512 (16 * b.val + p)) (Fin.ofNat 3072 l))) ≤ c

/-- The maximum over a block's rows and the sixteen lanes from a lane on. -/
theorem pay7_le (x0 : FVec Ideal S512x3072 .bf16) (b : Fin 32) (l : ℕ) (c : EReal) :
    k0_pay7 (F := Ideal) x0 (ix2 b (Fin.ofNat 3072 l)) ≤ c
      ↔ ∀ q < 16, ∀ p < 16, ab (x0 (ix2 (Fin.ofNat 512 (16 * b.val + p)) (Fin.ofNat 3072 (l + q)))) ≤ c := by
  unfold k0_pay7
  refine Maxima.fwd _ _ b c (RowsLe x0 b c) 8 _ (by decide) (by decide) rfl
    (Maxima.fwd _ _ b c (RowsLe x0 b c) 4 _ (by decide) (by decide) rfl (Maxima.fwd _ _ b c (RowsLe x0 b c) 2 _ (by decide) (by decide) rfl
      (Maxima.fwd _ _ b c (RowsLe x0 b c) 1 _ (by decide) (by decide) rfl fun l => ?_))) l
  rw [rows_le]
  constructor
  · intro h q hq p hp
    obtain rfl : q = 0 := by omega
    exact h p hp
  · intro h p hp
    exact h 0 (by decide) p hp

/-- The body's test of a lane's remainder modulo sixteen. -/
def laneMask (r : BitVec 32) : BitVec 1 :=
  IntOp.cmpi .eq (Scalar.select (IntOp.andi (IntOp.xori (IntOp.cmpi .slt r 0#32) (IntOp.cmpi .slt 16#32 0#32)) (IntOp.cmpi .ne r 0#32)) (IntOp.addi r 16#32) r) 0#32

theorem laneMask_eq : ∀ r : Fin 16, laneMask (BitVec.ofNat 32 r.val) = if r.val = 0 then 1#1 else 0#1 := by decide

theorem rem16 (l : ℕ) (hl : l < 3072) : IntOp.remsi .vector (BitVec.ofNat 32 l) 16#32 = BitVec.ofNat 32 (l % 16) := by
  apply BitVec.eq_of_toNat_eq
  have e : (BitVec.ofNat 32 l).toNat = l := by rw [BitVec.toNat_ofNat]; omega
  refine (IntOp.toNat_remsi .vector (x := BitVec.ofNat 32 l) (by rw [e]; omega) 16 (by decide) (by decide)).trans ?_
  rw [e, BitVec.toNat_ofNat]; omega

/-- The block maxima at the first lane of each block, zero at the others. -/
theorem pay8_apply (x0 : FVec Ideal S512x3072 .bf16) (b : Fin 32) (l : ℕ) :
    k0_pay8 (F := Ideal) x0 (ix2 b (Fin.ofNat 3072 l))
      = if l % 16 = 0 then k0_pay7 (F := Ideal) x0 (ix2 b (Fin.ofNat 3072 l)) else (0 : EReal) := by
  have h : k0_pay8 (F := Ideal) x0 (ix2 b (Fin.ofNat 3072 l))
      = Scalar.select (laneMask (IntOp.remsi .vector (iota .tc S32x3072 32 [1] iota_S32x3072_d1_w32 (ix2 b (Fin.ofNat 3072 l))) 16#32)) (k0_pay7 (F := Ideal) x0 (ix2 b (Fin.ofNat 3072 l))) (Ideal.ofBits .f32 0x00000000#32) := by
    unfold k0_pay8
    rfl
  rw [h, iota_single_apply]
  change Scalar.select (laneMask (IntOp.remsi .vector (BitVec.ofNat 32 (l % 3072)) 16#32)) _ _ = _
  rw [rem16 _ (Nat.mod_lt _ (by decide)), laneMask_eq ⟨l % 3072 % 16, Nat.mod_lt _ (by decide)⟩, Ideal.ofBits_zero_f32]
  have e : l % 3072 % 16 = l % 16 := by omega
  show Scalar.select (if l % 3072 % 16 = 0 then 1#1 else 0#1) _ _ = _
  rw [e]
  by_cases hl : l % 16 = 0
  · rw [if_pos hl, if_pos hl]; rfl
  · rw [if_neg hl, if_neg hl]; rfl

/-- The first lane of a block bounds as the block's elements do. -/
theorem pay8_le (x0 : FVec Ideal S512x3072 .bf16) (b : Fin 32) (j : ℕ) (c : EReal) :
    k0_pay8 (F := Ideal) x0 (ix2 b (Fin.ofNat 3072 (16 * j))) ≤ c
      ↔ ∀ q < 16, ∀ p < 16, ab (x0 (ix2 (Fin.ofNat 512 (16 * b.val + p)) (Fin.ofNat 3072 (16 * j + q)))) ≤ c := by
  rw [pay8_apply, if_pos (by omega), pay7_le]

/-- The repeated block maxima: each lane holds its own block's. -/
theorem repB_le (x0 : FVec Ideal S512x3072 .bf16) (b : Fin 32) (l : ℕ) (c : EReal) :
    repB (F := Ideal) x0 (ix2 b (Fin.ofNat 3072 l)) ≤ c
      ↔ ∀ q < 16, ∀ p < 16, ab (x0 (ix2 (Fin.ofNat 512 (16 * b.val + p)) (Fin.ofNat 3072 (16 * (l / 16) + q)))) ≤ c := by
  have e : Fin.ofNat 3072 l = Fin.ofNat 3072 (l + 3072) := Fin.ext (by show l % 3072 = (l + 3072) % 3072; omega)
  have H : repB (F := Ideal) x0 (ix2 b (Fin.ofNat 3072 (l + 3072))) ≤ c ↔ ∀ q < 16, k0_pay8 (F := Ideal) x0 (ix2 b (Fin.ofNat 3072 (l + 3072 - q))) ≤ c := by
    unfold repB k0_pay1 k0_pay9
    have P : ∃ P : ℕ → Prop, P = fun l => k0_pay8 (F := Ideal) x0 (ix2 b (Fin.ofNat 3072 l)) ≤ c := ⟨_, rfl⟩
    obtain ⟨P, hP⟩ := P
    have hP' : ∀ l, (k0_pay8 (F := Ideal) x0 (ix2 b (Fin.ofNat 3072 l)) ≤ c) = P l := fun l => by rw [hP]
    simp only [hP']
    refine Maxima.bwd _ _ b c P 8 _ (by decide) rfl
      (Maxima.bwd _ _ b c P 4 _ (by decide) rfl (Maxima.bwd _ _ b c P 2 _ (by decide) rfl
        (Maxima.bwd _ _ b c P 1 _ (by decide) rfl fun l _ => ?_))) (l + 3072) (by omega)
    rw [hP']
    constructor
    · intro h q hq
      obtain rfl : q = 0 := by omega
      exact h
    · intro h
      exact h 0 (by decide)
  rw [e, H]
  constructor
  · intro h
    have := h (l % 16) (by omega)
    rw [show l + 3072 - l % 16 = 16 * (l / 16 + 192) by omega, pay8_le] at this
    intro q hq p hp
    have h' := this q hq p hp
    rwa [show Fin.ofNat 3072 (16 * (l / 16 + 192) + q) = Fin.ofNat 3072 (16 * (l / 16) + q) from Fin.ext (by
      show (16 * (l / 16 + 192) + q) % 3072 = (16 * (l / 16) + q) % 3072; omega)] at h'
  · intro h q hq
    by_cases hr : (l + 3072 - q) % 16 = 0
    · rw [show l + 3072 - q = 16 * (l / 16 + 192) by omega, pay8_le]
      intro q hq p hp
      rw [show Fin.ofNat 3072 (16 * (l / 16 + 192) + q) = Fin.ofNat 3072 (16 * (l / 16) + q) from Fin.ext (by
        show (16 * (l / 16 + 192) + q) % 3072 = (16 * (l / 16) + q) % 3072; omega)]
      exact h q hq p hp
    · rw [pay8_apply, if_neg hr]
      exact (ab_nonneg _).trans (h 0 (by decide) 0 (by decide))

/-- The running maximum after one more block of rows. -/
theorem mxB_le (x0 : FVec Ideal S512x3072 .bf16) (e : FVec Ideal S1x3072 .f32) (l : ℕ) (c : EReal) :
    mxB (F := Ideal) x0 e (ix2 0 (Fin.ofNat 3072 l)) ≤ c
      ↔ e (ix2 0 (Fin.ofNat 3072 l)) ≤ c ∧ ∀ b : Fin 32, ∀ q < 16, ∀ p < 16, ab (x0 (ix2 (Fin.ofNat 512 (16 * b.val + p)) (Fin.ofNat 3072 (l + q)))) ≤ c := by
  unfold mxB k0_pay4
  rw [shapeCast_self]
  rw [Idealize.ShloMosaic.ValueIdx.maximumf_apply, max_le_iff]
  refine and_congr_right fun _ => ?_
  rw [shapeCast_apply _ _ _ (ix1 (Fin.ofNat 3072 l)) (by rw [Shape.rowMajor_val_one, Shape.rowMajor_val_two]; show l % 3072 = 0 * 3072 + l % 3072; omega)]
  refine (Maxima.multi_le _ reduces_S32x3072_S3072 _ _ _ _).trans ?_
  have hl : ∀ b : Fin 32, reduces_S32x3072_S3072.lift (ix1 (Fin.ofNat 3072 l)) b = ix2 b (Fin.ofNat 3072 l) := fun b =>
    funext fun a => match a with | ⟨0, _⟩ => rfl | ⟨1, _⟩ => rfl
  refine forall_congr' fun b => ?_
  exact (iff_of_eq (congrArg (fun i => k0_pay7 (F := Ideal) x0 i ≤ c) (hl b))).trans (pay7_le x0 b l c)

end Cert.KernelIdeal.Value

end
-- ==== Proof.Value.Scale1.lean ====
/- What the scale pass leaves in its three result arrays. -/
module

public import proofs.«01_k».proof.Proof.Ideal.Launch
public import proofs.«01_k».proof.Proof.Value.Scale0
public import Idealize.ShloMosaic.Lib.Pipeline.ValueKit

@[expose] public section

set_option maxRecDepth 16384

noncomputable section

namespace Cert.KernelIdeal.Value

open Cert.KernelIdeal Cert.KernelIdeal.Gen Cert.KernelIdeal.Run Cert.Spec
open Idealize.ShloMosaic Idealize.ShloMosaic.TcCoe

variable (m : (ℓ : Loc nD τ sig) → Buf (Elt Ideal) ℓ) (c : Dev nD)

/-- The weight argument. -/
abbrev argW : WMat := m ((c.tc : Thread nD τ).loc main_arg1)

theorem V1_arg1 : V1 m c (Proc.devRef .tc main_arg1) = argW m c := V1_of m c main_arg1 (by decide)

/-- The selection matrix: one where the row is sixteen times the column. -/
theorem V1_sel (k : Fin 3072) (j : Fin 192) :
    V1 m c (Proc.devRef .tc main_v10) (ix2 k j) = if k.val = 16 * j.val then (1 : EReal) else 0 := by
  have h : V1 m c (Proc.devRef .tc main_v10) = uitofp (F := Ideal) .bf16 (cmpi .eq
      (broadcastInDim S3072x192 ![0, 1] bcast_S3072x1_S3072x192_0_1 (broadcastInDim S3072x1 ![0] bcast_S3072_S3072x1_0 (iotaInDim S3072 32 0)))
      (broadcastInDim S3072x192 ![0, 1] bcast_S1x192_S3072x192_0_1 (muli (broadcastInDim S1x192 ![] bcast_S_S1x192 (constantI S_ 32 16#32))
        (broadcastInDim S1x192 ![1] bcast_S192_S1x192_1 (iotaInDim S192 32 0))))) := by
    unfold V1
    after_results <;> rfl
  rw [h]
  have hk := k.isLt
  have hj := j.isLt
  show (((IntOp.cmpi .eq (BitVec.ofNat 32 k.val) (16#32 * BitVec.ofNat 32 j.val)).toNat : ℝ) : EReal) = _
  have e : (BitVec.ofNat 32 k.val == 16#32 * BitVec.ofNat 32 j.val) = decide (k.val = 16 * j.val) := by
    rw [Bool.eq_iff_iff, beq_iff_eq, decide_eq_true_iff, ← BitVec.toNat_inj, BitVec.toNat_mul, BitVec.toNat_ofNat, BitVec.toNat_ofNat]
    show k.val % 2 ^ 32 = 16 * (j.val % 2 ^ 32) % 2 ^ 32 ↔ _
    omega
  show (((BitVec.ofBool (BitVec.ofNat 32 k.val == 16#32 * BitVec.ofNat 32 j.val)).toNat : ℝ) : EReal) = _
  rw [e]
  by_cases h : k.val = 16 * j.val
  · rw [if_pos h, decide_eq_true h]; simp
  · rw [if_neg h, decide_eq_false h]; simp

theorem idx0_0 : ∀ t : Fin cfg0.N, win0_0.index t = ![t.val, 0] :=
  (by decide +kernel : ∀ t : Fin grid0.N, win0_0.index t = ![t.val, 0])
theorem idx0_1 : ∀ t : Fin cfg0.N, win0_1.index t = ![0, 0] :=
  (by decide +kernel : ∀ t : Fin grid0.N, win0_1.index t = ![0, 0])
theorem idx0_2 : ∀ t : Fin cfg0.N, win0_2.index t = ![t.val, 0] :=
  (by decide +kernel : ∀ t : Fin grid0.N, win0_2.index t = ![t.val, 0])

theorem idx0_3 : ∀ t : Fin cfg0.N, win0_3.index t = ![0, 0] :=
  (by decide +kernel : ∀ t : Fin grid0.N, win0_3.index t = ![0, 0])

/-- A block of 512 rows of the weight. -/
theorem iblk0_0 (t : Fin cfg0.N) (r : ℕ) (hr : r < 512) (l : ℕ) :
    (iblk0 (V1 m) c 0 t : FVec Ideal S512x3072 .bf16) (ix2 (Fin.ofNat 512 r) (Fin.ofNat 3072 l)) = wn (argW m c) (512 * t.val + r) l := by
  have ht := lt0 t
  rw [← V1_arg1]
  unfold wn
  blk_ext [iblk0, idx0_0]
  show t.val * 512 + r % 512 = (512 * t.val + r) % 8192
  omega

theorem iblk0_1 (t : Fin cfg0.N) (k : Fin 3072) (j : Fin 192) :
    (iblk0 (V1 m) c 1 t : FVec Ideal S3072x192 .bf16) (ix2 k j) = V1 m c (Proc.devRef .tc main_v10) (ix2 k j) := by
  blk_ext [iblk0, idx0_1]

/-- The comp scratch at a block: the maximum of the block. -/
theorem compB_apply (x0 : FVec Ideal S512x3072 .bf16) (x1 : FVec Ideal S3072x192 .bf16)
    (h1 : ∀ k j, x1 (ix2 k j) = if k.val = 16 * j.val then (1 : EReal) else 0) (b : Fin 32) (j : Fin 192) :
    compB (F := Ideal) x0 x1 (ix2 b j) = k0_pay8 (F := Ideal) x0 (ix2 b (Fin.ofNat 3072 (16 * j.val))) := by
  have h : compB (F := Ideal) x0 x1 (ix2 b j) = ∑ k : Fin 3072, k0_pay8 (F := Ideal) x0 (ix2 b k) * x1 (ix2 k j) := by
    unfold compB k0_pay2
    generalize k0_pay8 (F := Ideal) x0 = y0
    rw [shapeCast_self, shapeCast_self]
    refine (Ideal.matmul_constant_zero_apply dot_S32x3072_S3072x192_S32x192_1_0_0_1_n_n none (truncf .bf16 y0 bitsLt_bf16_f32) x1 (ix2 b j)).trans ?_
    rw [← Equiv.sum_comp (ValueIdx.contrEquiv1 dot_S32x3072_S3072x192_S32x192_1_0_0_1_n_n 3072 rfl rfl).symm]
    refine Finset.sum_congr rfl fun k _ => ?_
    have hk := ValueIdx.contrEquiv1_symm_val dot_S32x3072_S3072x192_S32x192_1_0_0_1_n_n 3072 rfl rfl k
    have el : dot_S32x3072_S3072x192_S32x192_1_0_0_1_n_n.lhsIdx (ix2 b j) ((ValueIdx.contrEquiv1 dot_S32x3072_S3072x192_S32x192_1_0_0_1_n_n 3072 rfl rfl).symm k) = ix2 b k := funext fun a => Fin.ext (by
      match a with
      | ⟨0, _⟩ =>
        show (dot_S32x3072_S3072x192_S32x192_1_0_0_1_n_n.lhsIdx (ix2 b j) _ 0).val = b.val
        unfold DotDims.lhsIdx
        rw [dif_neg (show ¬(0 : Fin S32x3072.rank) ∈ dot_S32x3072_S3072x192_S32x192_1_0_0_1_n_n.lhsBatch by decide), dif_pos (show (0 : Fin S32x3072.rank) ∈ dot_S32x3072_S3072x192_S32x192_1_0_0_1_n_n.lhsNonContracting by decide)]
        rfl
      | ⟨1, _⟩ => exact (dot_S32x3072_S3072x192_S32x192_1_0_0_1_n_n.lhsIdx_val_of_single rfl (ix2 b j) _).trans hk)
    have er : dot_S32x3072_S3072x192_S32x192_1_0_0_1_n_n.rhsIdx (ix2 b j) ((ValueIdx.contrEquiv1 dot_S32x3072_S3072x192_S32x192_1_0_0_1_n_n 3072 rfl rfl).symm k) = ix2 k j := funext fun a => Fin.ext (by
      match a with
      | ⟨0, _⟩ => exact (dot_S32x3072_S3072x192_S32x192_1_0_0_1_n_n.rhsIdx_val_of_single rfl (ix2 b j) _).trans hk
      | ⟨1, _⟩ =>
        show (dot_S32x3072_S3072x192_S32x192_1_0_0_1_n_n.rhsIdx (ix2 b j) _ 1).val = j.val
        unfold DotDims.rhsIdx
        rw [dif_neg (show ¬(1 : Fin S3072x192.rank) ∈ dot_S32x3072_S3072x192_S32x192_1_0_0_1_n_n.rhsBatch by decide), dif_pos (show (1 : Fin S3072x192.rank) ∈ dot_S32x3072_S3072x192_S32x192_1_0_0_1_n_n.rhsNonContracting by decide)]
        rfl)
    rw [el, er]
    rfl
  rw [h, Finset.sum_eq_single (Fin.ofNat 3072 (16 * j.val))]
  · rw [h1, if_pos (by have := j.isLt; show 16 * j.val % 3072 = _; omega), mul_one]
  · intro k _ hk
    rw [h1, if_neg, mul_zero]
    intro e
    exact hk (Fin.ext (by have := j.isLt; show k.val = 16 * j.val % 3072; omega))
  · intro h; exact absurd (Finset.mem_univ _) h

theorem compAll_apply (b : Fin 512) (j : Fin 192) : compAll (F := Ideal) (V1 m) c (ix2 b j) = bmax (argW m c) b.val j.val := by
  have hb := b.isLt
  have hj := j.isLt
  refine eq_of_le_iff fun q => ?_
  rw [bmax_le]
  have e : compAll (F := Ideal) (V1 m) c (ix2 b j) = compB (F := Ideal) (iblk0 (V1 m) c 0 (pt0 (b.val / 32))) (iblk0 (V1 m) c 1 (pt0 (b.val / 32))) (ix2 (Fin.ofNat 32 b.val) j) := rfl
  rw [e, compB_apply _ _ (fun k j => (iblk0_1 m c _ k j).trans (V1_sel m c k j)), pay8_le]
  refine forall₂_congr fun a ha => forall₂_congr fun p hp => ?_
  rw [iblk0_0 m c _ _ (by show 16 * (b.val % 32) + p < 512; omega)]
  have ht : (pt0 (b.val / 32)).val = b.val / 32 := Nat.mod_eq_of_lt (by omega)
  rw [ht, show 512 * (b.val / 32) + (16 * (Fin.ofNat 32 b.val).val + p) = 16 * b.val + p from by
    show 512 * (b.val / 32) + (16 * (b.val % 32) + p) = _; omega]

theorem runMax_le (n : ℕ) (hn : n ≤ 16) (l : ℕ) (q : EReal) : runMax (F := Ideal) (V1 m) c n (ix2 0 (Fin.ofNat 3072 l)) ≤ q
    ↔ 0 ≤ q ∧ ∀ r < 512 * n, ∀ a < 16, ab (wn (argW m c) r (l + a)) ≤ q := by
  induction n with
  | zero =>
    have e : runMax (F := Ideal) (V1 m) c 0 (ix2 0 (Fin.ofNat 3072 l)) = Ideal.ofBits .f32 0x00000000#32 := by
      show k0_pay3 (F := Ideal) _ = _
      unfold k0_pay3
      rw [shapeCast_self]
      rfl
    rw [e, Ideal.ofBits_zero_f32]
    exact ⟨fun h => ⟨h, fun r hr => absurd hr (by omega)⟩, fun h => h.1⟩
  | succ n ih =>
    have ht : (pt0 n).val = n := Nat.mod_eq_of_lt (by omega)
    show mxB (F := Ideal) (iblk0 (V1 m) c 0 (pt0 n)) (runMax (V1 m) c n) _ ≤ q ↔ _
    rw [mxB_le, ih (by omega)]
    constructor
    · rintro ⟨⟨h0, h1⟩, h2⟩
      refine ⟨h0, fun r hr a ha => ?_⟩
      by_cases hrn : r < 512 * n
      · exact h1 r hrn a ha
      · have := h2 ⟨(r - 512 * n) / 16, by omega⟩ a ha ((r - 512 * n) % 16) (Nat.mod_lt _ (by omega))
        rw [iblk0_0 m c _ _ (by show 16 * ((r - 512 * n) / 16) + (r - 512 * n) % 16 < 512; omega), ht] at this
        rw [show r = 512 * n + (16 * ((r - 512 * n) / 16) + (r - 512 * n) % 16) by omega]
        exact this
    · rintro ⟨h0, h1⟩
      refine ⟨⟨h0, fun r hr => h1 r (by omega)⟩, fun b a ha p hp => ?_⟩
      have hb := b.isLt
      rw [iblk0_0 m c _ _ (by omega), ht]
      exact h1 _ (by omega) a ha

/-- The scale of the whole weight, as the last point computes it. -/
theorem pay5_runMax (y : S1x1.Idx) : k0_pay5 (F := Ideal) (runMax (F := Ideal) (V1 m) c 16) y = st (argW m c) := by
  obtain rfl : y = ix2 0 0 := funext fun a => match a with
    | ⟨0, _⟩ => Fin.ext (by have := (y 0).isLt; show (y 0).val = 0; change (y 0).val < 1 at this; omega)
    | ⟨1, _⟩ => Fin.ext (by have := (y 1).isLt; show (y 1).val = 0; change (y 1).val < 1 at this; omega)
  have hle : ∀ l q, runMax (F := Ideal) (V1 m) c 16 (ix2 0 (Fin.ofNat 3072 l)) ≤ q ↔ _ := fun l q => runMax_le m c 16 le_rfl l q
  generalize runMax (F := Ideal) (V1 m) c 16 = R at hle ⊢
  have e : k0_pay5 (F := Ideal) R (ix2 0 0) = Ideal.div (shapeCast S1x1 (multiReduction (F := Ideal) .maximumf [1] S1 R 0xFF800000#32 reduces_S1x3072_S1 (.inl rfl) rfl) shapeCasts_S1_S1x1 (ix2 0 0))
      (Ideal.ofBits .f32 0x45280000#32) := by
    unfold k0_pay5
    rw [ValueIdx.divf_apply]
    rfl
  rw [e]
  refine st_of _ _ (eq_of_le_iff fun q => ?_)
  rw [shapeCast_apply _ _ _ (ix1 0) (by rw [Shape.rowMajor_val_one, Shape.rowMajor_val_two]; rfl), amax_le]
  refine (Maxima.multi_le _ reduces_S1x3072_S1 _ _ _ _).trans ?_
  have hl : ∀ b : Fin 3072, reduces_S1x3072_S1.lift (ix1 0) b = ix2 0 (Fin.ofNat 3072 b.val) := fun b =>
    funext fun a => match a with
      | ⟨0, _⟩ => rfl
      | ⟨1, _⟩ => Fin.ext (show b.val = (Fin.ofNat 3072 b.val).val from by rw [Fin.val_ofNat]; exact (Nat.mod_eq_of_lt b.isLt).symm)
  have hlift : ∀ b : Fin 3072, R (reduces_S1x3072_S1.lift (ix1 0) b) ≤ q ↔ 0 ≤ q ∧ ∀ r < 512 * 16, ∀ a < 16, ab (wn (argW m c) r (b.val + a)) ≤ q := fun b =>
    (iff_of_eq (congrArg (fun i => R i ≤ q) (hl b))).trans (hle b.val q)
  constructor
  · intro h i
    have h0 : (i 0).val < 8192 := (i 0).isLt
    have h1 : (i 1).val < 3072 := (i 1).isLt
    have := ((hlift ⟨(i 1).val, h1⟩).mp (h _)).2 (i 0).val (by omega) 0 (by decide)
    unfold wn at this
    rwa [show (ix2 (Fin.ofNat 8192 (i 0).val) (Fin.ofNat 3072 ((i 1).val + 0)) : (⟨2, ![8192, 3072]⟩ : Shape).Idx) = i from
      funext fun a => match a with
        | ⟨0, _⟩ => Fin.ext (Nat.mod_eq_of_lt h0)
        | ⟨1, _⟩ => Fin.ext (Nat.mod_eq_of_lt h1)] at this
  · intro h b
    exact (hlift b).mpr ⟨(ab_nonneg _).trans (h (ix2 0 0)), fun r _ a _ => h _⟩

/-- The block scales, as the last point computes them. -/
theorem pay6_apply (y : S512x192.Idx) : k0_pay6 (F := Ideal) (runMax (F := Ideal) (V1 m) c 16) (compAll (F := Ideal) (V1 m) c) y = sb (argW m c) (y 0).val (y 1).val := by
  have e : k0_pay6 (F := Ideal) (runMax (F := Ideal) (V1 m) c 16) (compAll (F := Ideal) (V1 m) c) y
      = min (Ideal.div (compAll (F := Ideal) (V1 m) c y) (k0_pay5 (F := Ideal) (runMax (F := Ideal) (V1 m) c 16) (ix2 0 0) * Ideal.ofBits .f32 0x40C00000#32)) (Ideal.ofBits .f32 0x43E00000#32) := by
    generalize runMax (F := Ideal) (V1 m) c 16 = R
    generalize compAll (F := Ideal) (V1 m) c = C
    unfold k0_pay6
    show min (Ideal.div (C y) (broadcastTo S512x192 _ broadcasts_S1x1_S512x192 y)) _ = _
    rw [broadcastTo_apply _ _ _ (ix2 0 0) (fun a => match a with | ⟨0, _⟩ => rfl | ⟨1, _⟩ => rfl), ValueIdx.mulf_apply]
    rfl
  have hc : compAll (F := Ideal) (V1 m) c y = bmax (argW m c) (y 0).val (y 1).val :=
    (congrArg (compAll (F := Ideal) (V1 m) c) (funext fun a => match a with | ⟨0, _⟩ => rfl | ⟨1, _⟩ => rfl)).trans (compAll_apply m c (y 0) (y 1))
  rw [e, pay5_runMax, hc]
  rfl

/-- After the scale pass: the scale of the whole weight. -/
theorem W2_st (y : S1x1.Idx) : (W2 m c (Proc.devRef .tc main_v11_2) : FVec Ideal S1x1 .f32) y = st (argW m c) := by
  have h : W2 m c (Proc.devRef .tc main_v11_2) = (dat0 (V1 m) c).arrAt 4 cfg0.N :=
    Pipeline.afterRegion_arr (dat0 (V1 m) c) (V1 m c) launch0.win.arr_inj 4
  rw [h]
  refine congrFun ((dat0 (V1 m) c).arrAt_eq_of_covers 4 (fun _ => st (argW m c)) (by decide +kernel) fun t hf y => ?_) y
  blk_simp
  rw [after0_4]
  exact pay5_runMax m c _

/-- After the scale pass: the block scales. -/
theorem W2_sb (y : S512x192.Idx) : (W2 m c (Proc.devRef .tc main_v11_1) : FVec Ideal S512x192 .fp8e4m3) y = sb (argW m c) (y 0).val (y 1).val := by
  have h : W2 m c (Proc.devRef .tc main_v11_1) = (dat0 (V1 m) c).arrAt 3 cfg0.N :=
    Pipeline.afterRegion_arr (dat0 (V1 m) c) (V1 m c) launch0.win.arr_inj 3
  rw [h]
  refine congrFun ((dat0 (V1 m) c).arrAt_eq_of_covers 3 (fun y : S512x192.Idx => sb (argW m c) (y 0).val (y 1).val) (by decide +kernel) fun t hf y => ?_) y
  blk_simp
  rw [after0_3]
  refine (pay6_apply m c _).trans ?_
  blk_simp [idx0_3]

/-- After the scale pass: the block maxima, repeated over the sixteen columns of a block. -/
theorem W2_rep (y : S512x3072.Idx) : (W2 m c (Proc.devRef .tc main_v11_0) : FVec Ideal S512x3072 .f32) y = bmax (argW m c) (y 0).val ((y 1).val / 16) := by
  have h : W2 m c (Proc.devRef .tc main_v11_0) = (dat0 (V1 m) c).arrAt 2 cfg0.N :=
    Pipeline.afterRegion_arr (dat0 (V1 m) c) (V1 m c) launch0.win.arr_inj 2
  rw [h]
  refine congrFun ((dat0 (V1 m) c).arrAt_eq_of_covers 2 (fun y : S512x3072.Idx => bmax (argW m c) (y 0).val ((y 1).val / 16)) (by decide +kernel) fun t hf y => ?_) y
  blk_simp
  rw [after0_2]
  have ht := lt0 t
  have hy0 : (y 0).val < 32 := (y 0).isLt
  have hy1 : (y 1).val < 3072 := (y 1).isLt
  have H : repB (F := Ideal) (iblk0 (V1 m) c 0 t) (ix2 (Fin.ofNat 32 (y 0).val) (Fin.ofNat 3072 (y 1).val)) = bmax (argW m c) (32 * t.val + (y 0).val) ((y 1).val / 16) := by
    refine eq_of_le_iff fun q => ?_
    rw [repB_le, bmax_le]
    refine forall₂_congr fun a ha => forall₂_congr fun p hp => ?_
    rw [iblk0_0 m c _ _ (by show 16 * ((y 0).val % 32) + p < 512; omega),
      show 512 * t.val + (16 * (Fin.ofNat 32 (y 0).val).val + p) = 16 * (32 * t.val + (y 0).val) + p from by
        show 512 * t.val + (16 * ((y 0).val % 32) + p) = _; omega]
  have hy : y = (ix2 (Fin.ofNat 32 (y 0).val) (Fin.ofNat 3072 (y 1).val) : S32x3072.Idx) := funext fun a => match a with
    | ⟨0, _⟩ => Fin.ext (show (y 0).val = (y 0).val % 32 from (Nat.mod_eq_of_lt hy0).symm)
    | ⟨1, _⟩ => Fin.ext (show (y 1).val = (y 1).val % 3072 from (Nat.mod_eq_of_lt hy1).symm)
  refine (congrArg (repB (F := Ideal) (iblk0 (V1 m) c 0 t)) hy).trans (H.trans ?_)
  rw [idx0_2]
  show bmax _ (32 * t.val + (y 0).val) ((y 1).val / 16) = bmax _ (t.val * 32 + (y 0).val) ((0 * 3072 + (y 1).val) / 16)
  rw [Nat.zero_mul, Nat.zero_add, Nat.mul_comm]

end Cert.KernelIdeal.Value

end
-- ==== Proof.Quant.Code.lean ====
/- Rounding to the nearest of the eight magnitudes 0, 1/2, 1, 3/2, 2, 3, 4, 6: the code, the value, and two ways to compute them. -/
module

public import Idealize.ShloMosaic.Lib.ValueIdx
public import Idealize.ShloMosaic.Lib.IdealHost
public import Idealize.ShloMosaic.PureOps.Ideal.Laws
public import proofs.«01_k».proof.Proof.Quant.Spec

@[expose] public section

set_option maxRecDepth 16384

noncomputable section

namespace Cert.Spec

open Idealize.ShloMosaic

/-- A single-precision constant. -/
abbrev k32 (b : BitVec 32) : EReal := Ideal.ofBits .f32 b

theorem k_half : k32 0x3F000000#32 = ((1 / 2 : ℝ) : EReal) := by simp [Ideal.ofBits, Ideal.ieee, -EReal.coe_mul]; norm_num
theorem k_one : k32 0x3F800000#32 = ((1 : ℝ) : EReal) := by simp [Ideal.ofBits, Ideal.ieee, -EReal.coe_mul]
theorem k_two : k32 0x40000000#32 = ((2 : ℝ) : EReal) := by simp [Ideal.ofBits, Ideal.ieee, -EReal.coe_mul]; norm_num
theorem k_four : k32 0x40800000#32 = ((4 : ℝ) : EReal) := by simp [Ideal.ofBits, Ideal.ieee, -EReal.coe_mul]; norm_num
theorem k_six : k32 0x40C00000#32 = ((6 : ℝ) : EReal) := by simp [Ideal.ofBits, Ideal.ieee, -EReal.coe_mul]; norm_num
theorem k_neg_six : k32 0xC0C00000#32 = ((-6 : ℝ) : EReal) := by simp [Ideal.ofBits, Ideal.ieee, -EReal.coe_mul]; norm_num
theorem k_zero : k32 0x00000000#32 = ((0 : ℝ) : EReal) := by simp [Ideal.ofBits, Ideal.ieee, -EReal.coe_mul]

theorem h_zero : Ideal.ofBits .bf16 0x0000#16 = ((0 : ℝ) : EReal) := by simp [Ideal.ofBits, Ideal.ieee, -EReal.coe_mul]
theorem h_half : Ideal.ofBits .bf16 0x3F00#16 = ((1 / 2 : ℝ) : EReal) := by simp [Ideal.ofBits, Ideal.ieee, -EReal.coe_mul]; norm_num
theorem h_one : Ideal.ofBits .bf16 0x3F80#16 = ((1 : ℝ) : EReal) := by simp [Ideal.ofBits, Ideal.ieee, -EReal.coe_mul]; norm_num
theorem h_three_halves : Ideal.ofBits .bf16 0x3FC0#16 = ((3 / 2 : ℝ) : EReal) := by simp [Ideal.ofBits, Ideal.ieee, -EReal.coe_mul]; norm_num
theorem h_two : Ideal.ofBits .bf16 0x4000#16 = ((2 : ℝ) : EReal) := by simp [Ideal.ofBits, Ideal.ieee, -EReal.coe_mul]; norm_num
theorem h_three : Ideal.ofBits .bf16 0x4040#16 = ((3 : ℝ) : EReal) := by simp [Ideal.ofBits, Ideal.ieee, -EReal.coe_mul]; norm_num
theorem h_four : Ideal.ofBits .bf16 0x4080#16 = ((4 : ℝ) : EReal) := by simp [Ideal.ofBits, Ideal.ieee, -EReal.coe_mul]; norm_num
theorem h_six : Ideal.ofBits .bf16 0x40C0#16 = ((6 : ℝ) : EReal) := by simp [Ideal.ofBits, Ideal.ieee, -EReal.coe_mul]; norm_num

/-- The weight over its scale, kept between minus six and six; zero where the scale is not positive. -/
def vOf (w d : EReal) : EReal :=
  min (k32 0x40C00000#32) (max (k32 0xC0C00000#32) (Scalar.select (Ideal.cmp .ogt d (k32 0x00000000#32))
    (Ideal.div w (Scalar.select (Ideal.cmp .ogt d (k32 0x00000000#32)) d (k32 0x3F800000#32))) (k32 0x00000000#32)))

/-- Round to an integer, ties to even. -/
abbrev rnd (x : EReal) : EReal := Ideal.liftRound Ideal.roundHalfEven x

/-- The power of two a magnitude is scaled by before rounding. -/
def scOf (a : EReal) : EReal :=
  Scalar.select (Ideal.cmp .olt a (k32 0x40000000#32)) (k32 0x40000000#32) (Scalar.select (Ideal.cmp .olt a (k32 0x40800000#32)) (k32 0x3F800000#32) (k32 0x3F000000#32))

/-- The magnitude's code. -/
def magCode (a : EReal) : BitVec 32 :=
  Ideal.fptosi 32 (rnd (a * scOf a) + Scalar.select (Ideal.cmp .olt a (k32 0x40000000#32)) (k32 0x00000000#32)
    (Scalar.select (Ideal.cmp .olt a (k32 0x40800000#32)) (k32 0x40000000#32) (k32 0x40800000#32)))

/-- The magnitude rounded. -/
def magVal (a : EReal) : EReal := Ideal.div (rnd (a * scOf a)) (scOf a)

/-- The magnitude rounded, range by range. -/
def refVal (a : EReal) : EReal :=
  Scalar.select (Ideal.cmp .olt a (k32 0x40000000#32)) (Ideal.div (rnd (k32 0x40000000#32 * a)) (k32 0x40000000#32))
    (Scalar.select (Ideal.cmp .olt a (k32 0x40800000#32)) (rnd a) (k32 0x40000000#32 * rnd (Ideal.div a (k32 0x40000000#32))))

/-- The code of a rounded magnitude. -/
def refCode (q : EReal) : BitVec 32 :=
  Ideal.fptosi 32 (Scalar.select (Ideal.cmp .olt q (k32 0x40000000#32)) (k32 0x40000000#32 * q)
    (Scalar.select (Ideal.cmp .olt q (k32 0x40800000#32)) (q + k32 0x40000000#32) (Ideal.div q (k32 0x40000000#32) + k32 0x40800000#32)))

/-- The eight magnitudes. -/
def table (k : Fin 8) : EReal := (((![0, 1 / 2, 1, 3 / 2, 2, 3, 4, 6] : Fin 8 → ℝ) k : ℝ) : EReal)

theorem select_lt (x y : ℝ) (p q : EReal) : Scalar.select (Ideal.cmp .olt (x : EReal) (y : EReal)) p q = if x < y then p else q := by
  unfold Scalar.select Ideal.cmp
  by_cases h : x < y
  · simp [h]
  · simp [h]

theorem div_two (x y : ℝ) (hy : y ≠ 0) : Ideal.div (x : EReal) (y : EReal) = ((x / y : ℝ) : EReal) := by
  rw [Ideal.div_coe hy, ← EReal.coe_mul, one_div, div_eq_mul_inv]

theorem toI (k : Fin 8) (x : ℝ) (h : x = (k.val : ℝ)) : Ideal.fptosi 32 (x : EReal) = BitVec.ofNat 32 k.val := by
  subst h
  have h : Ideal.toIntClamped (-(2 ^ (32 - 1) : Nat)) ((2 ^ (32 - 1) : Nat) - 1) ((k.val : ℝ) : EReal) = (k.val : Int) := by
    rw [Ideal.toIntClamped_coe, if_pos (Nat.cast_nonneg _), Int.floor_natCast]
    have := k.isLt
    norm_num
    omega
  unfold Ideal.fptosi
  rw [h]
  exact BitVec.ofInt_natCast _ _

theorem round_bounds (x : ℝ) : ⌊x⌋ ≤ Ideal.roundHalfEven x ∧ Ideal.roundHalfEven x ≤ ⌊x⌋ + 1 := by
  unfold Ideal.roundHalfEven
  dsimp only
  split_ifs <;> omega

theorem round_int (n : ℤ) : Ideal.roundHalfEven (n : ℝ) = n := by
  unfold Ideal.roundHalfEven
  dsimp only
  rw [Int.floor_intCast, if_pos (by simp)]

/-- A number between two integers rounds between them. -/
theorem round_between (x : ℝ) (a b : ℤ) (ha : (a : ℝ) ≤ x) (hb : x ≤ b) : a ≤ Ideal.roundHalfEven x ∧ Ideal.roundHalfEven x ≤ b := by
  refine ⟨(Int.le_floor.mpr ha).trans (round_bounds x).1, ?_⟩
  rcases hb.eq_or_lt with h | h
  · rw [h, round_int]
  · exact (round_bounds x).2.trans (by have := Int.floor_lt.mpr h; omega)

theorem rnd_coe (x : ℝ) : rnd (x : EReal) = ((Ideal.roundHalfEven x : ℝ) : EReal) := rfl

/-- One of the eight magnitudes: its code and value both ways. -/
theorem mag_spec (r : ℝ) (h0 : 0 ≤ r) (h6 : r ≤ 6) :
    ∃ k : Fin 8, magCode (r : EReal) = BitVec.ofNat 32 k.val ∧ magVal (r : EReal) = table k ∧ refVal (r : EReal) = table k := by
  unfold magCode magVal refVal scOf
  simp only [k_half, k_one, k_two, k_four, k_zero, select_lt]
  by_cases h2 : r < 2
  · simp only [if_pos h2]
    rw [← EReal.coe_mul, ← EReal.coe_mul, rnd_coe, rnd_coe, mul_comm 2 r]
    obtain ⟨ha, hb⟩ := round_between (r * 2) 0 4 (by push_cast; linarith) (by push_cast; linarith)
    generalize Ideal.roundHalfEven (r * 2) = n at ha hb
    rw [div_two _ _ (by norm_num), ← EReal.coe_add]
    interval_cases n
    · exact ⟨0, toI 0 _ (by norm_num), congrArg _ (by norm_num <;> rfl), congrArg _ (by norm_num <;> rfl)⟩
    · exact ⟨1, toI 1 _ (by norm_num), congrArg _ (by norm_num <;> rfl), congrArg _ (by norm_num <;> rfl)⟩
    · exact ⟨2, toI 2 _ (by norm_num), congrArg _ (by norm_num <;> rfl), congrArg _ (by norm_num <;> rfl)⟩
    · exact ⟨3, toI 3 _ (by norm_num), congrArg _ (by norm_num <;> rfl), congrArg _ (by norm_num <;> rfl)⟩
    · exact ⟨4, toI 4 _ (by norm_num), congrArg _ (by norm_num <;> rfl), congrArg _ (by norm_num <;> rfl)⟩
  · by_cases h4 : r < 4
    · simp only [if_neg h2, if_pos h4]
      rw [← EReal.coe_mul, mul_one, rnd_coe]
      obtain ⟨ha, hb⟩ := round_between r 2 4 (by push_cast; linarith) (by push_cast; linarith)
      generalize Ideal.roundHalfEven r = n at ha hb
      rw [div_two _ _ (by norm_num), ← EReal.coe_add]
      interval_cases n
      · exact ⟨4, toI 4 _ (by norm_num), congrArg _ (by norm_num <;> rfl), congrArg _ (by norm_num <;> rfl)⟩
      · exact ⟨5, toI 5 _ (by norm_num), congrArg _ (by norm_num <;> rfl), congrArg _ (by norm_num <;> rfl)⟩
      · exact ⟨6, toI 6 _ (by norm_num), congrArg _ (by norm_num <;> rfl), congrArg _ (by norm_num <;> rfl)⟩
    · simp only [if_neg h2, if_neg h4]
      rw [div_two r 2 (by norm_num), ← EReal.coe_mul, show r / 2 = r * (1 / 2) from by ring, rnd_coe]
      obtain ⟨ha, hb⟩ := round_between (r * (1 / 2)) 2 3 (by push_cast; linarith) (by push_cast; linarith)
      generalize Ideal.roundHalfEven (r * (1 / 2)) = n at ha hb
      rw [div_two _ _ (by norm_num), ← EReal.coe_add, ← EReal.coe_mul]
      interval_cases n
      · exact ⟨6, toI 6 _ (by norm_num), congrArg _ (by norm_num <;> rfl), congrArg _ (by norm_num <;> rfl)⟩
      · exact ⟨7, toI 7 _ (by norm_num), congrArg _ (by norm_num <;> rfl), congrArg _ (by norm_num <;> rfl)⟩

/-- The code of a magnitude of the table is its place. -/
theorem refCode_table (k : Fin 8) : refCode (table k) = BitVec.ofNat 32 k.val := by
  unfold refCode table
  simp only [k_two, k_four, select_lt, div_two _ 2 (by norm_num : (2 : ℝ) ≠ 0), ← EReal.coe_mul, ← EReal.coe_add]
  match k with
  | 0 => simp only [Matrix.cons_val]; norm_num; exact toI 0 _ (by norm_num)
  | 1 => simp only [Matrix.cons_val]; norm_num; exact toI 1 _ (by norm_num)
  | 2 => simp only [Matrix.cons_val]; norm_num; exact toI 2 _ (by norm_num)
  | 3 => simp only [Matrix.cons_val]; norm_num; exact toI 3 _ (by norm_num)
  | 4 => simp only [Matrix.cons_val]; norm_num; exact toI 4 _ (by norm_num)
  | 5 => simp only [Matrix.cons_val]; norm_num; exact toI 5 _ (by norm_num)
  | 6 => simp only [Matrix.cons_val]; norm_num; exact toI 6 _ (by norm_num)
  | 7 => simp only [Matrix.cons_val]; norm_num; exact toI 7 _ (by norm_num)

/-- The quotient kept between minus six and six is a real number. -/
theorem vOf_real (w d : EReal) : ∃ v : ℝ, vOf w d = (v : EReal) ∧ -6 ≤ v ∧ v ≤ 6 := by
  unfold vOf
  generalize Scalar.select (Ideal.cmp .ogt d (k32 0x00000000#32)) _ _ = x
  rw [k_six, k_neg_six]
  induction x using EReal.rec with
  | bot => exact ⟨-6, by rw [max_eq_left bot_le]; exact min_eq_right (by norm_cast), by norm_num, by norm_num⟩
  | top => exact ⟨6, by rw [max_eq_right le_top]; exact min_eq_left le_top, by norm_num, by norm_num⟩
  | coe x =>
    refine ⟨min 6 (max (-6) x), ?_, ?_, min_le_left _ _⟩
    · rw [EReal.coe_strictMono.monotone.map_min, EReal.coe_strictMono.monotone.map_max]
    · exact le_min (by norm_num) (le_max_left _ _)

theorem ab_real (v : ℝ) : ab (v : EReal) = ((|v| : ℝ) : EReal) := by
  show max (v : EReal) (-(v : EReal)) = _
  rw [← EReal.coe_neg, ← EReal.coe_strictMono.monotone.map_max]; rfl

/-- Whether the quotient is negative. -/
def negOf (w d : EReal) : BitVec 1 := Ideal.cmp .olt (vOf w d) (k32 0x00000000#32)

/-- The four-bit code. -/
def nibOf (w d : EReal) : BitVec 32 := magCode (ab (vOf w d)) ||| Scalar.select (negOf w d) 8#32 0#32

/-- The value the code stands for. -/
def qOf (w d : EReal) : EReal := Scalar.select (negOf w d) (k32 0x00000000#32 - magVal (ab (vOf w d))) (magVal (ab (vOf w d)))

/-- The code as the reference computes it. -/
def refNib (w d : EReal) : BitVec 32 := IntOp.shli .host ((negOf w d).setWidth 32) 3#32 ||| refCode (refVal (ab (vOf w d)))

/-- Whether a code has a bit. -/
def hasBit (n b : BitVec 32) : BitVec 1 := IntOp.cmpi .ne (n &&& b) 0#32

/-- The magnitude a code stands for. -/
def refMag (n : BitVec 32) : EReal :=
  Scalar.select (hasBit n 4#32)
    (Scalar.select (hasBit n 2#32) (Scalar.select (hasBit n 1#32) (Ideal.ofBits .bf16 0x40C0#16) (Ideal.ofBits .bf16 0x4080#16))
      (Scalar.select (hasBit n 1#32) (Ideal.ofBits .bf16 0x4040#16) (Ideal.ofBits .bf16 0x4000#16)))
    (Scalar.select (hasBit n 2#32) (Scalar.select (hasBit n 1#32) (Ideal.ofBits .bf16 0x3FC0#16) (Ideal.ofBits .bf16 0x3F80#16))
      (Scalar.select (hasBit n 1#32) (Ideal.ofBits .bf16 0x3F00#16) (Ideal.ofBits .bf16 0x0000#16)))

/-- The value a code stands for. -/
def refDecode (n : BitVec 32) : EReal := Scalar.select (hasBit n 8#32) (-(refMag n)) (refMag n)

theorem bit_cases (b : BitVec 1) : b = 0#1 ∨ b = 1#1 := by
  revert b; decide

theorem nib_form (w d : EReal) : ∃ (k : Fin 8), nibOf w d = BitVec.ofNat 32 k.val ||| Scalar.select (negOf w d) 8#32 0#32
    ∧ refNib w d = IntOp.shli .host ((negOf w d).setWidth 32) 3#32 ||| BitVec.ofNat 32 k.val
    ∧ qOf w d = Scalar.select (negOf w d) (k32 0x00000000#32 - table k) (table k) := by
  obtain ⟨v, hv, hl, hu⟩ := vOf_real w d
  obtain ⟨k, h1, h2, h3⟩ := mag_spec |v| (abs_nonneg v) (abs_le.mpr ⟨hl, hu⟩)
  refine ⟨k, ?_, ?_, ?_⟩
  · unfold nibOf; rw [hv, ab_real, h1]
  · unfold refNib; rw [hv, ab_real, h3, refCode_table]
  · unfold qOf; rw [hv, ab_real, h2]

theorem refNib_eq (w d : EReal) : refNib w d = nibOf w d := by
  obtain ⟨k, h1, h2, -⟩ := nib_form w d
  rw [h1, h2]
  clear h1 h2
  rcases bit_cases (negOf w d) with h | h <;> rw [h] <;> revert k <;> decide

/-- A code has four bits. -/
theorem nib_lt (w d : EReal) : (nibOf w d).toNat < 16 := by
  obtain ⟨k, h1, -, -⟩ := nib_form w d
  rw [h1]
  clear h1
  rcases bit_cases (negOf w d) with h | h <;> rw [h] <;> revert k <;> decide

theorem refMag_table : ∀ k : Fin 8, refMag (BitVec.ofNat 32 k.val) = table k := by
  intro k
  unfold refMag table
  simp only [h_zero, h_half, h_one, h_three_halves, h_two, h_three, h_four, h_six]
  match k with
  | 0 => rfl
  | 1 => rfl
  | 2 => rfl
  | 3 => rfl
  | 4 => rfl
  | 5 => rfl
  | 6 => rfl
  | 7 => rfl

theorem hasBit_sign (k : Fin 8) (b : BitVec 32) (hb : b = 1#32 ∨ b = 2#32 ∨ b = 4#32) : hasBit (BitVec.ofNat 32 k.val ||| 8#32) b = hasBit (BitVec.ofNat 32 k.val) b := by
  rcases hb with rfl | rfl | rfl <;> revert k <;> decide

/-- Decoding a code gives the value it stands for. -/
theorem refDecode_nib (w d : EReal) : refDecode (nibOf w d) = qOf w d := by
  obtain ⟨k, h1, -, h3⟩ := nib_form w d
  rw [h1, h3]
  clear h1 h3
  rcases bit_cases (negOf w d) with h | h <;> rw [h]
  · have e : BitVec.ofNat 32 k.val ||| Scalar.select 0#1 8#32 0#32 = BitVec.ofNat 32 k.val := by revert k; decide
    have e8 : hasBit (BitVec.ofNat 32 k.val) 8#32 = 0#1 := by revert k; decide
    rw [e]; unfold refDecode
    rw [e8, refMag_table]; rfl
  · have e : BitVec.ofNat 32 k.val ||| Scalar.select 1#1 8#32 0#32 = BitVec.ofNat 32 k.val ||| 8#32 := rfl
    have e8 : hasBit (BitVec.ofNat 32 k.val ||| 8#32) 8#32 = 1#1 := by revert k; decide
    have em : refMag (BitVec.ofNat 32 k.val ||| 8#32) = table k := by
      rw [← refMag_table]; unfold refMag
      rw [hasBit_sign k _ (.inl rfl), hasBit_sign k _ (.inr (.inl rfl)), hasBit_sign k _ (.inr (.inr rfl))]
    rw [e]; unfold refDecode
    rw [e8, em, k_zero]
    show -(table k) = ((0 : ℝ) : EReal) - table k
    rw [EReal.coe_zero, zero_sub]

/-- The scale of an element: its block's scale times the scale of the whole weight. -/
def dOf (W : WMat) (r l : ℕ) : EReal := sb W (r / 16) (l / 16) * st W

/-- The code at a row and a column. -/
def nib (W : WMat) (r l : ℕ) : BitVec 32 := nibOf (wn W r l) (dOf W r l)

/-- The dequantised weight at a row and a column, without the scale of the whole weight. -/
def deq (W : WMat) (r l : ℕ) : EReal := qOf (wn W r l) (dOf W r l) * sb W (r / 16) (l / 16)

/-- Two codes in one byte. -/
def pairByte (a b : BitVec 32) : BitVec 8 := (a ||| b <<< 4).setWidth 8

theorem pair_fin : ∀ a b : Fin 16, (pairByte (BitVec.ofNat 32 a.val) (BitVec.ofNat 32 b.val)).setWidth 32 &&& 15#32 = BitVec.ofNat 32 a.val
    ∧ IntOp.shrsi .host ((pairByte (BitVec.ofNat 32 a.val) (BitVec.ofNat 32 b.val)).setWidth 32) 4#32 = BitVec.ofNat 32 b.val := by
  decide +kernel

theorem ofNat_of_lt (a : BitVec 32) (ha : a.toNat < 16) : a = BitVec.ofNat 32 (⟨a.toNat, ha⟩ : Fin 16).val := by
  rw [BitVec.ofNat_toNat, BitVec.setWidth_eq]

/-- The lower code comes back from the byte. -/
theorem pair_lo (a b : BitVec 32) (ha : a.toNat < 16) (hb : b.toNat < 16) : (pairByte a b).setWidth 32 &&& 15#32 = a := by
  rw [ofNat_of_lt a ha, ofNat_of_lt b hb]; exact (pair_fin _ _).1

/-- The upper code comes back from the byte. -/
theorem pair_hi (a b : BitVec 32) (ha : a.toNat < 16) (hb : b.toNat < 16) : IntOp.shrsi .host ((pairByte a b).setWidth 32) 4#32 = b := by
  rw [ofNat_of_lt a ha, ofNat_of_lt b hb]; exact (pair_fin _ _).2

/-- Two codes shifted and or-ed as words and cut to a byte. -/
theorem pair_of (u : ArithUnit) (a b : BitVec 32) : (a ||| IntOp.shli u b 4#32).setWidth 8 = pairByte a b := by
  unfold pairByte IntOp.shli
  rw [if_pos (by decide)]; rfl

end Cert.Spec

end
-- ==== Proof.Value.Piece.lean ====
/- One piece of the quantised product, element by element: its codes, its dequantised weight, its product. -/
module

public import proofs.«01_k».proof.Proof.Ideal.Pieces
public import proofs.«01_k».proof.Proof.Quant.Code
public import Idealize.ShloMosaic.Lib.Pipeline.ValueKit
public import Idealize.ShloMosaic.Lib.KernelVsHost
public import Idealize.ShloMosaic.Lib.BitcastPair
public import Idealize.ShloMosaic.Lib.BitcastFour

@[expose] public section

set_option maxRecDepth 16384

noncomputable section

namespace Cert.KernelIdeal.Value

open Cert.KernelIdeal Cert.KernelIdeal.Gen Cert.KernelIdeal.Run Cert.Spec
open Idealize.ShloMosaic Idealize.ShloMosaic.TcCoe

section
variable (v0 : EReal) (w : FVec Ideal S256x128 .bf16) (r : FVec Ideal S16x128 .f32)

/-- The block's scale from its maximum. -/
def sbOf (v0 b : EReal) : EReal := min (Ideal.div b (v0 * k32 0x40C00000#32)) (k32 0x43E00000#32)

theorem pay7_at (y : S16x128.Idx) : k1_pay7 (F := Ideal) v0 r y = sbOf v0 (r y) := by
  unfold k1_pay7
  rw [shapeCast_self]
  rfl

/-- Each row of sixteen becomes eight rows. -/
theorem spread (x : FVec Ideal S16x128 .f32) (y : S128x128.Idx) :
    shapeCast S128x128 (broadcastTo S16x8x128 (shapeCast S16x1x128 (shapeCast S16x1x128 x shapeCasts_S16x128_S16x1x128) shapeCasts_S16x1x128_S16x1x128)
      broadcasts_S16x1x128_S16x8x128) shapeCasts_S16x8x128_S128x128 y = x (ix2 (Fin.ofNat 16 ((y 0).val / 8)) (y 1)) := by
  have b0 : (y 0).val < 128 := (y 0).isLt
  have b1 : (y 1).val < 128 := (y 1).isLt
  rw [shapeCast_self]
  have e1 := shapeCast_apply (broadcastTo S16x8x128 (shapeCast S16x1x128 x shapeCasts_S16x128_S16x1x128) broadcasts_S16x1x128_S16x8x128)
    shapeCasts_S16x8x128_S128x128 y (ix3 (Fin.ofNat 16 ((y 0).val / 8)) (Fin.ofNat 8 (y 0).val) (y 1)) (by
      rewrite [Shape.rowMajor_val_three, Shape.rowMajor_val_two]
      show ((y 0).val / 8 % 16 * 8 + (y 0).val % 8) * 128 + (y 1).val = (y 0).val * 128 + (y 1).val
      omega)
  refine e1.trans ?_
  have e2 := broadcastTo_apply (shapeCast S16x1x128 x shapeCasts_S16x128_S16x1x128) broadcasts_S16x1x128_S16x8x128
    (ix3 (Fin.ofNat 16 ((y 0).val / 8)) (Fin.ofNat 8 (y 0).val) (y 1)) (ix3 (Fin.ofNat 16 ((y 0).val / 8)) 0 (y 1))
    (fun a => match a with | ⟨0, _⟩ => rfl | ⟨1, _⟩ => rfl | ⟨2, _⟩ => rfl)
  refine e2.trans ?_
  exact shapeCast_apply x shapeCasts_S16x128_S16x1x128 (ix3 (Fin.ofNat 16 ((y 0).val / 8)) 0 (y 1)) (ix2 (Fin.ofNat 16 ((y 0).val / 8)) (y 1)) (by
      rewrite [Shape.rowMajor_val_three, Shape.rowMajor_val_two]
      show (y 0).val / 8 % 16 * 128 + (y 1).val = ((y 0).val / 8 % 16 * 1 + 0) * 128 + (y 1).val
      omega)

/-- The block scale a row of pairs uses. -/
def sbAt (y : S128x128.Idx) : EReal := sbOf v0 (r (ix2 (Fin.ofNat 16 ((y 0).val / 8)) (y 1)))

theorem pay9_at (y : S128x128.Idx) : k1_pay9 (F := Ideal) v0 r y = sbAt v0 r y := by
  unfold k1_pay9
  exact (spread _ y).trans (pay7_at v0 r _)

theorem pay8_at (y : S128x128.Idx) : k1_pay8 (F := Ideal) v0 r y = sbAt v0 r y * v0 := by
  unfold k1_pay8
  refine (spread _ y).trans ?_
  exact congrArg (fun z : EReal => z * v0) (pay7_at v0 r _)

theorem rows0 (y : S128x128.Idx) : rowsOfParity 0 S128x128 w bitcasts_S256x128_w16_S128x128_w32 y = w (ix2 (Fin.ofNat 256 (2 * (y 0).val)) (y 1)) := by
  have b0 : (y 0).val < 128 := (y 0).isLt
  refine congrArg w (funext fun a => match a with | ⟨0, _⟩ => Fin.ext ?_ | ⟨1, _⟩ => rfl)
  show 2 * (y 0).val + 0 = 2 * (y 0).val % 256
  omega

theorem rows1 (y : S128x128.Idx) : rowsOfParity 1 S128x128 w bitcasts_S256x128_w16_S128x128_w32 y = w (ix2 (Fin.ofNat 256 (2 * (y 0).val + 1)) (y 1)) := by
  have b0 : (y 0).val < 128 := (y 0).isLt
  refine congrArg w (funext fun a => match a with | ⟨0, _⟩ => Fin.ext ?_ | ⟨1, _⟩ => rfl)
  show 2 * (y 0).val + 1 = (2 * (y 0).val + 1) % 256
  omega

theorem pay12_at (y : S128x128.Idx) : k1_pay12 (F := Ideal) v0 w r y = vOf (w (ix2 (Fin.ofNat 256 (2 * (y 0).val)) (y 1))) (sbAt v0 r y * v0) := by
  refine Eq.trans ?_ (congrArg₂ vOf (rows0 w y) (pay8_at v0 r y))
  unfold k1_pay12 k1_pay11 k1_pay10
  generalize k1_pay8 (F := Ideal) v0 r = d
  rfl

theorem pay21_at (y : S128x128.Idx) : k1_pay21 (F := Ideal) (k1_pay6 (F := Ideal) w) (k1_pay10 (F := Ideal) v0 r) (k1_pay11 (F := Ideal) v0 r) y
    = vOf (w (ix2 (Fin.ofNat 256 (2 * (y 0).val + 1)) (y 1))) (sbAt v0 r y * v0) := by
  refine Eq.trans ?_ (congrArg₂ vOf (rows1 w y) (pay8_at v0 r y))
  unfold k1_pay21 k1_pay11 k1_pay10 k1_pay6
  generalize k1_pay8 (F := Ideal) v0 r = d
  rfl

theorem nibLo_at (y : S128x128.Idx) : nibLo (F := Ideal) v0 w r y = nibOf (w (ix2 (Fin.ofNat 256 (2 * (y 0).val)) (y 1))) (sbAt v0 r y * v0) := by
  have h := pay12_at v0 w r y
  unfold nibLo k1_pay14 k1_pay13
  generalize k1_pay12 (F := Ideal) v0 w r = v at h ⊢
  unfold nibOf negOf
  rw [← h]
  rfl

theorem nibHi_at (y : S128x128.Idx) : nibHi (F := Ideal) v0 w r y = nibOf (w (ix2 (Fin.ofNat 256 (2 * (y 0).val + 1)) (y 1))) (sbAt v0 r y * v0) := by
  have h := pay21_at v0 w r y
  unfold nibHi k1_pay23 k1_pay22
  generalize k1_pay21 (F := Ideal) (k1_pay6 (F := Ideal) w) (k1_pay10 (F := Ideal) v0 r) (k1_pay11 (F := Ideal) v0 r) = v at h ⊢
  unfold nibOf negOf
  rw [← h]
  rfl

/-- The even rows dequantised. -/
theorem deqLo_at (y : S128x128.Idx) : k1_pay20 (F := Ideal) (k1_pay9 (F := Ideal) v0 r) (k1_pay12 (F := Ideal) v0 w r) (k1_pay13 (F := Ideal) v0 w r) (k1_pay14 (F := Ideal) v0 w r) (k1_pay15 (F := Ideal)) y
    = qOf (w (ix2 (Fin.ofNat 256 (2 * (y 0).val)) (y 1))) (sbAt v0 r y * v0) * sbAt v0 r y := by
  have h := pay12_at v0 w r y
  have h9 := pay9_at v0 r y
  unfold k1_pay14 k1_pay13
  generalize k1_pay12 (F := Ideal) v0 w r = v at h ⊢
  generalize k1_pay9 (F := Ideal) v0 r = s at h9 ⊢
  unfold qOf negOf
  rw [← h]
  exact congrArg (fun z : EReal => _ * z) h9

theorem inter (lo hi : S128x128.Idx → EReal) (R : Fin 256) (l : Fin 128) :
    interleaveRows S256x128 lo hi bitcasts_S256x128_w16_S128x128_w32 (ix2 R l)
      = if R.val % 2 = 0 then lo (ix2 (Fin.ofNat 128 (R.val / 2)) l) else hi (ix2 (Fin.ofNat 128 (R.val / 2)) l) := by
  have hR := R.isLt
  unfold interleaveRows
  refine if_congr Iff.rfl (congrArg lo ?_) (congrArg hi ?_) <;>
  exact funext fun a => match a with
    | ⟨0, _⟩ => Fin.ext (by show R.val / 2 = R.val / 2 % 128; omega)
    | ⟨1, _⟩ => rfl

theorem deqPiece_at (y : S1x256x128.Idx) : deqPiece (F := Ideal) v0 w r y
    = qOf (w (ix2 (y 1) (y 2))) (sbAt v0 r (ix2 (Fin.ofNat 128 ((y 1).val / 2)) (y 2)) * v0) * sbAt v0 r (ix2 (Fin.ofNat 128 ((y 1).val / 2)) (y 2)) := by
  have b1 : (y 1).val < 256 := (y 1).isLt
  have b0 : (y 0).val < 1 := (y 0).isLt
  have hlo := deqLo_at v0 w r (ix2 (Fin.ofNat 128 ((y 1).val / 2)) (y 2))
  have h := pay21_at v0 w r (ix2 (Fin.ofNat 128 ((y 1).val / 2)) (y 2))
  have h9 := pay9_at v0 r (ix2 (Fin.ofNat 128 ((y 1).val / 2)) (y 2))
  unfold deqPiece k1_pay28 k1_pay23 k1_pay22
  generalize k1_pay20 (F := Ideal) (k1_pay9 (F := Ideal) v0 r) (k1_pay12 (F := Ideal) v0 w r) (k1_pay13 (F := Ideal) v0 w r) (k1_pay14 (F := Ideal) v0 w r) (k1_pay15 (F := Ideal)) = lo at hlo ⊢
  generalize k1_pay21 (F := Ideal) (k1_pay6 (F := Ideal) w) (k1_pay10 (F := Ideal) v0 r) (k1_pay11 (F := Ideal) v0 r) = v at h ⊢
  generalize k1_pay9 (F := Ideal) v0 r = s at h9 ⊢
  refine (shapeCast_apply _ shapeCasts_S256x128_S1x256x128 y (ix2 (y 1) (y 2)) (by
    rewrite [Shape.rowMajor_val_three, Shape.rowMajor_val_two]
    show (y 1).val * 128 + (y 2).val = ((y 0).val * 256 + (y 1).val) * 128 + (y 2).val
    omega)).trans ?_
  refine (inter _ _ (y 1) (y 2)).trans ?_
  split
  · rename_i hp
    refine hlo.trans ?_
    have e : (Fin.ofNat 256 (2 * (Fin.ofNat 128 ((y 1).val / 2)).val) : Fin 256) = y 1 := Fin.ext (by
      show 2 * ((y 1).val / 2 % 128) % 256 = (y 1).val; omega)
    exact congrArg (fun a : Fin 256 => qOf (w (ix2 a (y 2))) (sbAt v0 r (ix2 (Fin.ofNat 128 ((y 1).val / 2)) (y 2)) * v0) * sbAt v0 r (ix2 (Fin.ofNat 128 ((y 1).val / 2)) (y 2))) e
  · rename_i hp
    have e : (Fin.ofNat 256 (2 * (Fin.ofNat 128 ((y 1).val / 2)).val + 1) : Fin 256) = y 1 := Fin.ext (by
      show (2 * ((y 1).val / 2 % 128) + 1) % 256 = (y 1).val; omega)
    refine Eq.trans ?_ (congrArg (fun a : Fin 256 => qOf (w (ix2 a (y 2))) (sbAt v0 r (ix2 (Fin.ofNat 128 ((y 1).val / 2)) (y 2)) * v0) * sbAt v0 r (ix2 (Fin.ofNat 128 ((y 1).val / 2)) (y 2))) e)
    unfold qOf negOf
    refine Eq.trans ?_ (congrArg (fun z : EReal => Scalar.select (Ideal.cmp .olt z (k32 0x00000000#32)) (k32 0x00000000#32 - magVal (ab z)) (magVal (ab z)) * sbAt v0 r (ix2 (Fin.ofNat 128 ((y 1).val / 2)) (y 2))) h)
    exact congrArg (fun z : EReal => _ * z) h9

theorem cnPiece_at (y : S128x128.Idx) : cnPiece (F := Ideal) v0 w r y
    = pairByte (nibLo (F := Ideal) v0 w r (ix2 (y 1) (y 0))) (nibHi (F := Ideal) v0 w r (ix2 (y 1) (y 0))) := by
  unfold cnPiece k1_pay29
  generalize nibLo (F := Ideal) v0 w r = lo
  generalize nibHi (F := Ideal) v0 w r = hi
  have ht : ∀ z : S128x128.Idx → BitVec 32, transpose S128x128 [1, 0] z transposes_S128x128_p1_0_S128x128 y = z (ix2 (y 1) (y 0)) :=
    fun z => congrArg z (funext fun a => match a with | ⟨0, _⟩ => rfl | ⟨1, _⟩ => rfl)
  refine (congrArg (fun z : BitVec 32 => z.setWidth 8) (ht _)).trans ?_
  exact pair_of _ _ _

end

section
variable (W : WMat) (v0 : EReal) (w : FVec Ideal S256x128 .bf16) (r : FVec Ideal S16x128 .f32) (B C : ℕ)
  (hv : v0 = st W) (hw : ∀ y, w y = wn W (16 * B + (y 0).val) (C + (y 1).val))
  (hr : ∀ y, r y = bmax W (B + (y 0).val) ((C + (y 1).val) / 16))

include hv hr in
theorem sbAt_W (y : S128x128.Idx) : sbAt v0 r y = sb W (B + (y 0).val / 8) ((C + (y 1).val) / 16) := by
  have b0 : (y 0).val < 128 := (y 0).isLt
  unfold sbAt
  rw [hr, hv]
  show sb W (B + (y 0).val / 8 % 16) ((C + (y 1).val) / 16) = _
  rw [Nat.mod_eq_of_lt (by omega)]

include hv hr in
theorem d_W (y : S128x128.Idx) (p : ℕ) (hp : p < 2) : sbAt v0 r y * v0 = dOf W (16 * B + (2 * (y 0).val + p)) (C + (y 1).val) := by
  rw [sbAt_W W v0 r B C hv hr, hv]
  unfold dOf
  rw [show (16 * B + (2 * (y 0).val + p)) / 16 = B + (y 0).val / 8 by omega]

include hv hw hr in
theorem nibLo_W (y : S128x128.Idx) : nibLo (F := Ideal) v0 w r y = nib W (16 * B + 2 * (y 0).val) (C + (y 1).val) := by
  have b0 : (y 0).val < 128 := (y 0).isLt
  refine (nibLo_at v0 w r y).trans ?_
  rw [d_W W v0 r B C hv hr y 0 (by omega), hw]
  show nibOf (wn W (16 * B + 2 * (y 0).val % 256) (C + (y 1).val)) _ = _
  rw [Nat.mod_eq_of_lt (by omega)]
  rfl

include hv hw hr in
theorem nibHi_W (y : S128x128.Idx) : nibHi (F := Ideal) v0 w r y = nib W (16 * B + (2 * (y 0).val + 1)) (C + (y 1).val) := by
  have b0 : (y 0).val < 128 := (y 0).isLt
  refine (nibHi_at v0 w r y).trans ?_
  rw [d_W W v0 r B C hv hr y 1 (by omega), hw]
  show nibOf (wn W (16 * B + (2 * (y 0).val + 1) % 256) (C + (y 1).val)) _ = _
  rw [Nat.mod_eq_of_lt (by omega)]
  rfl

include hv hw hr in
theorem cnPiece_W (y : S128x128.Idx) : cnPiece (F := Ideal) v0 w r y
    = pairByte (nib W (16 * B + 2 * (y 1).val) (C + (y 0).val)) (nib W (16 * B + (2 * (y 1).val + 1)) (C + (y 0).val)) := by
  refine (cnPiece_at v0 w r y).trans ?_
  exact congrArg₂ pairByte (nibLo_W W v0 w r B C hv hw hr _) (nibHi_W W v0 w r B C hv hw hr _)

include hv hw hr in
theorem deqPiece_W (y : S1x256x128.Idx) : deqPiece (F := Ideal) v0 w r y = deq W (16 * B + (y 1).val) (C + (y 2).val) := by
  have b1 : (y 1).val < 256 := (y 1).isLt
  refine (deqPiece_at v0 w r y).trans ?_
  have hs : sbAt v0 r (ix2 (Fin.ofNat 128 ((y 1).val / 2)) (y 2)) = sb W ((16 * B + (y 1).val) / 16) ((C + (y 2).val) / 16) := by
    refine (sbAt_W W v0 r B C hv hr _).trans ?_
    show sb W (B + ((y 1).val / 2 % 128) / 8) ((C + (y 2).val) / 16) = _
    rw [show B + ((y 1).val / 2 % 128) / 8 = (16 * B + (y 1).val) / 16 by omega]
  rw [hs, hw, hv]
  rfl

end

end Cert.KernelIdeal.Value

end
-- ==== Proof.Value.Shuffle.lean ====
/- The bytes of paired codes: two neighbouring columns of codes in one byte, pieces side by side. -/
module

public import proofs.«01_k».proof.Proof.Ideal.Pieces
public import proofs.«01_k».proof.Proof.Quant.Code
public import Idealize.ShloMosaic.Lib.Pipeline.ValueKit
public import Idealize.ShloMosaic.Lib.KernelVsHost
public import Idealize.ShloMosaic.Lib.BitcastPair
public import Idealize.ShloMosaic.Lib.BitcastFour

@[expose] public section

set_option maxRecDepth 16384

noncomputable section

namespace Cert.KernelIdeal.Value

open Cert.KernelIdeal Cert.KernelIdeal.Gen Cert.KernelIdeal.Run Cert.Spec
open Idealize.ShloMosaic Idealize.ShloMosaic.TcCoe

theorem bit_high (b : BitVec 32) (h : b.toNat < 16) (q : ℕ) (hq : 4 ≤ q) : b.getLsbD q = false := by
  show b.toNat.testBit q = false
  exact Nat.testBit_lt_two_pow (lt_of_lt_of_le h (le_trans (by norm_num : 16 ≤ 2 ^ 4) (Nat.pow_le_pow_right (by norm_num) hq)))

/-- The bits of a byte of two codes. -/
theorem pairByte_bit (a b : BitVec 32) (ha : a.toNat < 16) (q : ℕ) (hq : q < 8) :
    (pairByte a b).getLsbD q = (a.getLsbD q || (decide (4 ≤ q) && b.getLsbD (q - 4))) := by
  unfold pairByte
  rw [BitVec.getLsbD_setWidth, BitVec.getLsbD_or, BitVec.getLsbD_shiftLeft]
  have h1 : decide (q < 8) = true := decide_eq_true hq
  have h2 : decide (q < 32) = true := decide_eq_true (by omega)
  have h3 : (!decide (q < 4)) = decide (4 ≤ q) := by
    by_cases h : q < 4
    · rw [decide_eq_true h, decide_eq_false (by omega)]; rfl
    · rw [decide_eq_false h, decide_eq_true (by omega)]; rfl
  rw [h1, h2, h3, Bool.true_and, Bool.true_and]

theorem shl_bit (x : BitVec 32) (q n : ℕ) (hq : q < 32) : (x <<< n).getLsbD q = (decide (n ≤ q) && x.getLsbD (q - n)) := by
  rw [BitVec.getLsbD_shiftLeft]
  have h2 : decide (q < 32) = true := decide_eq_true hq
  have h3 : (!decide (q < n)) = decide (n ≤ q) := by
    by_cases h : q < n
    · rw [decide_eq_true h, decide_eq_false (by omega)]; rfl
    · rw [decide_eq_false h, decide_eq_true (by omega)]; rfl
  rw [h2, h3, Bool.true_and]

section
variable (P : ℕ → ℕ → BitVec 32) (hP : ∀ R l, (P R l).toNat < 16) (lo hi : IVec S128x128 32)
  (hlo : ∀ y, lo y = P (2 * (y 0).val) (y 1).val) (hhi : ∀ y, hi y = P (2 * (y 0).val + 1) (y 1).val)

/-- Two rows of codes in one word: the halves are the rows. -/
def halves (lo hi : IVec S128x128 32) : IVec S256x128 16 :=
  bitcast S256x128 16 (ori lo (shli hi (broadcast S128x128 16#32))) bitcasts_S128x128_w32_S256x128_w16

/-- Four rows of codes in one word, a byte each. -/
def words (lo hi : IVec S128x128 32) : IVec S64x128 32 :=
  bitcast S64x128 32 (trunci 8 (halves lo hi) natLt_8_16) bitcasts_S256x128_w8_S64x128_w32

include hP hlo hhi in
theorem halves_bit (R : Fin 256) (l : Fin 128) (q : ℕ) (hq : q < 8) : (halves lo hi (ix2 R l)).getLsbD q = (P R.val l.val).getLsbD q := by
  have hR := R.isLt
  have key : (halves lo hi (ix2 R l)).getLsbD q = ((ori lo (shli hi (broadcast S128x128 16#32))) (ix2 (Fin.ofNat 128 (R.val / 2)) l)).getLsbD ((R.val * 16 + q) % 32) := by
    unfold halves
    generalize ori lo (shli hi (broadcast S128x128 16#32)) = z
    rw [bitcast_getLsbD z bitcasts_S128x128_w32_S256x128_w16 (ix2 R l) q (by omega) (by decide)]
    have e : bitcasts_S128x128_w32_S256x128_w16.srcIdx (ix2 R l) ((S256x128.row (ix2 R l) * 16 + q) / 32) (fun a ha =>
          (Nat.div_lt_iff_lt_mul (by decide)).2 (bitcasts_S128x128_w32_S256x128_w16.pos_lt (ix2 R l) q (by omega) a ha))
        = ix2 (Fin.ofNat 128 (R.val / 2)) l := funext fun a => match a with
      | ⟨0, _⟩ => Fin.ext (by show (R.val * 16 + q) / 32 = R.val / 2 % 128; omega)
      | ⟨1, _⟩ => rfl
    exact congrArg (fun i => (z i).getLsbD ((R.val * 16 + q) % 32)) e
  rw [key]
  have e : (ori lo (shli hi (broadcast S128x128 16#32))) (ix2 (Fin.ofNat 128 (R.val / 2)) l)
      = P (2 * (R.val / 2)) l.val ||| P (2 * (R.val / 2) + 1) l.val <<< 16 := by
    have hm : R.val / 2 % 128 = R.val / 2 := Nat.mod_eq_of_lt (by omega)
    have e1 := hlo (ix2 (Fin.ofNat 128 (R.val / 2)) l)
    have e2 := hhi (ix2 (Fin.ofNat 128 (R.val / 2)) l)
    change lo _ = P (2 * (R.val / 2 % 128)) l.val at e1
    change hi _ = P (2 * (R.val / 2 % 128) + 1) l.val at e2
    rw [hm] at e1 e2
    show lo (ix2 (Fin.ofNat 128 (R.val / 2)) l) ||| IntOp.shli .vector (hi (ix2 (Fin.ofNat 128 (R.val / 2)) l)) 16#32 = _
    rw [e1, e2]
    rfl
  rw [e, BitVec.getLsbD_or, shl_bit _ _ _ (by omega)]
  rcases (by omega : R.val % 2 = 0 ∨ R.val % 2 = 1) with h | h
  · rw [show (R.val * 16 + q) % 32 = q by omega, show 2 * (R.val / 2) = R.val by omega, decide_eq_false (by omega : ¬ 16 ≤ q), Bool.false_and, Bool.or_false]
  · rw [show (R.val * 16 + q) % 32 = 16 + q by omega, bit_high _ (hP _ _) _ (by omega), Bool.false_or, decide_eq_true (by omega : 16 ≤ 16 + q), Bool.true_and,
      show 16 + q - 16 = q by omega, show 2 * (R.val / 2) + 1 = R.val by omega]

include hP hlo hhi in
theorem words_bit (a : Fin 64) (l : Fin 128) (q : ℕ) (hq : q < 32) : (words lo hi (ix2 a l)).getLsbD q = (P (4 * a.val + q / 8) l.val).getLsbD (q % 8) := by
  have ha := a.isLt
  unfold words
  have h := bitcast_8_32_getLsbD_ix2 (trunci 8 (halves lo hi) natLt_8_16) bitcasts_S256x128_w8_S64x128_w32 a l q hq ⟨4 * a.val + q / 8, by omega⟩ rfl
  refine h.trans ?_
  show ((halves lo hi (ix2 ⟨4 * a.val + q / 8, by omega⟩ l)).setWidth 8).getLsbD (q % 8) = _
  rw [BitVec.getLsbD_setWidth, decide_eq_true (by omega : q % 8 < 8), Bool.true_and]
  exact halves_bit P hP lo hi hlo hhi _ _ _ (by omega)

/-- Neighbouring columns joined. -/
def joined (lo hi : IVec S128x128 32) : IVec S64x128 32 :=
  ori (words lo hi) (shli (dynamicRotate 1 127#32 none (words lo hi) rotates_S64x128_d1) (broadcast S64x128 4#32))

include hP hlo hhi in
theorem joined_bit (a : Fin 64) (l : ℕ) (hl : l + 1 < 128) (q : ℕ) (hq : q < 32) : (joined lo hi (ix2 a ⟨l, by omega⟩)).getLsbD q
    = (pairByte (P (4 * a.val + q / 8) l) (P (4 * a.val + q / 8) (l + 1))).getLsbD (q % 8) := by
  have hrot : dynamicRotate 1 127#32 none (words lo hi) rotates_S64x128_d1 (ix2 a ⟨l, by omega⟩) = words lo hi (ix2 a ⟨l + 1, hl⟩) := by
    generalize words lo hi = z
    exact dynamicRotate_apply (1 : Fin 2) 127#32 z rotates_S64x128_d1 (ix2 a ⟨l, by omega⟩) (ix2 a ⟨l + 1, hl⟩) (fun b => match b with
      | ⟨0, _⟩ => rfl
      | ⟨1, _⟩ => by show l + 1 = (l + 128 - 127) % 128; omega)
  have e : joined lo hi (ix2 a ⟨l, by omega⟩) = words lo hi (ix2 a ⟨l, by omega⟩) ||| words lo hi (ix2 a ⟨l + 1, hl⟩) <<< 4 := by
    rw [← hrot]
    rfl
  rw [e, BitVec.getLsbD_or, shl_bit _ _ _ hq, words_bit P hP lo hi hlo hhi _ _ _ hq, words_bit P hP lo hi hlo hhi _ _ _ (by omega),
    pairByte_bit _ _ (hP _ _) _ (by omega)]
  congr 1
  by_cases h4 : 4 ≤ q % 8
  · rw [decide_eq_true h4, decide_eq_true (by omega : 4 ≤ q), show (q - 4) / 8 = q / 8 by omega, show (q - 4) % 8 = q % 8 - 4 by omega]
  · rw [decide_eq_false h4, Bool.false_and]
    by_cases h5 : 4 ≤ q
    · rw [bit_high _ (hP _ _) _ (by omega : 4 ≤ (q - 4) % 8), Bool.and_false]
    · rw [decide_eq_false h5, Bool.false_and]

/-- The column a lane of the gather reads, as the kernel computes it. -/
def laneOf (x : BitVec 32) : BitVec 32 :=
  Scalar.select (IntOp.cmpi .slt (IntOp.andi (IntOp.muli 2#32 x) 127#32) 0#32) (IntOp.addi (IntOp.andi (IntOp.muli 2#32 x) 127#32) 128#32)
    (IntOp.andi (IntOp.muli 2#32 x) 127#32)

theorem laneOf_val : ∀ l : Fin 128, (laneOf (BitVec.ofNat 32 l.val)).toNat % 128 = 2 * l.val % 128 := by decide +kernel

theorem packed_at (a : Fin 64) (l : Fin 128) : k1_pay30 k1_pay5 lo hi (ix2 a l) = joined lo hi (ix2 a ⟨2 * l.val % 128, Nat.mod_lt _ (by decide)⟩) := by
  have hio : iota .tc S64x128 32 [1] iota_S64x128_d1_w32 (ix2 a l) = BitVec.ofNat 32 l.val := iota_single_apply .tc S64x128 32 1 iota_S64x128_d1_w32 (ix2 a l)
  unfold k1_pay30 k1_pay5
  generalize iota .tc S64x128 32 [1] iota_S64x128_d1_w32 = io at hio ⊢
  have e : ∀ (z x : IVec S64x128 32), dynamicGather 1 z (shapeCast S64x128 (shapeCast S64x128x1 x shapeCasts_S64x128_S64x128x1) shapeCasts_S64x128x1_S64x128) (ix2 a l)
      = z (ix2 a ⟨(x (ix2 a l)).toNat % 128, Nat.mod_lt _ (by decide)⟩) := fun z x => by
    have hx : shapeCast S64x128 (shapeCast S64x128x1 x shapeCasts_S64x128_S64x128x1) shapeCasts_S64x128x1_S64x128 (ix2 a l) = x (ix2 a l) := by
      refine (shapeCast_apply _ shapeCasts_S64x128x1_S64x128 (ix2 a l) (ix3 a l 0) (by
        rewrite [Shape.rowMajor_val_three, Shape.rowMajor_val_two]
        show (a.val * 128 + l.val) * 1 + 0 = a.val * 128 + l.val
        omega)).trans ?_
      exact shapeCast_apply x shapeCasts_S64x128_S64x128x1 (ix3 a l 0) (ix2 a l) (by
        rewrite [Shape.rowMajor_val_three, Shape.rowMajor_val_two]
        show a.val * 128 + l.val = (a.val * 128 + l.val) * 1 + 0
        omega)
    generalize shapeCast S64x128 (shapeCast S64x128x1 x shapeCasts_S64x128_S64x128x1) shapeCasts_S64x128x1_S64x128 = g at hx ⊢
    rw [dynamicGather_apply]
    refine congrArg z (funext fun b => match b with
      | ⟨0, _⟩ => rfl
      | ⟨1, _⟩ => Fin.ext (by show (g (ix2 a l)).toNat % 128 = (x (ix2 a l)).toNat % 128; rw [hx]))
  refine (e _ _).trans ?_
  refine congrArg (joined lo hi) (funext fun b => match b with
      | ⟨0, _⟩ => rfl
      | ⟨1, _⟩ => Fin.ext ?_)
  refine Eq.trans ?_ (laneOf_val l)
  rw [← hio]
  rfl

include hP hlo hhi in
theorem packed_bit (a : Fin 64) (l : Fin 128) (q : ℕ) (hq : q < 32) : (k1_pay30 k1_pay5 lo hi (ix2 a l)).getLsbD q
    = (pairByte (P (4 * a.val + q / 8) (2 * l.val % 128)) (P (4 * a.val + q / 8) (2 * l.val % 128 + 1))).getLsbD (q % 8) := by
  rw [packed_at]
  exact joined_bit P hP lo hi hlo hhi a (2 * l.val % 128) (by omega) q hq

end

theorem lane_lt : ∀ l : Fin 128, IntOp.cmpi .slt (BitVec.ofNat 32 l.val) 64#32 = 1 ↔ l.val < 64 := by decide +kernel

/-- Two packed pieces side by side, byte by byte. -/
theorem ckPiece_at (P P' : ℕ → ℕ → BitVec 32) (hP : ∀ R l, (P R l).toNat < 16) (hP' : ∀ R l, (P' R l).toNat < 16) (v0 : EReal)
    (w : FVec Ideal S256x128 .bf16) (r : FVec Ideal S16x128 .f32) (w' : FVec Ideal S256x128 .bf16) (r' : FVec Ideal S16x128 .f32)
    (hlo : ∀ y, nibLo (F := Ideal) v0 w r y = P (2 * (y 0).val) (y 1).val) (hhi : ∀ y, nibHi (F := Ideal) v0 w r y = P (2 * (y 0).val + 1) (y 1).val)
    (hlo' : ∀ y, nibLo (F := Ideal) v0 w' r' y = P' (2 * (y 0).val) (y 1).val) (hhi' : ∀ y, nibHi (F := Ideal) v0 w' r' y = P' (2 * (y 0).val + 1) (y 1).val)
    (R : Fin 256) (l : Fin 128) : ckPiece (F := Ideal) v0 w r w' r' (ix2 R l)
      = if l.val < 64 then pairByte (P R.val (2 * l.val % 128)) (P R.val (2 * l.val % 128 + 1))
        else pairByte (P' R.val (2 * l.val % 128)) (P' R.val (2 * l.val % 128 + 1)) := by
  have hR := R.isLt
  apply BitVec.eq_of_getLsbD_eq
  intro q hq
  unfold ckPiece packed k1_pay60
  generalize nibLo (F := Ideal) v0 w r = lo at hlo ⊢
  generalize nibHi (F := Ideal) v0 w r = hi at hhi ⊢
  generalize nibLo (F := Ideal) v0 w' r' = lo' at hlo' ⊢
  generalize nibHi (F := Ideal) v0 w' r' = hi' at hhi' ⊢
  have hb := fun a l q hq => packed_bit P hP lo hi hlo hhi a l q hq
  have hb' := fun a l q hq => packed_bit P' hP' lo' hi' hlo' hhi' a l q hq
  generalize k1_pay30 k1_pay5 lo hi = A at hb ⊢
  generalize k1_pay30 k1_pay5 lo' hi' = A' at hb' ⊢
  have hio : ∀ a : Fin 64, iota .tc S64x128 32 [1] iota_S64x128_d1_w32 (ix2 a l) = BitVec.ofNat 32 l.val := fun a => iota_single_apply .tc S64x128 32 1 iota_S64x128_d1_w32 (ix2 a l)
  generalize iota .tc S64x128 32 [1] iota_S64x128_d1_w32 = io at hio ⊢
  have hs : ∀ a : Fin 64, select (cmpi .slt io (broadcast S64x128 64#32)) A A' (ix2 a l) = if l.val < 64 then A (ix2 a l) else A' (ix2 a l) := fun a => by
    show Scalar.select (IntOp.cmpi .slt (io (ix2 a l)) 64#32) (A (ix2 a l)) (A' (ix2 a l)) = _
    rw [hio]
    unfold Scalar.select
    exact if_congr (lane_lt l) rfl rfl
  generalize select (cmpi .slt io (broadcast S64x128 64#32)) A A' = z at hs ⊢
  rw [bitcast_getLsbD z bitcasts_S64x128_w32_S256x128_w8 (ix2 R l) q hq (by decide)]
  have e : bitcasts_S64x128_w32_S256x128_w8.srcIdx (ix2 R l) ((S256x128.row (ix2 R l) * 8 + q) / 32) (fun a ha =>
          (Nat.div_lt_iff_lt_mul (by decide)).2 (bitcasts_S64x128_w32_S256x128_w8.pos_lt (ix2 R l) q hq a ha))
        = ix2 (Fin.ofNat 64 (R.val / 4)) l := funext fun a => match a with
      | ⟨0, _⟩ => Fin.ext (by show (R.val * 8 + q) / 32 = R.val / 4 % 64; omega)
      | ⟨1, _⟩ => rfl
  refine (congrArg (fun i => (z i).getLsbD ((R.val * 8 + q) % 32)) e).trans ?_
  show (z (ix2 (Fin.ofNat 64 (R.val / 4)) l)).getLsbD ((R.val * 8 + q) % 32) = _
  rw [hs]
  have e4 : 4 * (Fin.ofNat 64 (R.val / 4) : Fin 64).val + (R.val * 8 + q) % 32 / 8 = R.val := by
    show 4 * (R.val / 4 % 64) + (R.val * 8 + q) % 32 / 8 = R.val
    omega
  have e8 : (R.val * 8 + q) % 32 % 8 = q := by omega
  split
  · rw [hb _ _ _ (Nat.mod_lt _ (by decide)), e4, e8]
  · rw [hb' _ _ _ (Nat.mod_lt _ (by decide)), e4, e8]

end Cert.KernelIdeal.Value

end
-- ==== Proof.Value.Blocks.lean ====
/- The blocks the second pass writes, element by element. -/
module

public import proofs.«01_k».proof.Proof.Value.Piece
public import proofs.«01_k».proof.Proof.Value.Shuffle

@[expose] public section

set_option maxRecDepth 16384

noncomputable section

namespace Cert.KernelIdeal.Value

open Cert.KernelIdeal Cert.KernelIdeal.Gen Cert.KernelIdeal.Run Cert.Spec
open Idealize.ShloMosaic Idealize.ShloMosaic.TcCoe

section
variable (W : WMat) (v0 : EReal) (x2 : FVec Ideal S1024x256 .bf16) (x3 : FVec Ideal S64x256 .f32) (i j : ℕ)
  (hv : v0 = st W) (h2 : ∀ y, x2 y = wn W (1024 * i + (y 0).val) (256 * j + (y 1).val))
  (h3 : ∀ y, x3 y = bmax W (64 * i + (y 0).val) ((256 * j + (y 1).val) / 16))

include h2 in
theorem wPiece_W (a : Fin 4) (b : Fin 2) (y : S256x128.Idx) :
    wPiece (F := Ideal) x2 a b y = wn W (16 * (64 * i + 16 * a.val) + (y 0).val) (256 * j + 128 * b.val + (y 1).val) := by
  have ha := a.isLt
  have hb := b.isLt
  have b0 : (y 0).val < 256 := (y 0).isLt
  have b1 : (y 1).val < 128 := (y 1).isLt
  have e : wPiece (F := Ideal) x2 a b y = x2 (ix2 ⟨256 * a.val + (y 0).val, by omega⟩ ⟨128 * b.val + (y 1).val, by omega⟩) := by
    refine congrArg x2 (funext fun k => match k with
      | ⟨0, _⟩ => Fin.ext (by show 256 * a.val + 1 * (y 0).val = 256 * a.val + (y 0).val; omega)
      | ⟨1, _⟩ => Fin.ext (by show 128 * b.val + 1 * (y 1).val = 128 * b.val + (y 1).val; omega))
  rw [e, h2]
  show wn W (1024 * i + (256 * a.val + (y 0).val)) (256 * j + (128 * b.val + (y 1).val)) = _
  rw [show 1024 * i + (256 * a.val + (y 0).val) = 16 * (64 * i + 16 * a.val) + (y 0).val by omega, Nat.add_assoc]

include h3 in
theorem rPiece_W (a : Fin 4) (b : Fin 2) (y : S16x128.Idx) :
    rPiece (F := Ideal) x3 a b y = bmax W (64 * i + 16 * a.val + (y 0).val) ((256 * j + 128 * b.val + (y 1).val) / 16) := by
  have ha := a.isLt
  have hb := b.isLt
  have b0 : (y 0).val < 16 := (y 0).isLt
  have b1 : (y 1).val < 128 := (y 1).isLt
  have e : rPiece (F := Ideal) x3 a b y = x3 (ix2 ⟨16 * a.val + (y 0).val, by omega⟩ ⟨128 * b.val + (y 1).val, by omega⟩) := by
    refine congrArg x3 (funext fun k => match k with
      | ⟨0, _⟩ => Fin.ext (by show 16 * a.val + 1 * (y 0).val = 16 * a.val + (y 0).val; omega)
      | ⟨1, _⟩ => Fin.ext (by show 128 * b.val + 1 * (y 1).val = 128 * b.val + (y 1).val; omega))
  rw [e, h3]
  show bmax W (64 * i + (16 * a.val + (y 0).val)) ((256 * j + (128 * b.val + (y 1).val)) / 16) = _
  rw [Nat.add_assoc, Nat.add_assoc]

include hv h2 h3 in
theorem cnTiles_W (y : S256x512.Idx) : Tiles.tile2 (M := 256) (N := 512) (cnTiles (F := Ideal) v0 x2 x3) y
    = pairByte (nib W (2 * (512 * i + (y 1).val)) (256 * j + (y 0).val)) (nib W (2 * (512 * i + (y 1).val) + 1) (256 * j + (y 0).val)) := by
  have b0 : (y 0).val < 256 := (y 0).isLt
  have b1 : (y 1).val < 512 := (y 1).isLt
  unfold Tiles.tile2 cnTiles
  refine (cnPiece_W W v0 _ _ (64 * i + 16 * ((y 1).val / 128 % 4)) (256 * j + 128 * ((y 0).val / 128 % 2)) hv
    (wPiece_W W x2 i j h2 (Fin.ofNat 4 ((y 1).val / 128)) (Fin.ofNat 2 ((y 0).val / 128)))
    (rPiece_W W x3 i j h3 (Fin.ofNat 4 ((y 1).val / 128)) (Fin.ofNat 2 ((y 0).val / 128))) _).trans ?_
  show pairByte (nib W (16 * (64 * i + 16 * ((y 1).val / 128 % 4)) + 2 * ((y 1).val % 128)) (256 * j + 128 * ((y 0).val / 128 % 2) + (y 0).val % 128))
    (nib W (16 * (64 * i + 16 * ((y 1).val / 128 % 4)) + (2 * ((y 1).val % 128) + 1)) (256 * j + 128 * ((y 0).val / 128 % 2) + (y 0).val % 128)) = _
  rw [show 16 * (64 * i + 16 * ((y 1).val / 128 % 4)) + 2 * ((y 1).val % 128) = 2 * (512 * i + (y 1).val) by omega,
    show 16 * (64 * i + 16 * ((y 1).val / 128 % 4)) + (2 * ((y 1).val % 128) + 1) = 2 * (512 * i + (y 1).val) + 1 by omega,
    show 256 * j + 128 * ((y 0).val / 128 % 2) + (y 0).val % 128 = 256 * j + (y 0).val by omega]

include hv h2 h3 in
theorem deqTiles_W (y : S2x1024x3072.Idx) (hj : j = (y 2).val / 256) : Tiles.tile3 (L := 2) (M := 1024) (N := 3072) (deqTiles (F := Ideal) v0 x2 x3) y
    = deq W (1024 * i + (y 1).val) (y 2).val := by
  have b1 : (y 1).val < 1024 := (y 1).isLt
  have b2 : (y 2).val < 3072 := (y 2).isLt
  unfold Tiles.tile3 deqTiles
  refine (deqPiece_W W v0 _ _ (64 * i + 16 * ((y 1).val / 256 % 4)) (256 * j + 128 * ((y 2).val / 128 % 2)) hv
    (wPiece_W W x2 i j h2 (Fin.ofNat 4 ((y 1).val / 256)) (Fin.ofNat 2 ((y 2).val / 128)))
    (rPiece_W W x3 i j h3 (Fin.ofNat 4 ((y 1).val / 256)) (Fin.ofNat 2 ((y 2).val / 128))) _).trans ?_
  show deq W (16 * (64 * i + 16 * ((y 1).val / 256 % 4)) + (y 1).val % 256) (256 * j + 128 * ((y 2).val / 128 % 2) + (y 2).val % 128) = _
  rw [show 16 * (64 * i + 16 * ((y 1).val / 256 % 4)) + (y 1).val % 256 = 1024 * i + (y 1).val by omega,
    show 256 * j + 128 * ((y 2).val / 128 % 2) + (y 2).val % 128 = (y 2).val by omega]

include hv h2 h3 in
theorem ckTile_W (a : Fin 4) (R : Fin 256) (l : Fin 128) :
    ckPiece (F := Ideal) v0 (wPiece (F := Ideal) x2 a 0) (rPiece (F := Ideal) x3 a 0) (wPiece (F := Ideal) x2 a 1) (rPiece (F := Ideal) x3 a 1) (ix2 R l)
      = pairByte (nib W (1024 * i + 256 * a.val + R.val) (2 * (128 * j + l.val))) (nib W (1024 * i + 256 * a.val + R.val) (2 * (128 * j + l.val) + 1)) := by
  have hR := R.isLt
  have hl := l.isLt
  have ha := a.isLt
  have lo0 := nibLo_W W v0 _ _ _ _ hv (wPiece_W W x2 i j h2 a 0) (rPiece_W W x3 i j h3 a 0)
  have hi0 := nibHi_W W v0 _ _ _ _ hv (wPiece_W W x2 i j h2 a 0) (rPiece_W W x3 i j h3 a 0)
  have lo1 := nibLo_W W v0 _ _ _ _ hv (wPiece_W W x2 i j h2 a 1) (rPiece_W W x3 i j h3 a 1)
  have hi1 := nibHi_W W v0 _ _ _ _ hv (wPiece_W W x2 i j h2 a 1) (rPiece_W W x3 i j h3 a 1)
  generalize wPiece (F := Ideal) x2 a 0 = w at lo0 hi0 ⊢
  generalize rPiece (F := Ideal) x3 a 0 = r at lo0 hi0 ⊢
  generalize wPiece (F := Ideal) x2 a 1 = w' at lo1 hi1 ⊢
  generalize rPiece (F := Ideal) x3 a 1 = r' at lo1 hi1 ⊢
  obtain ⟨P, hP⟩ : ∃ P : ℕ → ℕ → BitVec 32, ∀ R l, P R l = nib W (1024 * i + 256 * a.val + R) (256 * j + l) := ⟨_, fun _ _ => rfl⟩
  obtain ⟨P', hP'⟩ : ∃ P : ℕ → ℕ → BitVec 32, ∀ R l, P R l = nib W (1024 * i + 256 * a.val + R) (256 * j + 128 + l) := ⟨_, fun _ _ => rfl⟩
  have eB : 16 * (64 * i + 16 * a.val) = 1024 * i + 256 * a.val := by omega
  have c0 : 256 * j + 128 * (0 : Fin 2).val = 256 * j := by show 256 * j + 128 * 0 = 256 * j; omega
  have c1 : 256 * j + 128 * (1 : Fin 2).val = 256 * j + 128 := rfl
  rw [eB, c0] at lo0 hi0
  rw [eB, c1] at lo1 hi1
  rw [ckPiece_at P P' (fun R l => by rw [hP]; exact nib_lt _ _) (fun R l => by rw [hP']; exact nib_lt _ _) v0 w r w' r'
    (fun y => (lo0 y).trans (hP _ _).symm) (fun y => (hi0 y).trans (hP _ _).symm) (fun y => (lo1 y).trans (hP' _ _).symm) (fun y => (hi1 y).trans (hP' _ _).symm) R l]
  rw [hP, hP, hP', hP']
  split
  · rw [show 256 * j + 2 * l.val % 128 = 2 * (128 * j + l.val) by omega,
      show 256 * j + (2 * l.val % 128 + 1) = 2 * (128 * j + l.val) + 1 by omega]
  · rw [show 256 * j + 128 + 2 * l.val % 128 = 2 * (128 * j + l.val) by omega,
      show 256 * j + 128 + (2 * l.val % 128 + 1) = 2 * (128 * j + l.val) + 1 by omega]

include hv h2 h3 in
theorem ckTiles_W (y : S1024x128.Idx) : Tiles.tile2 (M := 1024) (N := 128) (ckTiles (F := Ideal) v0 x2 x3) y
    = pairByte (nib W (1024 * i + (y 0).val) (2 * (128 * j + (y 1).val))) (nib W (1024 * i + (y 0).val) (2 * (128 * j + (y 1).val) + 1)) := by
  have b0 : (y 0).val < 1024 := (y 0).isLt
  have b1 : (y 1).val < 128 := (y 1).isLt
  have H := ckTile_W W v0 x2 x3 i j hv h2 h3 (Fin.ofNat 4 ((y 0).val / 256)) (Fin.ofNat 256 (y 0).val) (Fin.ofNat 128 (y 1).val)
  have e : Tiles.tile2 (M := 1024) (N := 128) (ckTiles (F := Ideal) v0 x2 x3) y
      = ckTiles (F := Ideal) v0 x2 x3 (Fin.ofNat 4 ((y 0).val / 256)) (Fin.ofNat 1 ((y 1).val / 128)) (ix2 (Fin.ofNat 256 (y 0).val) (Fin.ofNat 128 (y 1).val)) := by
    unfold Tiles.tile2
    rfl
  rw [e]
  unfold ckTiles
  generalize ckPiece (F := Ideal) v0 (wPiece (F := Ideal) x2 (Fin.ofNat 4 ((y 0).val / 256)) 0) (rPiece (F := Ideal) x3 (Fin.ofNat 4 ((y 0).val / 256)) 0)
    (wPiece (F := Ideal) x2 (Fin.ofNat 4 ((y 0).val / 256)) 1) (rPiece (F := Ideal) x3 (Fin.ofNat 4 ((y 0).val / 256)) 1) = z at H ⊢
  refine Eq.trans H ?_
  have e0 : 1024 * i + 256 * (Fin.ofNat 4 ((y 0).val / 256) : Fin 4).val + (Fin.ofNat 256 (y 0).val : Fin 256).val = 1024 * i + (y 0).val := by
    show 1024 * i + 256 * ((y 0).val / 256 % 4) + (y 0).val % 256 = _
    omega
  have e1 : (Fin.ofNat 128 (y 1).val : Fin 128).val = (y 1).val := Nat.mod_eq_of_lt b1
  rw [e0, e1]

end

/-- One column tile of the product: rows of `x` against rows of the dequantised weight, times the scale. -/
theorem yPiece_at (v0 : EReal) (x1 : FVec Ideal S768x3072 .bf16) (D : FVec Ideal S1x256x3072 .bf16) (s : Fin 768) (n : Fin 256) :
    yPiece (F := Ideal) v0 x1 D (ix2 s n) = (∑ k : Fin 3072, (x1 (ix2 s k) : EReal) * D (ix3 0 n k)) * v0 := by
  unfold yPiece k1_pay441
  rw [shapeCast_self]
  have hD : ∀ k : Fin 3072, shapeCast S256x3072 D shapeCasts_S1x256x3072_S256x3072 (ix2 n k) = D (ix3 0 n k) := fun k =>
    shapeCast_apply D shapeCasts_S1x256x3072_S256x3072 (ix2 n k) (ix3 0 n k) (by
      rewrite [Shape.rowMajor_val_three, Shape.rowMajor_val_two]
      show (0 * 256 + n.val) * 3072 + k.val = n.val * 3072 + k.val
      omega)
  generalize shapeCast S256x3072 D shapeCasts_S1x256x3072_S256x3072 = D2 at hD ⊢
  refine congrArg (fun z : EReal => z * v0) ?_
  refine (Ideal.matmul_constant_zero_apply dot_S768x3072_S256x3072_S768x256_1_1_0_0_n_n none x1 D2 (ix2 s n)).trans ?_
  rw [← Equiv.sum_comp (ValueIdx.contrEquiv1 dot_S768x3072_S256x3072_S768x256_1_1_0_0_n_n 3072 rfl rfl).symm]
  refine Finset.sum_congr rfl fun k _ => ?_
  rw [← hD]
  have hk := ValueIdx.contrEquiv1_symm_val dot_S768x3072_S256x3072_S768x256_1_1_0_0_n_n 3072 rfl rfl k
  have el : dot_S768x3072_S256x3072_S768x256_1_1_0_0_n_n.lhsIdx (ix2 s n) ((ValueIdx.contrEquiv1 dot_S768x3072_S256x3072_S768x256_1_1_0_0_n_n 3072 rfl rfl).symm k) = ix2 s k := funext fun a => Fin.ext (by
    match a with
    | ⟨0, _⟩ =>
      show (dot_S768x3072_S256x3072_S768x256_1_1_0_0_n_n.lhsIdx (ix2 s n) _ 0).val = s.val
      unfold DotDims.lhsIdx
      rw [dif_neg (show ¬(0 : Fin S768x3072.rank) ∈ dot_S768x3072_S256x3072_S768x256_1_1_0_0_n_n.lhsBatch by decide), dif_pos (show (0 : Fin S768x3072.rank) ∈ dot_S768x3072_S256x3072_S768x256_1_1_0_0_n_n.lhsNonContracting by decide)]
      rfl
    | ⟨1, _⟩ => exact (dot_S768x3072_S256x3072_S768x256_1_1_0_0_n_n.lhsIdx_val_of_single rfl (ix2 s n) _).trans hk)
  have er : dot_S768x3072_S256x3072_S768x256_1_1_0_0_n_n.rhsIdx (ix2 s n) ((ValueIdx.contrEquiv1 dot_S768x3072_S256x3072_S768x256_1_1_0_0_n_n 3072 rfl rfl).symm k) = ix2 n k := funext fun a => Fin.ext (by
    match a with
    | ⟨0, _⟩ =>
      show (dot_S768x3072_S256x3072_S768x256_1_1_0_0_n_n.rhsIdx (ix2 s n) _ 0).val = n.val
      unfold DotDims.rhsIdx
      rw [dif_neg (show ¬(0 : Fin S256x3072.rank) ∈ dot_S768x3072_S256x3072_S768x256_1_1_0_0_n_n.rhsBatch by decide), dif_pos (show (0 : Fin S256x3072.rank) ∈ dot_S768x3072_S256x3072_S768x256_1_1_0_0_n_n.rhsNonContracting by decide)]
      rfl
    | ⟨1, _⟩ => exact (dot_S768x3072_S256x3072_S768x256_1_1_0_0_n_n.rhsIdx_val_of_single rfl (ix2 s n) _).trans hk)
  rw [el, er]

/-- A block of the product. -/
theorem yTiles_at (v0 : EReal) (x1 : FVec Ideal S768x3072 .bf16) (ds : FVec Ideal S2x1024x3072 .bf16) (h : ℕ) (y : S768x1024.Idx) :
    Tiles.tile2 (M := 768) (N := 1024) (yTiles (F := Ideal) v0 x1 ds h) y
      = (∑ k : Fin 3072, (x1 (ix2 (y 0) k) : EReal) * ds (ix3 (Fin.ofNat 2 h) (y 1) k)) * v0 := by
  have b0 : (y 0).val < 768 := (y 0).isLt
  have b1 : (y 1).val < 1024 := (y 1).isLt
  unfold Tiles.tile2 yTiles
  refine (yPiece_at v0 x1 _ (Fin.ofNat 768 (y 0).val) (Fin.ofNat 256 (y 1).val)).trans ?_
  refine congrArg (fun z : EReal => z * v0) (Finset.sum_congr rfl fun k _ => ?_)
  have e0 : (Fin.ofNat 768 (y 0).val : Fin 768) = y 0 := Fin.ext (Nat.mod_eq_of_lt b0)
  have e1 : (Fin.ofNat 1024 (256 * ((y 1).val / 256 % 4) + (y 1).val % 256) : Fin 1024) = y 1 := Fin.ext (by
    show (256 * ((y 1).val / 256 % 4) + (y 1).val % 256) % 1024 = (y 1).val; omega)
  refine congrArg₂ (fun p q : EReal => p * q) (congrArg (fun a : Fin 768 => x1 (ix2 a k)) e0) ?_
  exact congrArg (fun a : Fin 1024 => ds (ix3 (Fin.ofNat 2 h) a k)) e1

end Cert.KernelIdeal.Value

end
-- ==== Proof.Value.Arrays.lean ====
/- The result arrays of the kernel, element by element. -/
module

public import proofs.«01_k».proof.Proof.Value.Scale1
public import proofs.«01_k».proof.Proof.Value.Blocks

@[expose] public section

set_option maxRecDepth 16384

noncomputable section

namespace Cert.KernelIdeal.Value

open Cert.KernelIdeal Cert.KernelIdeal.Gen Cert.KernelIdeal.Run Cert.Spec
open Idealize.ShloMosaic Idealize.ShloMosaic.TcCoe

variable (m : (ℓ : Loc nD τ sig) → Buf (Elt Ideal) ℓ) (c : Dev nD)

theorem idx1_0 : ∀ t : Fin cfg1.N, win1_0.index t = ![0, 0] :=
  (by decide +kernel : ∀ t : Fin grid1.N, win1_0.index t = ![0, 0])
theorem idx1_1 : ∀ t : Fin cfg1.N, win1_1.index t = ![if t.val / 12 = 0 then 0 else t.val % 12, 0] :=
  (by decide +kernel : ∀ t : Fin grid1.N, win1_1.index t = ![if t.val / 12 = 0 then 0 else t.val % 12, 0])
theorem idx1_2 : ∀ t : Fin cfg1.N, win1_2.index t = ![min t.val 95 / 12, min t.val 95 % 12] :=
  (by decide +kernel : ∀ t : Fin grid1.N, win1_2.index t = ![min t.val 95 / 12, min t.val 95 % 12])
theorem idx1_3 : ∀ t : Fin cfg1.N, win1_3.index t = ![min t.val 95 / 12, min t.val 95 % 12] :=
  (by decide +kernel : ∀ t : Fin grid1.N, win1_3.index t = ![min t.val 95 / 12, min t.val 95 % 12])
theorem idx1_4 : ∀ t : Fin cfg1.N, win1_4.index t = ![if t.val / 12 = 0 then 0 else t.val % 12, t.val / 12 - 1] :=
  (by decide +kernel : ∀ t : Fin grid1.N, win1_4.index t = ![if t.val / 12 = 0 then 0 else t.val % 12, t.val / 12 - 1])
theorem idx1_5 : ∀ t : Fin cfg1.N, win1_5.index t = ![min t.val 95 / 12, min t.val 95 % 12] :=
  (by decide +kernel : ∀ t : Fin grid1.N, win1_5.index t = ![min t.val 95 / 12, min t.val 95 % 12])
theorem idx1_6 : ∀ t : Fin cfg1.N, win1_6.index t = ![min t.val 95 % 12, min t.val 95 / 12] :=
  (by decide +kernel : ∀ t : Fin grid1.N, win1_6.index t = ![min t.val 95 % 12, min t.val 95 / 12])

/-- The activations, the first two axes joined. -/
def argX (m : (ℓ : Loc nD τ sig) → Buf (Elt Ideal) ℓ) (c : Dev nD) (r k : ℕ) : EReal :=
  (m ((c.tc : Thread nD τ).loc main_arg0) : FVec Ideal S12x768x3072 .bf16) (ix3 (Fin.ofNat 12 (r / 768)) (Fin.ofNat 768 r) (Fin.ofNat 3072 k))

theorem W2_arg1 : W2 m c (Proc.devRef .tc main_arg1) = argW m c :=
  (W2_keeps m c main_arg1 (by decide)).trans (V1_arg1 m c)

theorem W2_x (y : S9216x3072.Idx) : (W2 m c (Proc.devRef .tc main_v0) : FVec Ideal S9216x3072 .bf16) y = argX m c (y 0).val (y 1).val := by
  have b0 : (y 0).val < 9216 := (y 0).isLt
  have b1 : (y 1).val < 3072 := (y 1).isLt
  have h : V1 m c (Proc.devRef .tc main_v0) = shapeCast (α := Ideal .bf16) S9216x3072 (m ((c.tc : Thread nD τ).loc main_arg0)) shapeCasts_S12x768x3072_S9216x3072 := by
    unfold V1
    after_results <;> rfl
  rw [W2_keeps m c main_v0 (by decide), h]
  refine (shapeCast_apply _ shapeCasts_S12x768x3072_S9216x3072 y (ix3 (Fin.ofNat 12 ((y 0).val / 768)) (Fin.ofNat 768 (y 0).val) (Fin.ofNat 3072 (y 1).val)) (by
    rewrite [Shape.rowMajor_val_three, Shape.rowMajor_val_two]
    show ((y 0).val / 768 % 12 * 768 + (y 0).val % 768) * 3072 + (y 1).val % 3072 = (y 0).val * 3072 + (y 1).val
    omega)).trans rfl

theorem iblk1_0 (t : Fin cfg1.N) : s0 (F := Ideal) (iblk1 (W2 m) c 0 t) = st (argW m c) := by
  rw [s0_eq]
  refine Eq.trans ?_ (W2_st m c (ix2 0 0))
  blk_ext [iblk1, idx1_0]

theorem iblk1_1 (t : Fin cfg1.N) (ht : 12 ≤ t.val) (y : S768x3072.Idx) :
    (iblk1 (W2 m) c 1 t : FVec Ideal S768x3072 .bf16) y = argX m c (768 * (t.val % 12) + (y 0).val) (y 1).val := by
  have hl := lt1 t
  have b0 : (y 0).val < 768 := (y 0).isLt
  have b1 : (y 1).val < 3072 := (y 1).isLt
  refine Eq.trans ?_ (W2_x m c (ix2 ⟨768 * (t.val % 12) + (y 0).val, by omega⟩ (y 1)))
  have hi := idx1_1 t
  rw [if_neg (by omega)] at hi
  blk_ext [iblk1, hi]

theorem iblk1_2 (t : Fin cfg1.N) (ht : t.val < 96) (y : S1024x256.Idx) :
    (iblk1 (W2 m) c 2 t : FVec Ideal S1024x256 .bf16) y = wn (argW m c) (1024 * (t.val / 12) + (y 0).val) (256 * (t.val % 12) + (y 1).val) := by
  have b0 : (y 0).val < 1024 := (y 0).isLt
  have b1 : (y 1).val < 256 := (y 1).isLt
  have hi := idx1_2 t
  rw [show min t.val 95 = t.val by omega] at hi
  rw [← W2_arg1]
  unfold wn
  blk_ext [iblk1, hi]
  · show t.val / 12 * 1024 + (y 0).val = (1024 * (t.val / 12) + (y 0).val) % 8192
    omega
  · show t.val % 12 * 256 + (y 1).val = (256 * (t.val % 12) + (y 1).val) % 3072
    omega

theorem iblk1_3 (t : Fin cfg1.N) (ht : t.val < 96) (y : S64x256.Idx) :
    (iblk1 (W2 m) c 3 t : FVec Ideal S64x256 .f32) y = bmax (argW m c) (64 * (t.val / 12) + (y 0).val) ((256 * (t.val % 12) + (y 1).val) / 16) := by
  have b0 : (y 0).val < 64 := (y 0).isLt
  have b1 : (y 1).val < 256 := (y 1).isLt
  have hi := idx1_3 t
  rw [show min t.val 95 = t.val by omega] at hi
  refine Eq.trans ?_ (W2_rep m c (ix2 ⟨64 * (t.val / 12) + (y 0).val, by omega⟩ ⟨256 * (t.val % 12) + (y 1).val, by omega⟩))
  blk_ext [iblk1, hi]

theorem pt_val (n : ℕ) (hn : n < 108) : (pt1 n).val = n := Nat.mod_eq_of_lt hn

/-- The dequantised tiles. -/
theorem dd_W (k : ℕ) (hk : k < 8) (y : S2x1024x3072.Idx) : dd (F := Ideal) (W2 m) c k y = deq (argW m c) (1024 * k + (y 1).val) (y 2).val := by
  have b2 : (y 2).val < 3072 := (y 2).isLt
  have hp : (pt1 (12 * k + (y 2).val / 256)).val = 12 * k + (y 2).val / 256 := pt_val _ (by omega)
  have h2 := iblk1_2 m c (pt1 (12 * k + (y 2).val / 256)) (by rw [hp]; omega)
  have h3 := iblk1_3 m c (pt1 (12 * k + (y 2).val / 256)) (by rw [hp]; omega)
  rw [hp, show (12 * k + (y 2).val / 256) / 12 = k by omega, show (12 * k + (y 2).val / 256) % 12 = (y 2).val / 256 by omega] at h2 h3
  exact deqTiles_W (argW m c) _ _ _ k ((y 2).val / 256) (iblk1_0 m c _) h2 h3 y rfl

/-- After the second pass: the codes paired along the rows. -/
theorem W3_cn (y : S3072x4096.Idx) : (W3 m c (Proc.devRef .tc main_v12_2) : IVec S3072x4096 8) y
    = pairByte (nib (argW m c) (2 * (y 1).val) (y 0).val) (nib (argW m c) (2 * (y 1).val + 1) (y 0).val) := by
  have h : W3 m c (Proc.devRef .tc main_v12_2) = (dat1 (W2 m) c).arrAt 6 cfg1.N :=
    Pipeline.afterRegion_arr (dat1 (W2 m) c) (W2 m c) launch1.win.arr_inj 6
  rw [h]
  refine congrFun ((dat1 (W2 m) c).arrAt_eq_of_covers 6 (fun y : S3072x4096.Idx => pairByte (nib (argW m c) (2 * (y 1).val) (y 0).val) (nib (argW m c) (2 * (y 1).val + 1) (y 0).val)) (by decide +kernel) fun t hf y => ?_) y
  blk_simp
  rw [after1_6, idx1_6]
  have hp : (pt1 (min t.val 95)).val = min t.val 95 := pt_val _ (by omega)
  have h2 := iblk1_2 m c (pt1 (min t.val 95)) (by rw [hp]; omega)
  have h3 := iblk1_3 m c (pt1 (min t.val 95)) (by rw [hp]; omega)
  rw [hp] at h2 h3
  refine (cnTiles_W (argW m c) _ _ _ (min t.val 95 / 12) (min t.val 95 % 12) (iblk1_0 m c _) h2 h3 y).trans ?_
  show _ = pairByte (nib (argW m c) (2 * (min t.val 95 / 12 * 512 + (y 1).val)) (min t.val 95 % 12 * 256 + (y 0).val))
    (nib (argW m c) (2 * (min t.val 95 / 12 * 512 + (y 1).val) + 1) (min t.val 95 % 12 * 256 + (y 0).val))
  rw [Nat.mul_comm 512, Nat.mul_comm 256]

/-- After the second pass: the codes paired along the columns. -/
theorem W3_ck (y : S8192x1536.Idx) : (W3 m c (Proc.devRef .tc main_v12_1) : IVec S8192x1536 8) y
    = pairByte (nib (argW m c) (y 0).val (2 * (y 1).val)) (nib (argW m c) (y 0).val (2 * (y 1).val + 1)) := by
  have h : W3 m c (Proc.devRef .tc main_v12_1) = (dat1 (W2 m) c).arrAt 5 cfg1.N :=
    Pipeline.afterRegion_arr (dat1 (W2 m) c) (W2 m c) launch1.win.arr_inj 5
  rw [h]
  refine congrFun ((dat1 (W2 m) c).arrAt_eq_of_covers 5 (fun y : S8192x1536.Idx => pairByte (nib (argW m c) (y 0).val (2 * (y 1).val)) (nib (argW m c) (y 0).val (2 * (y 1).val + 1))) (by decide +kernel) fun t hf y => ?_) y
  blk_simp
  rw [after1_5, idx1_5]
  have hp : (pt1 (min t.val 95)).val = min t.val 95 := pt_val _ (by omega)
  have h2 := iblk1_2 m c (pt1 (min t.val 95)) (by rw [hp]; omega)
  have h3 := iblk1_3 m c (pt1 (min t.val 95)) (by rw [hp]; omega)
  rw [hp] at h2 h3
  refine (ckTiles_W (argW m c) _ _ _ (min t.val 95 / 12) (min t.val 95 % 12) (iblk1_0 m c _) h2 h3 y).trans ?_
  show _ = pairByte (nib (argW m c) (min t.val 95 / 12 * 1024 + (y 0).val) (2 * (min t.val 95 % 12 * 128 + (y 1).val)))
    (nib (argW m c) (min t.val 95 / 12 * 1024 + (y 0).val) (2 * (min t.val 95 % 12 * 128 + (y 1).val) + 1))
  rw [Nat.mul_comm 1024, Nat.mul_comm 128]

/-- After the second pass: the product. -/
theorem W3_y (y : S9216x8192.Idx) : (W3 m c (Proc.devRef .tc main_v12_0) : FVec Ideal S9216x8192 .bf16) y
    = (∑ k : Fin 3072, argX m c (y 0).val k.val * deq (argW m c) (y 1).val k.val) * st (argW m c) := by
  have h : W3 m c (Proc.devRef .tc main_v12_0) = (dat1 (W2 m) c).arrAt 4 cfg1.N :=
    Pipeline.afterRegion_arr (dat1 (W2 m) c) (W2 m c) launch1.win.arr_inj 4
  rw [h]
  refine congrFun ((dat1 (W2 m) c).arrAt_eq_of_covers 4 (fun y : S9216x8192.Idx => (∑ k : Fin 3072, argX m c (y 0).val k.val * deq (argW m c) (y 1).val k.val) * st (argW m c)) (by decide +kernel) fun t hf y => ?_) y
  rw [flush1_4] at hf
  have ht : 12 ≤ t.val := of_decide_eq_true hf
  have hl := lt1 t
  have hi := idx1_4 t
  rw [if_neg (by omega)] at hi
  blk_simp
  rw [after1_4, hi]
  refine (yTiles_at _ _ _ _ y).trans ?_
  have hs := iblk1_0 m c t
  refine congrArg₂ (fun p q : EReal => p * q) (Finset.sum_congr rfl fun k _ => ?_) hs
  rw [iblk1_1 m c t ht, dd_W m c (t.val / 12 - 1) (by omega)]
  show argX m c (768 * (t.val % 12) + (y 0).val) k.val * deq (argW m c) (1024 * (t.val / 12 - 1) + (y 1).val) k.val
    = argX m c (t.val % 12 * 768 + (y 0).val) k.val * deq (argW m c) ((t.val / 12 - 1) * 1024 + (y 1).val) k.val
  rw [Nat.mul_comm 768, Nat.mul_comm 1024]

end Cert.KernelIdeal.Value

end
-- ==== Proof.Value.Final.lean ====
/- The kernel's five results at the end of the run, element by element. -/
module

public import proofs.«01_k».proof.Proof.Value.Arrays

@[expose] public section

set_option maxRecDepth 16384

noncomputable section

namespace Cert.KernelIdeal.Value

open Cert.KernelIdeal Cert.KernelIdeal.Gen Cert.KernelIdeal.Run Cert.Spec
open Idealize.ShloMosaic Idealize.ShloMosaic.TcCoe

section
variable {F : FTy → Type} [FloatOps F] (m : (ℓ : Loc nD τ sig) → Buf (Elt F) ℓ) (c : Dev nD)

theorem W4_v13 : W4 m c (Proc.devRef .tc main_v13) = shapeCast S12x768x8192 (W3 m c (Proc.devRef .tc main_v12_0)) shapeCasts_S9216x8192_S12x768x8192 := by
  unfold W4
  after_results <;> rfl

theorem W4_v14 : W4 m c (Proc.devRef .tc main_v14) = shapeCast S1 (W3 m c (Proc.devRef .tc main_v11_2)) shapeCasts_S1x1_S1 := by
  unfold W4
  after_results <;> rfl

end

variable (m : (ℓ : Loc nD τ sig) → Buf (Elt Ideal) ℓ) (c : Dev nD)

/-- The activations as launched. -/
abbrev argA : S12x768x3072.Idx → EReal := m ((c.tc : Thread nD τ).loc main_arg0)

theorem end_y (i : S12x768x8192.Idx) : (W4 m c (Proc.devRef .tc main_v13) : FVec Ideal S12x768x8192 .bf16) i
    = (∑ k : Fin 3072, argA m c (ix3 (i 0) (i 1) k) * deq (argW m c) (i 2).val k.val) * st (argW m c) := by
  have b0 : (i 0).val < 12 := (i 0).isLt
  have b1 : (i 1).val < 768 := (i 1).isLt
  have b2 : (i 2).val < 8192 := (i 2).isLt
  rw [W4_v13]
  refine (shapeCast_apply _ shapeCasts_S9216x8192_S12x768x8192 i (ix2 ⟨768 * (i 0).val + (i 1).val, by omega⟩ (i 2)) (by
    rewrite [Shape.rowMajor_val_three, Shape.rowMajor_val_two]
    show (768 * (i 0).val + (i 1).val) * 8192 + (i 2).val = ((i 0).val * 768 + (i 1).val) * 8192 + (i 2).val
    omega)).trans ?_
  refine (W3_y m c _).trans ?_
  refine congrArg (fun z : EReal => z * st (argW m c)) (Finset.sum_congr rfl fun k _ => ?_)
  refine congrArg (fun z : EReal => z * deq (argW m c) (i 2).val k.val) ?_
  have hk := k.isLt
  unfold argX
  refine congrArg (m ((c.tc : Thread nD τ).loc main_arg0)) (funext fun a => match a with
    | ⟨0, _⟩ => Fin.ext (by show (768 * (i 0).val + (i 1).val) / 768 % 12 = (i 0).val; omega)
    | ⟨1, _⟩ => Fin.ext (by show (768 * (i 0).val + (i 1).val) % 768 = (i 1).val; omega)
    | ⟨2, _⟩ => Fin.ext (by show k.val % 3072 = k.val; omega))

theorem end_ck (i : S8192x1536.Idx) : (W4 m c (Proc.devRef .tc main_v12_1) : IVec S8192x1536 8) i
    = pairByte (nib (argW m c) (i 0).val (2 * (i 1).val)) (nib (argW m c) (i 0).val (2 * (i 1).val + 1)) := by
  rw [W4_of m c main_v12_1 (by decide)]
  exact W3_ck m c i

theorem end_cn (i : S3072x4096.Idx) : (W4 m c (Proc.devRef .tc main_v12_2) : IVec S3072x4096 8) i
    = pairByte (nib (argW m c) (2 * (i 1).val) (i 0).val) (nib (argW m c) (2 * (i 1).val + 1) (i 0).val) := by
  rw [W4_of m c main_v12_2 (by decide)]
  exact W3_cn m c i

theorem end_sb (i : S512x192.Idx) : (W4 m c (Proc.devRef .tc main_v11_1) : FVec Ideal S512x192 .fp8e4m3) i = sb (argW m c) (i 0).val (i 1).val := by
  rw [W4_of m c main_v11_1 (by decide), W3_keeps m c main_v11_1 (by decide)]
  exact W2_sb m c i

theorem end_st (i : S1.Idx) : (W4 m c (Proc.devRef .tc main_v14) : FVec Ideal S1 .f32) i = st (argW m c) := by
  have b0 : (i 0).val < 1 := (i 0).isLt
  rw [W4_v14, W3_keeps m c main_v11_2 (by decide)]
  refine (shapeCast_apply _ shapeCasts_S1x1_S1 i (ix2 0 0) (by
    rewrite [Shape.rowMajor_val_one, Shape.rowMajor_val_two]
    show 0 * 1 + 0 = (i 0).val
    omega)).trans ?_
  exact W2_st m c _

end Cert.KernelIdeal.Value

end
-- ==== Proof.Value.RefScale.lean ====
/- The scales of the reference. -/
module

public import proofs.«01_k».proof.Proof.Gen.ReferenceIdeal.Run
public import proofs.«01_k».proof.Proof.Quant.Spec
public import proofs.«01_k».proof.Proof.Quant.Maxima
public import Idealize.ShloMosaic.Lib.Pipeline.ValueKit
public import Idealize.ShloMosaic.Lib.IdealHost

@[expose] public section

set_option maxRecDepth 16384

noncomputable section

namespace Cert.ReferenceIdeal.Value

open Cert.ReferenceIdeal Cert.ReferenceIdeal.Gen Cert.Spec
open Idealize.ShloMosaic Idealize.ShloMosaic.TcCoe

/-- The maxima of the blocks of the weight. -/
def blockMax {F : FTy → Type} [FloatOps F] (w : FVec F S8192x3072 .bf16) : FVec F S512x192 .f32 :=
  Host.reduce (FloatOps.maximumf (F := F) (φ := .f32)) (shapeCast S512x192x16
      (Host.reduce (FloatOps.maximumf (F := F) (φ := .f32)) (shapeCast S512x16x3072 (Host.absf (extf .f32 w bitsLt_bf16_f32)) shapeCasts_S8192x3072_S512x16x3072) (constant S_ .f32 0xFF800000#32) reducesTo_S512x16x3072_S512x3072_d1 h_S_)
      shapeCasts_S512x3072_S512x192x16) (constant S_ .f32 0xFF800000#32) reducesTo_S512x192x16_S512x192_d2 h_S_

/-- The scale of the whole weight, as a scalar array. -/
def tensorScale {F : FTy → Type} [FloatOps F] (w : FVec F S8192x3072 .bf16) : FVec F S_ .f32 :=
  Host.divf (Host.reduce FloatOps.maximumf (Host.absf (extf .f32 w bitsLt_bf16_f32)) (constant S_ .f32 0xFF800000#32) reducesTo_S8192x3072_S_d0_1 h_S_) (constant S_ .f32 0x45280000#32)

section
variable {F : FTy → Type} [FloatOps F] (m : (ℓ : Loc nD τ sig) → Buf (Elt F) ℓ) (c : Dev nD)

theorem V_v7 : V m c main_v7 = blockMax (m ((c.tc : Thread nD τ).loc main_arg1)) := by
  show Gen.V0 m c (Proc.devRef .tc main_v7) = _
  simp only [Gen.V0, Gen.hostOps0, List.flatten_cons, List.flatten_nil, List.append_nil, List.cons_append, List.nil_append]
  after_results <;> rfl

theorem V_v8 : V m c main_v8 = shapeCast S1x1 (tensorScale (m ((c.tc : Thread nD τ).loc main_arg1))) shapeCasts_S_S1x1 := by
  show Gen.V0 m c (Proc.devRef .tc main_v8) = _
  simp only [Gen.V0, Gen.hostOps0, List.flatten_cons, List.flatten_nil, List.append_nil, List.cons_append, List.nil_append]
  after_results <;> rfl

end

variable (m : (ℓ : Loc nD τ sig) → Buf (Elt Ideal) ℓ) (c : Dev nD)

/-- The weight argument. -/
abbrev argW : WMat := m ((c.tc : Thread nD τ).loc main_arg1)

/-- The absolute values of the weight. -/
abbrev absW : FVec Ideal S8192x3072 .f32 := Host.absf (extf .f32 (argW m c : FVec Ideal S8192x3072 .bf16) bitsLt_bf16_f32)

/-- A maximum along one axis. -/
theorem reduce_le {s t u : Shape} {a : Fin s.rank} (x : FVec Ideal s .f32) (h' : s.ReducesTo [a] t) (h : s.Reduces [a] t) (hu : 0 < u.numel) (j : t.Idx) (q : EReal) :
    Host.reduce (FloatOps.maximumf (F := Ideal) (φ := .f32)) x (constant u .f32 0xFF800000#32) h' hu j ≤ q ↔ ∀ k : Fin (s.size a), x (h.lift j k) ≤ q := by
  show Host.reduce (max : EReal → EReal → EReal) x (constant (F := Ideal) u .f32 0xFF800000#32) h' hu j ≤ q ↔ _
  rw [Host.reduce_eq_fold_single _ _ _ h' h]
  exact (Maxima.fold_le _ _ _).trans ⟨fun h k => h k (Finset.mem_univ _), fun h k _ => h k⟩

theorem absW_apply (i : S8192x3072.Idx) : absW m c i = ab (argW m c i) := rfl

theorem tensorScale_apply (j : S_.Idx) : tensorScale (F := Ideal) (argW m c) j = st (argW m c) := by
  have e : tensorScale (F := Ideal) (argW m c) j = Ideal.div (Host.reduce (max : EReal → EReal → EReal) (absW m c) (constant (F := Ideal) S_ .f32 0xFF800000#32) reducesTo_S8192x3072_S_d0_1 h_S_ j) (Ideal.ofBits .f32 0x45280000#32) := rfl
  rw [e]
  refine st_of _ _ (eq_of_le_iff fun q => ?_)
  rw [Host.reduce_eq_fold, amax_le]
  refine (Maxima.fold_le _ _ _).trans ⟨fun h i => h i (Finset.mem_filter.mpr ⟨Finset.mem_univ _, funext fun a => a.elim0⟩), fun h i _ => h i⟩

/-- The scale of the whole weight. -/
theorem st_eq (j : S_.Idx) : (exitV m c (Proc.devRef .tc main_v3) : FVec Ideal S_ .f32) j = st (argW m c) :=
  (congrFun (exit_main_v3 m c) j).trans (tensorScale_apply m c j)

/-- The scale as the body of the one call finds it. -/
theorem V_main_v8 (y : S1x1.Idx) : (V m c main_v8 : FVec Ideal S1x1 .f32) y = st (argW m c) := by
  rw [V_v8]
  exact tensorScale_apply m c _

/-- The block maxima as the body of the one call finds them. -/
theorem V_main_v7 (y : S512x192.Idx) : (V m c main_v7 : FVec Ideal S512x192 .f32) y = bmax (argW m c) (y 0).val (y 1).val := by
  rw [V_v7]
  unfold blockMax
  refine eq_of_le_iff fun q => ?_
  rw [bmax_le]
  have hr2 : S512x192x16.Reduces [2] S512x192 := by decide
  have hr1 : S512x16x3072.Reduces [1] S512x3072 := by decide
  have hy0 : (y 0).val < 512 := (y 0).isLt
  have hy1 : (y 1).val < 192 := (y 1).isLt
  rw [reduce_le _ _ hr2]
  have key : ∀ (a : Fin 16), shapeCast S512x192x16 (Host.reduce (FloatOps.maximumf (F := Ideal) (φ := .f32)) (shapeCast S512x16x3072 (absW m c) shapeCasts_S8192x3072_S512x16x3072) (constant S_ .f32 0xFF800000#32) reducesTo_S512x16x3072_S512x3072_d1 h_S_)
      shapeCasts_S512x3072_S512x192x16 (hr2.lift y a) ≤ q ↔ ∀ p < 16, ab (wn (argW m c) (16 * (y 0).val + p) (16 * (y 1).val + a.val)) ≤ q := by
    intro a
    have ha := a.isLt
    rw [shapeCast_apply _ _ _ (ix2 (Fin.ofNat 512 (y 0).val) (Fin.ofNat 3072 (16 * (y 1).val + a.val)) : S512x3072.Idx) (by
      rw [Shape.rowMajor_val_two, Shape.rowMajor_val_three]
      show (y 0).val % 512 * 3072 + (16 * (y 1).val + a.val) % 3072 = ((y 0).val * 192 + (y 1).val) * 16 + a.val
      omega), reduce_le _ _ hr1]
    have key2 : ∀ p : Fin 16, shapeCast S512x16x3072 (absW m c) shapeCasts_S8192x3072_S512x16x3072 (hr1.lift (ix2 (Fin.ofNat 512 (y 0).val) (Fin.ofNat 3072 (16 * (y 1).val + a.val)) : S512x3072.Idx) p)
        = ab (wn (argW m c) (16 * (y 0).val + p.val) (16 * (y 1).val + a.val)) := by
      intro p
      have hp := p.isLt
      rw [shapeCast_apply _ _ _ (ix2 (Fin.ofNat 8192 (16 * (y 0).val + p.val)) (Fin.ofNat 3072 (16 * (y 1).val + a.val)) : S8192x3072.Idx) (by
        rw [Shape.rowMajor_val_two, Shape.rowMajor_val_three]
        show (16 * (y 0).val + p.val) % 8192 * 3072 + (16 * (y 1).val + a.val) % 3072 = ((y 0).val % 512 * 16 + p.val) * 3072 + (16 * (y 1).val + a.val) % 3072
        omega)]
      rfl
    exact ⟨fun h p hp => (key2 ⟨p, hp⟩) ▸ h ⟨p, hp⟩, fun h p => (key2 p).symm ▸ h p.val p.isLt⟩
  exact ⟨fun h a ha => (key ⟨a, ha⟩).mp (h ⟨a, ha⟩), fun h a => (key a).mpr (h a.val a.isLt)⟩

theorem idx0_0 : ∀ t : Fin cfg0.N, win0_0.index t = ![0, 0] := (by decide +kernel : ∀ t : Fin grid0.N, win0_0.index t = ![0, 0])
theorem idx0_1 : ∀ t : Fin cfg0.N, win0_1.index t = ![0, 0] := (by decide +kernel : ∀ t : Fin grid0.N, win0_1.index t = ![0, 0])
theorem idx0_2 : ∀ t : Fin cfg0.N, win0_2.index t = ![0, 0] := (by decide +kernel : ∀ t : Fin grid0.N, win0_2.index t = ![0, 0])
theorem idx0_3 : ∀ t : Fin cfg0.N, win0_3.index t = ![0, 0] := (by decide +kernel : ∀ t : Fin grid0.N, win0_3.index t = ![0, 0])
theorem idx0_4 : ∀ t : Fin cfg0.N, win0_4.index t = ![0, 0] := (by decide +kernel : ∀ t : Fin grid0.N, win0_4.index t = ![0, 0])

theorem iblk_0 (t : Fin cfg0.N) : (iblk m c 0 t : FVec Ideal S512x192 .f32) = V m c main_v7 := by
  funext y
  blk_simp [iblk]
  refine congrArg (V m c main_v7) ?_
  blk_ext [idx0_0]

theorem iblk_1 (t : Fin cfg0.N) : (iblk m c 1 t : FVec Ideal S1x1 .f32) = V m c main_v8 := by
  funext y
  blk_simp [iblk]
  refine congrArg (V m c main_v8) ?_
  blk_ext [idx0_1]

/-- The scales of the blocks, from the blocks' maxima. -/
theorem pay1_apply (x0 : FVec Ideal S512x192 .f32) (x1 : FVec Ideal S1x1 .f32) (y : S512x192.Idx) : k0_pay1 (F := Ideal) x0 x1 y
    = min (Ideal.div (x0 y) (x1 (ix2 0 0) * Ideal.ofBits .f32 0x40C00000#32)) (Ideal.ofBits .f32 0x43E00000#32) := by
  unfold k0_pay1
  rw [shapeCast_self]
  have e : extractAt ![0, 0] x1 inpos_S1x1_p0_0 = x1 (ix2 0 0) := congrArg x1 (funext fun a => match a with | ⟨0, _⟩ => rfl | ⟨1, _⟩ => rfl)
  show min (Ideal.div (x0 y) (extractAt ![0, 0] x1 inpos_S1x1_p0_0 * _)) _ = _
  rw [e]
  rfl

theorem pay1_iblk (t : Fin cfg0.N) (y : S512x192.Idx) : k0_pay1 (F := Ideal) (iblk m c 0 t) (iblk m c 1 t) y = sb (argW m c) (y 0).val (y 1).val := by
  rw [pay1_apply, iblk_0, iblk_1, V_main_v7, V_main_v8]
  rfl

theorem reg0_eq (y : S512x192.Idx) : (reg_main_v9_0 m c : FVec Ideal S512x192 .fp8e4m3) y = sb (argW m c) (y 0).val (y 1).val := by
  refine congrFun ((dats m 0 c).arrAt_eq_of_covers 2 (fun y : S512x192.Idx => sb (argW m c) (y 0).val (y 1).val) (by decide +kernel) fun t hf y => ?_) y
  blk_simp
  rw [after0_2]
  frame_out
  refine (pay1_iblk m c t _).trans ?_
  blk_simp [idx0_2]

theorem reg1_eq (y : S512x192.Idx) : (reg_main_v9_1 m c : FVec Ideal S512x192 .bf16) y = sb (argW m c) (y 0).val (y 1).val := by
  refine congrFun ((dats m 0 c).arrAt_eq_of_covers 3 (fun y : S512x192.Idx => sb (argW m c) (y 0).val (y 1).val) (by decide +kernel) fun t hf y => ?_) y
  blk_simp
  rw [after0_3]
  frame_out
  refine (pay1_iblk m c t _).trans ?_
  blk_simp [idx0_3]

theorem reg2_eq (y : S512x192.Idx) : (reg_main_v9_2 m c : FVec Ideal S512x192 .f32) y = sb (argW m c) (y 0).val (y 1).val := by
  refine congrFun ((dats m 0 c).arrAt_eq_of_covers 4 (fun y : S512x192.Idx => sb (argW m c) (y 0).val (y 1).val) (by decide +kernel) fun t hf y => ?_) y
  blk_simp
  rw [after0_4]
  frame_out
  refine (pay1_iblk m c t _).trans ?_
  blk_simp [idx0_4]

end Cert.ReferenceIdeal.Value

end
-- ==== Proof.Value.RefCodes.lean ====
/- The reference, element by element: its codes, its dequantised weight and its product. -/
module

public import proofs.«01_k».proof.Proof.Gen.ReferenceIdeal.Read
public import proofs.«01_k».proof.Proof.Quant.Code
public import Idealize.ShloMosaic.Lib.Pipeline.Value
public import Idealize.ShloMosaic.Lib.Pointwise.ShapeOpsCore

@[expose] public section

set_option maxRecDepth 16384

noncomputable section

namespace Cert.ReferenceIdeal.Codes

open Cert.ReferenceIdeal Cert.ReferenceIdeal.Gen Cert.ReferenceIdeal.Read Cert.Spec
open Idealize.ShloMosaic

variable (W : WMat) (r2 : FVec Ideal S512x192 .f32) (e0 : FVec Ideal S_ .f32) (e1 : FVec Ideal S8192x3072 .f32)
  (h2 : ∀ y, r2 y = sb W (y 0).val (y 1).val) (h0 : ∀ j, e0 j = st W) (h1 : e1 = W)

include h2 h0 in
theorem v14_eq (i : S512x1x3072.Idx) : val_main_v14 (F := Ideal) r2 e0 i = sb W (i 0).val ((i 2).val / 16) * st W := by
  have b0 : (i 0).val < 512 := (i 0).isLt
  have b2 : (i 2).val < 3072 := (i 2).isLt
  rw [val_main_v14_apply, val_main_v13_apply, val_main_v12_apply, val_main_v11_apply, val_main_v10_apply, h2, h0]
  show sb W (((i 0).val * 3072 + (i 2).val) / 3072) (((i 0).val * 3072 + (i 2).val) / 16 % 192) * st W = _
  rw [show ((i 0).val * 3072 + (i 2).val) / 3072 = (i 0).val by omega, show ((i 0).val * 3072 + (i 2).val) / 16 % 192 = (i 2).val / 16 by omega]

include h2 h0 h1 in
theorem v22_eq (i : S512x16x3072.Idx) : val_main_v22 (F := Ideal) r2 e0 e1 i
    = vOf (wn W (16 * (i 0).val + (i 1).val) (i 2).val) (dOf W (16 * (i 0).val + (i 1).val) (i 2).val) := by
  have b0 : (i 0).val < 512 := (i 0).isLt
  have b1 : (i 1).val < 16 := (i 1).isLt
  have b2 : (i 2).val < 3072 := (i 2).isLt
  have hd : val_main_v14 (F := Ideal) r2 e0 (idx_main_v19 i) = dOf W (16 * (i 0).val + (i 1).val) (i 2).val := by
    rw [v14_eq W r2 e0 h2 h0]
    show sb W (i 0).val ((i 2).val / 16) * st W = _
    unfold dOf
    rw [show (16 * (i 0).val + (i 1).val) / 16 = (i 0).val by omega]
  have hw : e1 (idx_main_v15 i) = wn W (16 * (i 0).val + (i 1).val) (i 2).val := by
    rw [h1]
    refine congrArg W (funext fun a => match a with
      | ⟨0, _⟩ => Fin.ext (by show (((i 0).val * 16 + (i 1).val) * 3072 + (i 2).val) / 3072 = (16 * (i 0).val + (i 1).val) % 8192; omega)
      | ⟨1, _⟩ => Fin.ext (by show (((i 0).val * 16 + (i 1).val) * 3072 + (i 2).val) % 3072 = (i 2).val % 3072; omega))
  rw [val_main_v22_apply, val_main_call2_v4_apply, val_main_call2_v2_apply, val_main_call2_v1_apply, val_main_v21_apply, val_main_call1_v1_apply,
    val_main_call1_v2_apply, val_main_v20_apply, val_main_v15_apply, val_main_v19_apply, val_main_v18_apply, val_main_v17_apply, hw]
  have hi : idx_main_call1_v1 i = idx_main_v19 i := rfl
  rw [hi, hd]
  rfl

include h2 h0 h1 in
theorem v61_eq (i : S512x16x3072.Idx) : val_main_v61 (F := Ideal) r2 e0 e1 i
    = refNib (wn W (16 * (i 0).val + (i 1).val) (i 2).val) (dOf W (16 * (i 0).val + (i 1).val) (i 2).val) := by
  have hv := v22_eq W r2 e0 e1 h2 h0 h1 i
  generalize wn W (16 * (i 0).val + (i 1).val) (i 2).val = w at hv ⊢
  generalize dOf W (16 * (i 0).val + (i 1).val) (i 2).val = d at hv ⊢
  have ha : val_main_v23 (F := Ideal) r2 e0 e1 i = ab (vOf w d) := by rw [val_main_v23_apply, hv]; rfl
  have hq : val_main_v40 (F := Ideal) r2 e0 e1 i = refVal (ab (vOf w d)) := by
    rw [val_main_v40_apply, val_main_v25_apply, val_main_v30_apply, val_main_v28_apply, val_main_v27_apply, val_main_v39_apply, val_main_v32_apply,
      val_main_v33_apply, val_main_v38_apply, val_main_v36_apply, val_main_v35_apply, ha]
    rfl
  have hc : val_main_v55 (F := Ideal) r2 e0 e1 i = refCode (refVal (ab (vOf w d))) := by
    rw [val_main_v55_apply, val_main_v54_apply, val_main_v42_apply, val_main_v44_apply, val_main_v53_apply, val_main_v46_apply, val_main_v48_apply,
      val_main_v52_apply, val_main_v50_apply, hq]
    rfl
  rw [val_main_v61_apply, val_main_v60_apply, val_main_v58_apply, val_main_v57_apply, hc, hv]
  rfl

include h2 h0 h1 in
theorem v62_eq (i : S8192x3072.Idx) : val_main_v62 (F := Ideal) r2 e0 e1 i = nib W (i 0).val (i 1).val := by
  have b0 : (i 0).val < 8192 := (i 0).isLt
  have b1 : (i 1).val < 3072 := (i 1).isLt
  rw [val_main_v62_apply, v61_eq W r2 e0 e1 h2 h0 h1, refNib_eq]
  show nib W (16 * (((i 0).val * 3072 + (i 1).val) / 49152) + ((i 0).val * 3072 + (i 1).val) / 3072 % 16) (((i 0).val * 3072 + (i 1).val) % 3072) = _
  rw [show 16 * (((i 0).val * 3072 + (i 1).val) / 49152) + ((i 0).val * 3072 + (i 1).val) / 3072 % 16 = (i 0).val by omega,
    show ((i 0).val * 3072 + (i 1).val) % 3072 = (i 1).val by omega]

include h2 h0 h1 in
theorem v68_eq (i : S8192x1536.Idx) : val_main_v68 (F := Ideal) r2 e0 e1 i = pairByte (nib W (i 0).val (2 * (i 1).val)) (nib W (i 0).val (2 * (i 1).val + 1)) := by
  have ha : val_main_v63 (F := Ideal) r2 e0 e1 i = nib W (i 0).val (2 * (i 1).val) := by
    unfold val_main_v63
    rw [Host.slice_apply, Shape.Idx.norm_def, v62_eq W r2 e0 e1 h2 h0 h1]
    show nib W (0 + 1 * (i 0).val) (0 + 2 * (i 1).val) = _
    rw [Nat.zero_add, Nat.zero_add, Nat.one_mul]
  have hb : val_main_v64 (F := Ideal) r2 e0 e1 i = nib W (i 0).val (2 * (i 1).val + 1) := by
    unfold val_main_v64
    rw [Host.slice_apply, Shape.Idx.norm_def, v62_eq W r2 e0 e1 h2 h0 h1]
    show nib W (0 + 1 * (i 0).val) (1 + 2 * (i 1).val) = _
    rw [Nat.zero_add, Nat.one_mul, Nat.add_comm 1]
  rw [val_main_v68_apply, val_main_v67_apply, val_main_v66_apply, ha, hb]
  exact pair_of _ _ _

include h2 h0 h1 in
theorem v69_eq (i : S4096x2x3072.Idx) : val_main_v69 (F := Ideal) r2 e0 e1 i = nib W (2 * (i 0).val + (i 1).val) (i 2).val := by
  have b0 : (i 0).val < 4096 := (i 0).isLt
  have b1 : (i 1).val < 2 := (i 1).isLt
  have b2 : (i 2).val < 3072 := (i 2).isLt
  rw [val_main_v69_apply, v62_eq W r2 e0 e1 h2 h0 h1]
  show nib W ((((i 0).val * 2 + (i 1).val) * 3072 + (i 2).val) / 3072) ((((i 0).val * 2 + (i 1).val) * 3072 + (i 2).val) % 3072) = _
  rw [show (((i 0).val * 2 + (i 1).val) * 3072 + (i 2).val) / 3072 = 2 * (i 0).val + (i 1).val by omega,
    show (((i 0).val * 2 + (i 1).val) * 3072 + (i 2).val) % 3072 = (i 2).val by omega]

include h2 h0 h1 in
theorem v78_eq (i : S3072x4096.Idx) : val_main_v78 (F := Ideal) r2 e0 e1 i = pairByte (nib W (2 * (i 1).val) (i 0).val) (nib W (2 * (i 1).val + 1) (i 0).val) := by
  have b0 : (i 0).val < 3072 := (i 0).isLt
  have b1 : (i 1).val < 4096 := (i 1).isLt
  rw [val_main_v78_apply, val_main_v77_apply, val_main_v76_apply, val_main_v75_apply, val_main_v71_apply, val_main_v70_apply, val_main_v73_apply,
    val_main_v72_apply, v69_eq W r2 e0 e1 h2 h0 h1, v69_eq W r2 e0 e1 h2 h0 h1]
  refine Eq.trans (pair_of _ _ _) ?_
  refine congrArg₂ pairByte ?_ ?_
  · refine congrArg₂ (nib W) ?_ ?_
    · show 2 * (((i 1).val * 3072 + (i 0).val) / 3072) + 0 = _
      omega
    · show ((i 1).val * 3072 + (i 0).val) % 3072 = _
      omega
  · refine congrArg₂ (nib W) ?_ ?_
    · show 2 * (((i 1).val * 3072 + (i 0).val) / 3072) + (0 + 1) = _
      omega
    · show ((i 1).val * 3072 + (i 0).val) % 3072 = _
      omega

include h2 h0 h1 in
theorem v87_eq (i : S8192x3072.Idx) : val_main_v87 (F := Ideal) r2 e0 e1 i = nib W (i 0).val (i 1).val := by
  have b0 : (i 0).val < 8192 := (i 0).isLt
  have b1 : (i 1).val < 3072 := (i 1).isLt
  have hb : ∀ j : S8192x1536.Idx, val_main_v79 (F := Ideal) r2 e0 e1 j
      = (pairByte (nib W (j 0).val (2 * (j 1).val)) (nib W (j 0).val (2 * (j 1).val + 1))).setWidth 32 := fun j => by
    rw [val_main_v79_apply, v68_eq W r2 e0 e1 h2 h0 h1]
  have key : ∀ y : S8192x1536x2.Idx, val_main_v86 (F := Ideal) r2 e0 e1 y = nib W (y 0).val (2 * (y 1).val + (y 2).val) := fun y => by
    have c0 : (y 0).val < 8192 := (y 0).isLt
    have c1 : (y 1).val < 1536 := (y 1).isLt
    have c2 : (y 2).val < 2 := (y 2).isLt
    unfold val_main_v86
    rcases (by omega : (y 2).val = 0 ∨ (y 2).val = 1) with hy | hy
    · have hL := concatenate_pair_apply_left (t := S8192x1536x2) (2 : Fin 3) (val_main_v84 (F := Ideal) r2 e0 e1) (val_main_v85 (F := Ideal) r2 e0 e1)
        concatenates_S8192x1536x1_S8192x1536x1_S8192x1536x2_d2 y rfl
        (fun a => match a with | ⟨0, _⟩ => ⟨(y 0).val, c0⟩ | ⟨1, _⟩ => ⟨(y 1).val, c1⟩ | ⟨2, _⟩ => ⟨0, Nat.one_pos⟩)
        (fun a => match a with | ⟨0, _⟩ => rfl | ⟨1, _⟩ => rfl | ⟨2, _⟩ => hy.symm)
      refine hL.trans ?_
      rw [val_main_v84_apply, val_main_v81_apply, hb]
      refine (pair_lo _ _ (nib_lt _ _) (nib_lt _ _)).trans ?_
      refine congrArg₂ (nib W) ?_ ?_
      · rfl
      · show 2 * (y 1).val = _
        omega
    · have hL := concatenate_pair_apply_right (t := S8192x1536x2) (2 : Fin 3) (val_main_v84 (F := Ideal) r2 e0 e1) (val_main_v85 (F := Ideal) r2 e0 e1)
        concatenates_S8192x1536x1_S8192x1536x1_S8192x1536x2_d2 y rfl rfl
        (fun a => match a with | ⟨0, _⟩ => ⟨(y 0).val, c0⟩ | ⟨1, _⟩ => ⟨(y 1).val, c1⟩ | ⟨2, _⟩ => ⟨0, Nat.one_pos⟩)
        (fun a => match a with | ⟨0, _⟩ => fun _ => rfl | ⟨1, _⟩ => fun _ => rfl | ⟨2, _⟩ => fun h => absurd rfl h)
        hy.symm
      refine hL.trans ?_
      rw [val_main_v85_apply, val_main_v83_apply, hb]
      refine (pair_hi _ _ (nib_lt _ _) (nib_lt _ _)).trans ?_
      refine congrArg₂ (nib W) ?_ ?_
      · rfl
      · show 2 * (y 1).val + 1 = _
        omega
  rw [val_main_v87_apply, key]
  refine congrArg₂ (nib W) ?_ ?_
  · show ((i 0).val * 3072 + (i 1).val) / 3072 = _
    omega
  · show 2 * (((i 0).val * 3072 + (i 1).val) / 2 % 1536) + ((i 0).val * 3072 + (i 1).val) % 2 = _
    omega

include h2 h0 h1 in
theorem v114_eq (i : S8192x3072.Idx) : val_main_v114 (F := Ideal) r2 e0 e1 i = qOf (wn W (i 0).val (i 1).val) (dOf W (i 0).val (i 1).val) := by
  have hn := v87_eq W r2 e0 e1 h2 h0 h1 i
  refine Eq.trans ?_ (refDecode_nib _ _)
  change _ = refDecode (nib W (i 0).val (i 1).val)
  generalize nib W (i 0).val (i 1).val = n at hn ⊢
  have e1' : val_main_v93 (F := Ideal) r2 e0 e1 i = hasBit n 1#32 := by
    rw [val_main_v93_apply, val_main_v91_apply, hn]; rfl
  have e2' : val_main_v97 (F := Ideal) r2 e0 e1 i = hasBit n 2#32 := by
    rw [val_main_v97_apply, val_main_v95_apply, hn]; rfl
  have e4' : val_main_v101 (F := Ideal) r2 e0 e1 i = hasBit n 4#32 := by
    rw [val_main_v101_apply, val_main_v99_apply, hn]; rfl
  have e8' : val_main_v105 (F := Ideal) r2 e0 e1 i = hasBit n 8#32 := by
    rw [val_main_v105_apply, val_main_v103_apply, hn]; rfl
  have hm : val_main_v112 (F := Ideal) r2 e0 e1 i = refMag n := by
    rw [val_main_v112_apply, val_main_v108_apply, val_main_v106_apply, val_main_v107_apply, val_main_v111_apply, val_main_v109_apply,
      val_main_v110_apply, e1', e2', e4']
    rfl
  rw [val_main_v114_apply, val_main_v113_apply, e8', hm]
  rfl

variable (r1 : FVec Ideal S512x192 .bf16) (hr : ∀ y, r1 y = sb W (y 0).val (y 1).val)

include h2 h0 h1 hr in
theorem v119_eq (i : S8192x3072.Idx) : val_main_v119 (F := Ideal) r1 r2 e0 e1 i = deq W (i 0).val (i 1).val := by
  have b0 : (i 0).val < 8192 := (i 0).isLt
  have b1 : (i 1).val < 3072 := (i 1).isLt
  rw [val_main_v119_apply, val_main_v118_apply, val_main_v115_apply, val_main_v117_apply, val_main_v116_apply, val_main_v89_apply, val_main_v88_apply,
    v114_eq W r2 e0 e1 h2 h0 h1, hr]
  unfold deq
  have hA : ((idx_main_v115 (idx_main_v119 i)) 0).val = (i 0).val := by
    show (((((i 0).val * 3072 + (i 1).val) / 49152) * 16 + ((i 0).val * 3072 + (i 1).val) / 3072 % 16) * 3072 + ((i 0).val * 3072 + (i 1).val) % 3072) / 3072 = _
    omega
  have hB : ((idx_main_v115 (idx_main_v119 i)) 1).val = (i 1).val := by
    show (((((i 0).val * 3072 + (i 1).val) / 49152) * 16 + ((i 0).val * 3072 + (i 1).val) / 3072 % 16) * 3072 + ((i 0).val * 3072 + (i 1).val) % 3072) % 3072 = _
    omega
  rw [hA, hB]
  refine congrArg (qOf (wn W (i 0).val (i 1).val) (dOf W (i 0).val (i 1).val) * ·) (congrArg₂ (sb W) ?_ ?_)
  · show ((((i 0).val * 3072 + (i 1).val) / 49152) * 3072 + ((i 0).val * 3072 + (i 1).val) % 3072) / 3072 = _
    omega
  · show ((((i 0).val * 3072 + (i 1).val) / 49152) * 3072 + ((i 0).val * 3072 + (i 1).val) % 3072) / 16 % 192 = _
    omega

include h2 h0 h1 hr in
/-- The product: a row of `x` against a row of the dequantised weight, times the tensor scale. -/
theorem v123_eq (x0 : FVec Ideal S12x768x3072 .bf16) (i : S12x768x8192.Idx) : val_main_v123 (F := Ideal) x0 r1 r2 e0 e1 i
    = (∑ k : Fin 3072, (x0 (lidx_main_v120 i k) : EReal) * deq W (i 2).val k.val) * st W := by
  have e : val_main_v123 (F := Ideal) x0 r1 r2 e0 e1 i = val_main_v122 (F := Ideal) x0 r1 r2 e0 e1 i := rfl
  rw [e, val_main_v122_apply, val_main_v121_apply, h0, val_main_v120_apply]
  refine congrArg (fun z : EReal => z * st W) (Finset.sum_congr rfl fun k _ => ?_)
  rw [v119_eq W r2 e0 e1 h2 h0 h1 r1 hr]

end Cert.ReferenceIdeal.Codes

end
-- ==== Proof.Value.RefFinal.lean ====
/- The reference's five results, element by element. -/
module

public import proofs.«01_k».proof.Proof.Gen.ReferenceIdeal.Run
public import proofs.«01_k».proof.Proof.Value.RefScale
public import proofs.«01_k».proof.Proof.Value.RefCodes

@[expose] public section

set_option maxRecDepth 16384

noncomputable section

namespace Cert.ReferenceIdeal.Value

open Cert.ReferenceIdeal Cert.ReferenceIdeal.Gen Cert.ReferenceIdeal.Read Cert.Spec
open Idealize.ShloMosaic Idealize.ShloMosaic.TcCoe

variable (m : (ℓ : Loc nD τ sig) → Buf (Elt Ideal) ℓ) (c : Dev nD)

/-- The activations as launched. -/
abbrev argA : S12x768x3072.Idx → EReal := m ((c.tc : Thread nD τ).loc main_arg0)

theorem ex0 (j : S_.Idx) : (exitV m c (Proc.devRef .tc main_v3) : FVec Ideal S_ .f32) j = st (argW m c) := st_eq m c j
theorem ex1 : (exitV m c (Proc.devRef .tc main_v0) : FVec Ideal S8192x3072 .f32) = argW m c := (exit_main_v0 m c).trans rfl
theorem ex2 (y : S512x192.Idx) : (exitV m c (Proc.devRef .tc main_v9_2) : FVec Ideal S512x192 .f32) y = sb (argW m c) (y 0).val (y 1).val :=
  (congrFun (exit_main_v9_2 m c) y).trans (reg2_eq m c y)
theorem exr (y : S512x192.Idx) : (exitV m c (Proc.devRef .tc main_v9_1) : FVec Ideal S512x192 .bf16) y = sb (argW m c) (y 0).val (y 1).val :=
  (congrFun (exit_main_v9_1 m c) y).trans (reg1_eq m c y)

theorem end_y (i : S12x768x8192.Idx) :
    val_main_v123 (F := Ideal) (exitV m c (Proc.devRef .tc main_arg0)) (exitV m c (Proc.devRef .tc main_v9_1)) (exitV m c (Proc.devRef .tc main_v9_2))
      (exitV m c (Proc.devRef .tc main_v3)) (exitV m c (Proc.devRef .tc main_v0)) i
    = (∑ k : Fin 3072, argA m c (ix3 (i 0) (i 1) k) * deq (argW m c) (i 2).val k.val) * st (argW m c) := by
  refine (Codes.v123_eq (argW m c) _ _ _ (ex2 m c) (ex0 m c) (ex1 m c) _ (exr m c) _ i).trans ?_
  refine congrArg (fun z : EReal => z * st (argW m c)) (Finset.sum_congr rfl fun k _ => ?_)
  refine congrArg (fun z : EReal => z * deq (argW m c) (i 2).val k.val) ?_
  refine (congrFun (exit_main_arg0 m c) (lidx_main_v120 i k)).trans ?_
  exact congrArg (m ((c.tc : Thread nD τ).loc main_arg0)) (funext fun a => match a with | ⟨0, _⟩ => rfl | ⟨1, _⟩ => rfl | ⟨2, _⟩ => rfl)

theorem end_ck (i : S8192x1536.Idx) :
    val_main_v68 (F := Ideal) (exitV m c (Proc.devRef .tc main_v9_2)) (exitV m c (Proc.devRef .tc main_v3)) (exitV m c (Proc.devRef .tc main_v0)) i
    = pairByte (nib (argW m c) (i 0).val (2 * (i 1).val)) (nib (argW m c) (i 0).val (2 * (i 1).val + 1)) :=
  Codes.v68_eq (argW m c) _ _ _ (ex2 m c) (ex0 m c) (ex1 m c) i

theorem end_cn (i : S3072x4096.Idx) :
    val_main_v78 (F := Ideal) (exitV m c (Proc.devRef .tc main_v9_2)) (exitV m c (Proc.devRef .tc main_v3)) (exitV m c (Proc.devRef .tc main_v0)) i
    = pairByte (nib (argW m c) (2 * (i 1).val) (i 0).val) (nib (argW m c) (2 * (i 1).val + 1) (i 0).val) :=
  Codes.v78_eq (argW m c) _ _ _ (ex2 m c) (ex0 m c) (ex1 m c) i

theorem end_st (i : S1.Idx) : val_main_v124 (F := Ideal) (exitV m c (Proc.devRef .tc main_v3)) i = st (argW m c) :=
  ex0 m c _

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Kern.Launch
public import proofs.«01_k».proof.Proof.Ideal.Launch
public import proofs.«01_k».proof.Proof.Value.Final
public import proofs.«01_k».proof.Proof.Value.RefFinal
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The kernel, on floats as bit patterns: it runs, leaves its arguments, and ends with every counter at zero. -/
theorem quiet_Kernel : quiescent_Kernel (hKernel := Cert.Kernel.Gen.facts) := fun m g _ =>
  (θ_run _ _ _).mono (fun _ h => ⟨fun c => ⟨(h.1 c Cert.Kernel.main_arg0 rfl).trans (Cert.Kernel.Run.W4_arg0 m c),
    (h.1 c Cert.Kernel.main_arg1 rfl).trans (Cert.Kernel.Run.W4_arg1 m c)⟩, h.2⟩) (Cert.Kernel.Run.run_main m g)

/-- The same of the kernel over the reals. -/
theorem quiet_KernelIdeal : quiescent_KernelIdeal (hKernelIdeal := Cert.KernelIdeal.Gen.facts) := fun m g _ =>
  (θ_run _ _ _).mono (fun _ h => ⟨fun c => ⟨(h.1 c Cert.KernelIdeal.main_arg0 rfl).trans (Cert.KernelIdeal.Run.W4_arg0 m c),
    (h.1 c Cert.KernelIdeal.main_arg1 rfl).trans (Cert.KernelIdeal.Run.W4_arg1 m c)⟩, h.2⟩) (Cert.KernelIdeal.Run.run_main m g)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hW : Cert.ReferenceIdeal.Value.argW m' c = Cert.KernelIdeal.Value.argW m c)
include hW

theorem same_y (hA : Cert.ReferenceIdeal.Value.argA m' c = Cert.KernelIdeal.Value.argA m c) (i : Cert.KernelIdeal.S12x768x8192.Idx) :
    Cert.ReferenceIdeal.Read.val_main_v123 (F := Ideal) (Cert.ReferenceIdeal.Value.exitV m' c (Proc.devRef .tc Cert.ReferenceIdeal.main_arg0))
      (Cert.ReferenceIdeal.Value.exitV m' c (Proc.devRef .tc Cert.ReferenceIdeal.main_v9_1))
      (Cert.ReferenceIdeal.Value.exitV m' c (Proc.devRef .tc Cert.ReferenceIdeal.main_v9_2))
      (Cert.ReferenceIdeal.Value.exitV m' c (Proc.devRef .tc Cert.ReferenceIdeal.main_v3))
      (Cert.ReferenceIdeal.Value.exitV m' c (Proc.devRef .tc Cert.ReferenceIdeal.main_v0)) i
    = (Cert.KernelIdeal.Run.W4 m c (Proc.devRef .tc Cert.KernelIdeal.main_v13) : FVec Ideal Cert.KernelIdeal.S12x768x8192 .bf16) i := by
  refine (Cert.ReferenceIdeal.Value.end_y m' c i).trans ?_
  rw [hA, hW]
  exact (Cert.KernelIdeal.Value.end_y m c i).symm

theorem same_ck (i : Cert.KernelIdeal.S8192x1536.Idx) :
    Cert.ReferenceIdeal.Read.val_main_v68 (F := Ideal) (Cert.ReferenceIdeal.Value.exitV m' c (Proc.devRef .tc Cert.ReferenceIdeal.main_v9_2))
      (Cert.ReferenceIdeal.Value.exitV m' c (Proc.devRef .tc Cert.ReferenceIdeal.main_v3))
      (Cert.ReferenceIdeal.Value.exitV m' c (Proc.devRef .tc Cert.ReferenceIdeal.main_v0)) i
    = (Cert.KernelIdeal.Run.W4 m c (Proc.devRef .tc Cert.KernelIdeal.main_v12_1) : IVec Cert.KernelIdeal.S8192x1536 8) i := by
  refine (Cert.ReferenceIdeal.Value.end_ck m' c i).trans ?_
  rw [hW]
  exact (Cert.KernelIdeal.Value.end_ck m c i).symm

theorem same_cn (i : Cert.KernelIdeal.S3072x4096.Idx) :
    Cert.ReferenceIdeal.Read.val_main_v78 (F := Ideal) (Cert.ReferenceIdeal.Value.exitV m' c (Proc.devRef .tc Cert.ReferenceIdeal.main_v9_2))
      (Cert.ReferenceIdeal.Value.exitV m' c (Proc.devRef .tc Cert.ReferenceIdeal.main_v3))
      (Cert.ReferenceIdeal.Value.exitV m' c (Proc.devRef .tc Cert.ReferenceIdeal.main_v0)) i
    = (Cert.KernelIdeal.Run.W4 m c (Proc.devRef .tc Cert.KernelIdeal.main_v12_2) : IVec Cert.KernelIdeal.S3072x4096 8) i := by
  refine (Cert.ReferenceIdeal.Value.end_cn m' c i).trans ?_
  rw [hW]
  exact (Cert.KernelIdeal.Value.end_cn m c i).symm

theorem same_sb (i : Cert.KernelIdeal.S512x192.Idx) : (Cert.ReferenceIdeal.Value.reg_main_v9_0 m' c : FVec Ideal Cert.KernelIdeal.S512x192 .fp8e4m3) i
    = (Cert.KernelIdeal.Run.W4 m c (Proc.devRef .tc Cert.KernelIdeal.main_v11_1) : FVec Ideal Cert.KernelIdeal.S512x192 .fp8e4m3) i := by
  refine (Cert.ReferenceIdeal.Value.reg0_eq m' c i).trans ?_
  rw [hW]
  exact (Cert.KernelIdeal.Value.end_sb m c i).symm

theorem same_st (i : Cert.KernelIdeal.S1.Idx) :
    Cert.ReferenceIdeal.Read.val_main_v124 (F := Ideal) (Cert.ReferenceIdeal.Value.exitV m' c (Proc.devRef .tc Cert.ReferenceIdeal.main_v3)) i
    = (Cert.KernelIdeal.Run.W4 m c (Proc.devRef .tc Cert.KernelIdeal.main_v14) : FVec Ideal Cert.KernelIdeal.S1 .f32) i := by
  refine (Cert.ReferenceIdeal.Value.end_st m' c i).trans ?_
  rw [hW]
  exact (Cert.KernelIdeal.Value.end_st m c i).symm

end

/-- Over the reals the kernel's five results are the reference's, element by element. -/
theorem same : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Run.W4 m c (Proc.devRef .tc Cert.KernelIdeal.main_v13), fun c => Cert.KernelIdeal.Run.W4 m c (Proc.devRef .tc Cert.KernelIdeal.main_v12_1),
    fun c => Cert.KernelIdeal.Run.W4 m c (Proc.devRef .tc Cert.KernelIdeal.main_v12_2), fun c => Cert.KernelIdeal.Run.W4 m c (Proc.devRef .tc Cert.KernelIdeal.main_v11_1),
    fun c => Cert.KernelIdeal.Run.W4 m c (Proc.devRef .tc Cert.KernelIdeal.main_v14), ?_, ?_⟩
  · refine (θ_run _ _ _).mono (fun _ h c => ?_) (Cert.KernelIdeal.Run.run_main m g)
    exact ⟨h.1 c Cert.KernelIdeal.main_v13 rfl, h.1 c Cert.KernelIdeal.main_v12_1 rfl, h.1 c Cert.KernelIdeal.main_v12_2 rfl,
      h.1 c Cert.KernelIdeal.main_v11_1 rfl, h.1 c Cert.KernelIdeal.main_v14 rfl,
      (h.1 c Cert.KernelIdeal.main_arg0 rfl).trans (Cert.KernelIdeal.Run.W4_arg0 m c),
      (h.1 c Cert.KernelIdeal.main_arg1 rfl).trans (Cert.KernelIdeal.Run.W4_arg1 m c)⟩
  · refine (θ_run _ _ _).mono (fun _ h c => ?_) (Cert.ReferenceIdeal.Value.run m' g')
    obtain ⟨r0, r1, r2, r3, r4, a0, a1⟩ := h c
    have hA : Cert.ReferenceIdeal.Value.argA m' c = Cert.KernelIdeal.Value.argA m c := (hargs c).1
    have hW : Cert.ReferenceIdeal.Value.argW m' c = Cert.KernelIdeal.Value.argW m c := (hargs c).2
    exact ⟨r0.trans ((Cert.ReferenceIdeal.Read.val_main_v123_eq _).trans (funext (same_y m m' c hW hA))),
      r1.trans ((Cert.ReferenceIdeal.Read.val_main_v68_eq _).trans (funext (same_ck m m' c hW))),
      r2.trans ((Cert.ReferenceIdeal.Read.val_main_v78_eq _).trans (funext (same_cn m m' c hW))),
      r3.trans (funext (same_sb m m' c hW)),
      r4.trans ((Cert.ReferenceIdeal.Read.val_main_v124_eq _).trans (funext (same_st m m' c hW))), a0, a1⟩

theorem claim : Cert.Claim := ⟨Cert.Kernel.Gen.facts, Cert.KernelIdeal.Gen.facts, Cert.ReferenceIdeal.Gen.facts,
  quiet_Kernel, quiet_KernelIdeal, fun m ρ _ => Cert.ReferenceIdeal.Gen.frame m ρ,
  ⟨IdealRules.bf16_pair.statement _ _, IdealRules.bf16_pack.statement _⟩, same⟩

end Cert.Proof

end
